-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S14x71x2x128 Cert.KernelIdeal.S14x71x1x128
  ∧ IdealRules.bf16_pair.BufferStatement Cert.KernelIdeal.S112x2x128 Cert.KernelIdeal.S112x1x128
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S1x2x128 Cert.KernelIdeal.S1x1x128
  ∧ IdealRules.bf16_pair.Statement Cert.KernelIdeal.S2x128 Cert.KernelIdeal.S1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_v105) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1664x14336 : Shape := ⟨3, ![1, 1664, 14336]⟩
abbrev S1x832x14336 : Shape := ⟨3, ![1, 832, 14336]⟩
abbrev S1x26x14336 : Shape := ⟨3, ![1, 26, 14336]⟩
abbrev S1456x256 : Shape := ⟨2, ![1456, 256]⟩
abbrev S1x1456 : Shape := ⟨2, ![1, 1456]⟩
abbrev S1x1 : Shape := ⟨2, ![1, 1]⟩
abbrev S1x64x14336 : Shape := ⟨3, ![1, 64, 14336]⟩
abbrev S1x32x14336 : Shape := ⟨3, ![1, 32, 14336]⟩
abbrev S14x71x128 : Shape := ⟨3, ![14, 71, 128]⟩
abbrev S3584x128 : Shape := ⟨2, ![3584, 128]⟩
abbrev S112x128 : Shape := ⟨2, ![112, 128]⟩
abbrev S1456x128 : Shape := ⟨2, ![1456, 128]⟩
abbrev S1x16x128 : Shape := ⟨3, ![1, 16, 128]⟩
abbrev S16x128 : Shape := ⟨2, ![16, 128]⟩
abbrev S8x128 : Shape := ⟨2, ![8, 128]⟩
abbrev S1x8x128 : Shape := ⟨3, ![1, 8, 128]⟩
abbrev S1x128 : Shape := ⟨2, ![1, 128]⟩
abbrev S2x128 : Shape := ⟨2, ![2, 128]⟩
abbrev S16x128x1 : Shape := ⟨3, ![16, 128, 1]⟩
abbrev S32x128 : Shape := ⟨2, ![32, 128]⟩
abbrev S1x32x128 : Shape := ⟨3, ![1, 32, 128]⟩
abbrev S1x2x128 : Shape := ⟨3, ![1, 2, 128]⟩
abbrev S1 : Shape := ⟨1, ![1]⟩
abbrev S1x1x1 : Shape := ⟨3, ![1, 1, 1]⟩
abbrev S8 : Shape := ⟨1, ![8]⟩
abbrev S8x1 : Shape := ⟨2, ![8, 1]⟩
abbrev S128x128 : Shape := ⟨2, ![128, 128]⟩
abbrev S128 : Shape := ⟨1, ![128]⟩
abbrev S48x128 : Shape := ⟨2, ![48, 128]⟩
abbrev S1x48 : Shape := ⟨2, ![1, 48]⟩

abbrev nBuf : Space → Nat
  | .hbm => 6
  | .vmem => 11
  | .smem => 1
  | _ => 0

abbrev bufTy : (tb : Table) → Fin (tcTables nBuf tb) → BufTy
  | .hbm, ⟨0, _⟩ => ⟨S1x1664x14336, .bf16⟩
  | .hbm, ⟨1, _⟩ => ⟨S1x832x14336, .i8⟩
  | .hbm, ⟨2, _⟩ => ⟨S1x26x14336, .f32⟩
  | .hbm, ⟨3, _⟩ => ⟨S1456x256, .i8⟩
  | .hbm, ⟨4, _⟩ => ⟨S1x1456, .f32⟩
  | .hbm, ⟨5, _⟩ => ⟨S1x1, .f32⟩
  | .local _ .vmem, ⟨0, _⟩ => ⟨S1x64x14336, .bf16⟩
  | .local _ .vmem, ⟨1, _⟩ => ⟨S1x64x14336, .bf16⟩
  | .local _ .vmem, ⟨2, _⟩ => ⟨S1x32x14336, .i8⟩
  | .local _ .vmem, ⟨3, _⟩ => ⟨S1x32x14336, .i8⟩
  | .local _ .vmem, ⟨4, _⟩ => ⟨S1x26x14336, .f32⟩
  | .local _ .vmem, ⟨5, _⟩ => ⟨S1456x256, .i8⟩
  | .local _ .vmem, ⟨6, _⟩ => ⟨S1x1456, .f32⟩
  | .local _ .vmem, ⟨7, _⟩ => ⟨S14x71x128, .i32⟩
  | .local _ .vmem, ⟨8, _⟩ => ⟨S3584x128, .f32⟩
  | .local _ .vmem, ⟨9, _⟩ => ⟨S112x128, .i32⟩
  | .local _ .vmem, ⟨10, _⟩ => ⟨S1456x128, .f32⟩
  | .local _ .smem, ⟨0, _⟩ => ⟨S1x1, .f32⟩
  | _, _ => ⟨S1x1664x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [BitOps F]

abbrev grid0 : Pipeline.Grid := ⟨1, ![26], ![false]⟩

@[reducible] def k0_t1_loop : Scf.Loop 32 :=
  let c0_i32 : BitVec 32 := 0#32
  let c14_i32 : BitVec 32 := 14#32
  let v1 : BitVec 32 := Scalar.addi c0_i32 c14_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let c0_i32_38 : BitVec 32 := 0#32
  let v83 : BitVec 32 := Scalar.addi v82 c0_i32_38
  let c128_i32 : BitVec 32 := 128#32
  let v84 : BitVec 32 := Scalar.muli v83 c128_i32
  v84
def k0_off1 (k0_t1 : Fin k0_t1_loop.trips) (c0_i32_38 : BitVec 32) : Fin 3 → Nat :=
  let c0 : Index := 0#32
  let c0_39 : Index := 0#32
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let v83 : BitVec 32 := Scalar.addi v82 c0_i32_38
  let c128_i32 : BitVec 32 := 128#32
  let v84 : BitVec 32 := Scalar.muli v83 c128_i32
  let v85 : BitVec 32 := v84
  let v86 : Index := Scalar.indexCast v85
  ![0, 0, v86.toNat]
def k0_off2 (k0_t1 : Fin k0_t1_loop.trips) (c0_i32_38 : BitVec 32) : Fin 3 → Nat :=
  let c0_40 : Index := 0#32
  let c16 : Index := 16#32
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let v83 : BitVec 32 := Scalar.addi v82 c0_i32_38
  let c128_i32 : BitVec 32 := 128#32
  let v84 : BitVec 32 := Scalar.muli v83 c128_i32
  let v85 : BitVec 32 := v84
  let v90 : Index := Scalar.indexCast v85
  ![0, 16, v90.toNat]
def k0_off3 (k0_t1 : Fin k0_t1_loop.trips) (c0_i32_38 : BitVec 32) : Fin 3 → Nat :=
  let c0_41 : Index := 0#32
  let c32 : Index := 32#32
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let v83 : BitVec 32 := Scalar.addi v82 c0_i32_38
  let c128_i32 : BitVec 32 := 128#32
  let v84 : BitVec 32 := Scalar.muli v83 c128_i32
  let v85 : BitVec 32 := v84
  let v95 : Index := Scalar.indexCast v85
  ![0, 32, v95.toNat]
def k0_off4 (k0_t1 : Fin k0_t1_loop.trips) (c0_i32_38 : BitVec 32) : Fin 3 → Nat :=
  let c0_42 : Index := 0#32
  let c48 : Index := 48#32
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let v83 : BitVec 32 := Scalar.addi v82 c0_i32_38
  let c128_i32 : BitVec 32 := 128#32
  let v84 : BitVec 32 := Scalar.muli v83 c128_i32
  let v85 : BitVec 32 := v84
  let v100 : Index := Scalar.indexCast v85
  ![0, 48, v100.toNat]
def k0_off5 (k0_t1 : Fin k0_t1_loop.trips) : Fin 3 → Nat :=
  let c0_i32 : BitVec 32 := 0#32
  let c1_i32 : BitVec 32 := 1#32
  let arg11 : BitVec 32 := Scf.iv c0_i32 c1_i32 k0_t1
  let v106 : Index := Scalar.indexCast arg11
  let c0_43 : Index := 0#32
  let c0_44 : Index := 0#32
  ![v106.toNat, 0, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_45 : BitVec 32 := 8#32
  let v110 : BitVec 32 := Scalar.muli arg11 c8_i32_45
  let c1_i32_46 : BitVec 32 := 1#32
  let v111 : BitVec 32 := Scalar.addi v110 c1_i32_46
  let c128_i32_47 : BitVec 32 := 128#32
  let v112 : BitVec 32 := Scalar.muli v111 c128_i32_47
  v112
def k0_off6 (k0_t1 : Fin k0_t1_loop.trips) : Fin 3 → Nat :=
  let c0_i32 : BitVec 32 := 0#32
  let c1_i32 : BitVec 32 := 1#32
  let arg11 : BitVec 32 := Scf.iv c0_i32 c1_i32 k0_t1
  let v134 : Index := Scalar.indexCast arg11
  let c1 : Index := 1#32
  let c0_56 : Index := 0#32
  ![v134.toNat, 1, 0]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_57 : BitVec 32 := 8#32
  let v138 : BitVec 32 := Scalar.muli arg11 c8_i32_57
  let c2_i32_58 : BitVec 32 := 2#32
  let v139 : BitVec 32 := Scalar.addi v138 c2_i32_58
  let c128_i32_59 : BitVec 32 := 128#32
  let v140 : BitVec 32 := Scalar.muli v139 c128_i32_59
  v140
def k0_off7 (k0_t1 : Fin k0_t1_loop.trips) : Fin 3 → Nat :=
  let c0_i32 : BitVec 32 := 0#32
  let c1_i32 : BitVec 32 := 1#32
  let arg11 : BitVec 32 := Scf.iv c0_i32 c1_i32 k0_t1
  let v162 : Index := Scalar.indexCast arg11
  let c2 : Index := 2#32
  let c0_68 : Index := 0#32
  ![v162.toNat, 2, 0]
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_69 : BitVec 32 := 8#32
  let v166 : BitVec 32 := Scalar.muli arg11 c8_i32_69
  let c3_i32_70 : BitVec 32 := 3#32
  let v167 : BitVec 32 := Scalar.addi v166 c3_i32_70
  let c128_i32_71 : BitVec 32 := 128#32
  let v168 : BitVec 32 := Scalar.muli v167 c128_i32_71
  v168
def k0_off8 (k0_t1 : Fin k0_t1_loop.trips) : Fin 3 → Nat :=
  let c0_i32 : BitVec 32 := 0#32
  let c1_i32 : BitVec 32 := 1#32
  let arg11 : BitVec 32 := Scf.iv c0_i32 c1_i32 k0_t1
  let v190 : Index := Scalar.indexCast arg11
  let c3 : Index := 3#32
  let c0_80 : Index := 0#32
  ![v190.toNat, 3, 0]
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_81 : BitVec 32 := 8#32
  let v194 : BitVec 32 := Scalar.muli arg11 c8_i32_81
  let c4_i32_82 : BitVec 32 := 4#32
  let v195 : BitVec 32 := Scalar.addi v194 c4_i32_82
  let c128_i32_83 : BitVec 32 := 128#32
  let v196 : BitVec 32 := Scalar.muli v195 c128_i32_83
  v196
def k0_off9 (k0_t1 : Fin k0_t1_loop.trips) : Fin 3 → Nat :=
  let c0_i32 : BitVec 32 := 0#32
  let c1_i32 : BitVec 32 := 1#32
  let arg11 : BitVec 32 := Scf.iv c0_i32 c1_i32 k0_t1
  let v218 : Index := Scalar.indexCast arg11
  let c4 : Index := 4#32
  let c0_92 : Index := 0#32
  ![v218.toNat, 4, 0]
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_93 : BitVec 32 := 8#32
  let v222 : BitVec 32 := Scalar.muli arg11 c8_i32_93
  let c5_i32_94 : BitVec 32 := 5#32
  let v223 : BitVec 32 := Scalar.addi v222 c5_i32_94
  let c128_i32_95 : BitVec 32 := 128#32
  let v224 : BitVec 32 := Scalar.muli v223 c128_i32_95
  v224
def k0_off10 (k0_t1 : Fin k0_t1_loop.trips) : Fin 3 → Nat :=
  let c0_i32 : BitVec 32 := 0#32
  let c1_i32 : BitVec 32 := 1#32
  let arg11 : BitVec 32 := Scf.iv c0_i32 c1_i32 k0_t1
  let v246 : Index := Scalar.indexCast arg11
  let c5 : Index := 5#32
  let c0_104 : Index := 0#32
  ![v246.toNat, 5, 0]
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_105 : BitVec 32 := 8#32
  let v250 : BitVec 32 := Scalar.muli arg11 c8_i32_105
  let c6_i32_106 : BitVec 32 := 6#32
  let v251 : BitVec 32 := Scalar.addi v250 c6_i32_106
  let c128_i32_107 : BitVec 32 := 128#32
  let v252 : BitVec 32 := Scalar.muli v251 c128_i32_107
  v252
def k0_off11 (k0_t1 : Fin k0_t1_loop.trips) : Fin 3 → Nat :=
  let c0_i32 : BitVec 32 := 0#32
  let c1_i32 : BitVec 32 := 1#32
  let arg11 : BitVec 32 := Scf.iv c0_i32 c1_i32 k0_t1
  let v274 : Index := Scalar.indexCast arg11
  let c6 : Index := 6#32
  let c0_116 : Index := 0#32
  ![v274.toNat, 6, 0]
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_117 : BitVec 32 := 8#32
  let v278 : BitVec 32 := Scalar.muli arg11 c8_i32_117
  let c7_i32_118 : BitVec 32 := 7#32
  let v279 : BitVec 32 := Scalar.addi v278 c7_i32_118
  let c128_i32_119 : BitVec 32 := 128#32
  let v280 : BitVec 32 := Scalar.muli v279 c128_i32_119
  v280
def k0_off12 (k0_t1 : Fin k0_t1_loop.trips) : Fin 3 → Nat :=
  let c0_i32 : BitVec 32 := 0#32
  let c1_i32 : BitVec 32 := 1#32
  let arg11 : BitVec 32 := Scf.iv c0_i32 c1_i32 k0_t1
  let v302 : Index := Scalar.indexCast arg11
  let c7 : Index := 7#32
  let c0_128 : Index := 0#32
  ![v302.toNat, 7, 0]
def k0_off13 (k0_t1 : Fin k0_t1_loop.trips) : Fin 3 → Nat :=
  let c0_i32 : BitVec 32 := 0#32
  let c1_i32 : BitVec 32 := 1#32
  let arg11 : BitVec 32 := Scf.iv c0_i32 c1_i32 k0_t1
  let v306 : Index := Scalar.indexCast arg11
  let c0_129 : Index := 0#32
  let c0_130 : Index := 0#32
  ![v306.toNat, 0, 0]
def k0_off14 (k0_t1 : Fin k0_t1_loop.trips) : Fin 3 → Nat :=
  let c0_i32 : BitVec 32 := 0#32
  let c1_i32 : BitVec 32 := 1#32
  let arg11 : BitVec 32 := Scf.iv c0_i32 c1_i32 k0_t1
  let v310 : Index := Scalar.indexCast arg11
  let c9 : Index := 9#32
  let c0_131 : Index := 0#32
  ![v310.toNat, 9, 0]
def k0_off15 (k0_t1 : Fin k0_t1_loop.trips) : Fin 3 → Nat :=
  let c0_i32 : BitVec 32 := 0#32
  let c1_i32 : BitVec 32 := 1#32
  let arg11 : BitVec 32 := Scf.iv c0_i32 c1_i32 k0_t1
  let v315 : Index := Scalar.indexCast arg11
  let c18 : Index := 18#32
  let c0_132 : Index := 0#32
  ![v315.toNat, 18, 0]
def k0_off16 (k0_t1 : Fin k0_t1_loop.trips) : Fin 3 → Nat :=
  let c0_i32 : BitVec 32 := 0#32
  let c1_i32 : BitVec 32 := 1#32
  let arg11 : BitVec 32 := Scf.iv c0_i32 c1_i32 k0_t1
  let v320 : Index := Scalar.indexCast arg11
  let c27 : Index := 27#32
  let c0_133 : Index := 0#32
  ![v320.toNat, 27, 0]
def k0_off17 (k0_t1 : Fin k0_t1_loop.trips) : Fin 3 → Nat :=
  let c0_i32 : BitVec 32 := 0#32
  let c1_i32 : BitVec 32 := 1#32
  let arg11 : BitVec 32 := Scf.iv c0_i32 c1_i32 k0_t1
  let v325 : Index := Scalar.indexCast arg11
  let c36 : Index := 36#32
  let c0_134 : Index := 0#32
  ![v325.toNat, 36, 0]
def k0_off18 (k0_t1 : Fin k0_t1_loop.trips) : Fin 3 → Nat :=
  let c0_i32 : BitVec 32 := 0#32
  let c1_i32 : BitVec 32 := 1#32
  let arg11 : BitVec 32 := Scf.iv c0_i32 c1_i32 k0_t1
  let v330 : Index := Scalar.indexCast arg11
  let c45 : Index := 45#32
  let c0_135 : Index := 0#32
  ![v330.toNat, 45, 0]
def k0_off19 (k0_t1 : Fin k0_t1_loop.trips) : Fin 3 → Nat :=
  let c0_i32 : BitVec 32 := 0#32
  let c1_i32 : BitVec 32 := 1#32
  let arg11 : BitVec 32 := Scf.iv c0_i32 c1_i32 k0_t1
  let v335 : Index := Scalar.indexCast arg11
  let c54 : Index := 54#32
  let c0_136 : Index := 0#32
  ![v335.toNat, 54, 0]
def k0_off20 (k0_t1 : Fin k0_t1_loop.trips) : Fin 3 → Nat :=
  let c0_i32 : BitVec 32 := 0#32
  let c1_i32 : BitVec 32 := 1#32
  let arg11 : BitVec 32 := Scf.iv c0_i32 c1_i32 k0_t1
  let v340 : Index := Scalar.indexCast arg11
  let c63 : Index := 63#32
  let c0_137 : Index := 0#32
  ![v340.toNat, 63, 0]
def k0_mult9 (i : grid0.Coords) (k0_t1 : Fin k0_t1_loop.trips) : BitVec 32 :=
  let arg0 : BitVec 32 := BitVec.ofNat 32 (i 0).val
  let c112_i32 : BitVec 32 := 112#32
  let v0 : BitVec 32 := Scalar.muli arg0 c112_i32
  let c0_i32 : BitVec 32 := 0#32
  let c1_i32 : BitVec 32 := 1#32
  let arg11 : BitVec 32 := Scf.iv c0_i32 c1_i32 k0_t1
  let c8_i32_138 : BitVec 32 := 8#32
  let v353 : BitVec 32 := Scalar.muli arg11 c8_i32_138
  let v354 : BitVec 32 := Scalar.addi v0 v353
  v354
def k0_off21 (i : grid0.Coords) (k0_t1 : Fin k0_t1_loop.trips) : Fin 2 → Nat :=
  let arg0 : BitVec 32 := BitVec.ofNat 32 (i 0).val
  let c112_i32 : BitVec 32 := 112#32
  let v0 : BitVec 32 := Scalar.muli arg0 c112_i32
  let c0_i32 : BitVec 32 := 0#32
  let c1_i32 : BitVec 32 := 1#32
  let arg11 : BitVec 32 := Scf.iv c0_i32 c1_i32 k0_t1
  let c8_i32_138 : BitVec 32 := 8#32
  let v353 : BitVec 32 := Scalar.muli arg11 c8_i32_138
  let v354 : BitVec 32 := Scalar.addi v0 v353
  let v355 : BitVec 32 := v354
  let v356 : Index := Scalar.indexCast v355
  let c0_139 : Index := 0#32
  ![v356.toNat, 0]
def k0_mult10 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_143 : BitVec 32 := 8#32
  let v367 : BitVec 32 := Scalar.muli arg11 c8_i32_143
  v367
def k0_off22 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32_143 : BitVec 32 := 8#32
  let v367 : BitVec 32 := Scalar.muli arg11 c8_i32_143
  let v368 : BitVec 32 := v367
  let v369 : Index := Scalar.indexCast v368
  let c0_144 : Index := 0#32
  ![v369.toNat, 0]
@[reducible] def k0_t2_loop : Scf.Loop 32 :=
  let c0_i32_26 : BitVec 32 := 0#32
  let c28_i32 : BitVec 32 := 28#32
  let v65 : BitVec 32 := Scalar.addi c0_i32_26 c28_i32
  let c1_i32_27 : BitVec 32 := 1#32
  ⟨c0_i32_26, v65, c1_i32_27⟩
def k0_mult11 (k0_t2 : Fin k0_t2_loop.trips) : BitVec 32 :=
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let c0_i32_38 : BitVec 32 := 0#32
  let v83 : BitVec 32 := Scalar.addi v82 c0_i32_38
  let c128_i32 : BitVec 32 := 128#32
  let v84 : BitVec 32 := Scalar.muli v83 c128_i32
  v84
def k0_off23 (i : grid0.Coords) (k0_t2 : Fin k0_t2_loop.trips) (c0_i32_38 : BitVec 32) : Fin 2 → Nat :=
  let arg0 : BitVec 32 := BitVec.ofNat 32 (i 0).val
  let c112_i32 : BitVec 32 := 112#32
  let v0 : BitVec 32 := Scalar.muli arg0 c112_i32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let v86 : BitVec 32 := Scalar.addi v0 v83
  let v87 : Index := Scalar.indexCast v86
  let c0 : Index := 0#32
  ![v87.toNat, 0]
def k0_off24 (k0_t2 : Fin k0_t2_loop.trips) (c0_i32_38 : BitVec 32) : Fin 2 → Nat :=
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let v91 : Index := Scalar.indexCast v83
  let c0_39 : Index := 0#32
  ![v91.toNat, 0]
def k0_off25 (k0_t2 : Fin k0_t2_loop.trips) (c0_i32_38 : BitVec 32) : Fin 3 → Nat :=
  let c0_42 : Index := 0#32
  let c0_43 : Index := 0#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v117 : Index := Scalar.indexCast v85
  ![0, 0, v117.toNat]
def k0_off26 (k0_t2 : Fin k0_t2_loop.trips) (c0_i32_38 : BitVec 32) : Fin 3 → Nat :=
  let c0_46 : Index := 0#32
  let c16 : Index := 16#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v138 : Index := Scalar.indexCast v85
  ![0, 16, v138.toNat]
def k0_off27 (k0_t2 : Fin k0_t2_loop.trips) (c0_i32_38 : BitVec 32) : Fin 3 → Nat :=
  let c0_53 : Index := 0#32
  let c32 : Index := 32#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v170 : Index := Scalar.indexCast v85
  ![0, 32, v170.toNat]
def k0_off28 (k0_t2 : Fin k0_t2_loop.trips) (c0_i32_38 : BitVec 32) : Fin 3 → Nat :=
  let c0_58 : Index := 0#32
  let c48 : Index := 48#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v191 : Index := Scalar.indexCast v85
  ![0, 48, v191.toNat]
def k0_off29 (k0_t2 : Fin k0_t2_loop.trips) (c0_i32_38 : BitVec 32) : Fin 3 → Nat :=
  let c0_66 : Index := 0#32
  let c0_67 : Index := 0#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v225 : Index := Scalar.indexCast v85
  ![0, 0, v225.toNat]
def k0_mult12 (k0_t2 : Fin k0_t2_loop.trips) : BitVec 32 :=
  let c0_i32_26 : BitVec 32 := 0#32
  let c1_i32_27 : BitVec 32 := 1#32
  let arg11 : BitVec 32 := Scf.iv c0_i32_26 c1_i32_27 k0_t2
  let c4_i32_68 : BitVec 32 := 4#32
  let v229 : BitVec 32 := Scalar.muli arg11 c4_i32_68
  let c1_i32_69 : BitVec 32 := 1#32
  let v230 : BitVec 32 := Scalar.addi v229 c1_i32_69
  let c128_i32_70 : BitVec 32 := 128#32
  let v231 : BitVec 32 := Scalar.muli v230 c128_i32_70
  v231
def k0_mult13 (k0_t2 : Fin k0_t2_loop.trips) : BitVec 32 :=
  let c0_i32_26 : BitVec 32 := 0#32
  let c1_i32_27 : BitVec 32 := 1#32
  let arg11 : BitVec 32 := Scf.iv c0_i32_26 c1_i32_27 k0_t2
  let c4_i32_107 : BitVec 32 := 4#32
  let v376 : BitVec 32 := Scalar.muli arg11 c4_i32_107
  let c2_i32_108 : BitVec 32 := 2#32
  let v377 : BitVec 32 := Scalar.addi v376 c2_i32_108
  let c128_i32_109 : BitVec 32 := 128#32
  let v378 : BitVec 32 := Scalar.muli v377 c128_i32_109
  v378
def k0_mult14 (k0_t2 : Fin k0_t2_loop.trips) : BitVec 32 :=
  let c0_i32_26 : BitVec 32 := 0#32
  let c1_i32_27 : BitVec 32 := 1#32
  let arg11 : BitVec 32 := Scf.iv c0_i32_26 c1_i32_27 k0_t2
  let c4_i32_146 : BitVec 32 := 4#32
  let v523 : BitVec 32 := Scalar.muli arg11 c4_i32_146
  let c3_i32_147 : BitVec 32 := 3#32
  let v524 : BitVec 32 := Scalar.addi v523 c3_i32_147
  let c128_i32_148 : BitVec 32 := 128#32
  let v525 : BitVec 32 := Scalar.muli v524 c128_i32_148
  v525
def k0_cond1 (i : grid0.Coords) : BitVec 1 :=
  let arg0 : BitVec 32 := BitVec.ofNat 32 (i 0).val
  let c8_i32 : BitVec 32 := 8#32
  let c0_i32_29 : BitVec 32 := 0#32
  let v66 : BitVec 1 := Scalar.cmpi .eq c8_i32 c0_i32_29
  let c1_i32_30 : BitVec 32 := 1#32
  let v67 : BitVec 32 := Scalar.select v66 c1_i32_30 c8_i32
  let v68 : BitVec 32 := Scalar.remsi arg0 v67
  let c0_i32_32 : BitVec 32 := 0#32
  let v70 : BitVec 1 := Scalar.cmpi .slt v68 c0_i32_32
  let c0_i32_33 : BitVec 32 := 0#32
  let v71 : BitVec 1 := Scalar.cmpi .slt v67 c0_i32_33
  let v72 : BitVec 1 := Scalar.xori v70 v71
  let c0_i32_31 : BitVec 32 := 0#32
  let v69 : BitVec 1 := Scalar.cmpi .ne v68 c0_i32_31
  let v73 : BitVec 1 := Scalar.andi v72 v69
  let v74 : BitVec 32 := Scalar.addi v68 v67
  let v75 : BitVec 32 := Scalar.select v73 v74 v68
  let c7_i32_34 : BitVec 32 := 7#32
  let v76 : BitVec 1 := Scalar.cmpi .eq v75 c7_i32_34
  let v77 : BitVec 32 := Scalar.extui v76
  let c0_i32_35 : BitVec 32 := 0#32
  let v78 : BitVec 1 := Scalar.cmpi .ne v77 c0_i32_35
  v78

def k0_mult15 (i : grid0.Coords) : BitVec 32 :=
  let arg0 : BitVec 32 := BitVec.ofNat 32 (i 0).val
  let c7_i32_37 : BitVec 32 := 7#32
  let v82 : BitVec 32 := Scalar.subi arg0 c7_i32_37
  v82
@[reducible] def k0_t3_loop : Scf.Loop 32 :=
  let c0_i32_38 : BitVec 32 := 0#32
  let c112_i32_39 : BitVec 32 := 112#32
  let v84 : BitVec 32 := Scalar.addi c0_i32_38 c112_i32_39
  let c1_i32_40 : BitVec 32 := 1#32
  ⟨c0_i32_38, v84, c1_i32_40⟩
def k0_off30 (i : grid0.Coords) (k0_t3 : Fin k0_t3_loop.trips) : Fin 2 → Nat :=
  let arg0 : BitVec 32 := BitVec.ofNat 32 (i 0).val
  let c7_i32_37 : BitVec 32 := 7#32
  let v82 : BitVec 32 := Scalar.subi arg0 c7_i32_37
  let v83 : BitVec 32 := v82
  let c112_i32_42 : BitVec 32 := 112#32
  let v85 : BitVec 32 := Scalar.muli v83 c112_i32_42
  let c0_i32_38 : BitVec 32 := 0#32
  let c1_i32_40 : BitVec 32 := 1#32
  let arg11 : BitVec 32 := Scf.iv c0_i32_38 c1_i32_40 k0_t3
  let v86 : BitVec 32 := Scalar.addi v85 arg11
  let v87 : Index := Scalar.indexCast v86
  let c0 : Index := 0#32
  ![v87.toNat, 0]
def k0_mult16 (k0_t3 : Fin k0_t3_loop.trips) : BitVec 32 :=
  let c0_i32_38 : BitVec 32 := 0#32
  let c1_i32_40 : BitVec 32 := 1#32
  let arg11 : BitVec 32 := Scf.iv c0_i32_38 c1_i32_40 k0_t3
  let c128_i32 : BitVec 32 := 128#32
  let v89 : BitVec 32 := Scalar.muli arg11 c128_i32
  v89
def k0_off31 (i : grid0.Coords) (k0_t3 : Fin k0_t3_loop.trips) : Fin 3 → Nat :=
  let c0_43 : Index := 0#32
  let arg0 : BitVec 32 := BitVec.ofNat 32 (i 0).val
  let c7_i32_37 : BitVec 32 := 7#32
  let v82 : BitVec 32 := Scalar.subi arg0 c7_i32_37
  let v83 : BitVec 32 := v82
  let v91 : Index := Scalar.indexCast v83
  let c0_i32_38 : BitVec 32 := 0#32
  let c1_i32_40 : BitVec 32 := 1#32
  let arg11 : BitVec 32 := Scf.iv c0_i32_38 c1_i32_40 k0_t3
  let c128_i32 : BitVec 32 := 128#32
  let v89 : BitVec 32 := Scalar.muli arg11 c128_i32
  let v90 : BitVec 32 := v89
  let v92 : Index := Scalar.indexCast v90
  ![0, v91.toNat, v92.toNat]
def k0_cond2 (i : grid0.Coords) : BitVec 1 :=
  let arg0 : BitVec 32 := BitVec.ofNat 32 (i 0).val
  let c25_i32 : BitVec 32 := 25#32
  let v79 : BitVec 1 := Scalar.cmpi .eq arg0 c25_i32
  let v80 : BitVec 32 := Scalar.extui v79
  let c0_i32_36 : BitVec 32 := 0#32
  let v81 : BitVec 1 := Scalar.cmpi .ne v80 c0_i32_36
  v81

@[reducible] def k0_t4_loop : Scf.Loop 32 :=
  let c0_i32_37 : BitVec 32 := 0#32
  let c112_i32_38 : BitVec 32 := 112#32
  let v82 : BitVec 32 := Scalar.addi c0_i32_37 c112_i32_38
  let c1_i32_39 : BitVec 32 := 1#32
  ⟨c0_i32_37, v82, c1_i32_39⟩
def k0_off32 (k0_t4 : Fin k0_t4_loop.trips) : Fin 2 → Nat :=
  let c2688_i32 : BitVec 32 := 2688#32
  let c0_i32_37 : BitVec 32 := 0#32
  let c1_i32_39 : BitVec 32 := 1#32
  let arg11 : BitVec 32 := Scf.iv c0_i32_37 c1_i32_39 k0_t4
  let v259 : BitVec 32 := Scalar.addi c2688_i32 arg11
  let v260 : Index := Scalar.indexCast v259
  let c0_136 : Index := 0#32
  ![v260.toNat, 0]
def k0_mult17 (k0_t4 : Fin k0_t4_loop.trips) : BitVec 32 :=
  let c0_i32_37 : BitVec 32 := 0#32
  let c1_i32_39 : BitVec 32 := 1#32
  let arg11 : BitVec 32 := Scf.iv c0_i32_37 c1_i32_39 k0_t4
  let c128_i32 : BitVec 32 := 128#32
  let v262 : BitVec 32 := Scalar.muli arg11 c128_i32
  v262
def k0_off33 (k0_t4 : Fin k0_t4_loop.trips) : Fin 3 → Nat :=
  let c0_137 : Index := 0#32
  let c24 : Index := 24#32
  let c0_i32_37 : BitVec 32 := 0#32
  let c1_i32_39 : BitVec 32 := 1#32
  let arg11 : BitVec 32 := Scf.iv c0_i32_37 c1_i32_39 k0_t4
  let c128_i32 : BitVec 32 := 128#32
  let v262 : BitVec 32 := Scalar.muli arg11 c128_i32
  let v263 : BitVec 32 := v262
  let v265 : Index := Scalar.indexCast v263
  ![0, 24, v265.toNat]
@[reducible] def k0_t5_loop : Scf.Loop 32 :=
  let c0_i32_42 : BitVec 32 := 0#32
  let c91_i32 : BitVec 32 := 91#32
  let v84 : BitVec 32 := Scalar.addi c0_i32_42 c91_i32
  let c1_i32_43 : BitVec 32 := 1#32
  ⟨c0_i32_42, v84, c1_i32_43⟩
def k0_mult18 (k0_t5 : Fin k0_t5_loop.trips) : BitVec 32 :=
  let c0_i32_42 : BitVec 32 := 0#32
  let c1_i32_43 : BitVec 32 := 1#32
  let arg11 : BitVec 32 := Scf.iv c0_i32_42 c1_i32_43 k0_t5
  let c4_i32_136 : BitVec 32 := 4#32
  let v259 : BitVec 32 := Scalar.muli arg11 c4_i32_136
  let c0_i32_137 : BitVec 32 := 0#32
  let v260 : BitVec 32 := Scalar.addi v259 c0_i32_137
  let c8_i32_138 : BitVec 32 := 8#32
  let v261 : BitVec 32 := Scalar.muli v260 c8_i32_138
  v261
def k0_off34 (k0_t5 : Fin k0_t5_loop.trips) (c0_i32_137 : BitVec 32) : Fin 2 → Nat :=
  let c0_i32_42 : BitVec 32 := 0#32
  let c1_i32_43 : BitVec 32 := 1#32
  let arg11 : BitVec 32 := Scf.iv c0_i32_42 c1_i32_43 k0_t5
  let c4_i32_136 : BitVec 32 := 4#32
  let v259 : BitVec 32 := Scalar.muli arg11 c4_i32_136
  let v260 : BitVec 32 := Scalar.addi v259 c0_i32_137
  let c8_i32_138 : BitVec 32 := 8#32
  let v261 : BitVec 32 := Scalar.muli v260 c8_i32_138
  let v262 : BitVec 32 := v261
  let v263 : Index := Scalar.indexCast v262
  let c0_139 : Index := 0#32
  ![v263.toNat, 0]
def k0_mult19 (k0_t5 : Fin k0_t5_loop.trips) : BitVec 32 :=
  let c0_i32_42 : BitVec 32 := 0#32
  let c1_i32_43 : BitVec 32 := 1#32
  let arg11 : BitVec 32 := Scf.iv c0_i32_42 c1_i32_43 k0_t5
  let c4_i32_140 : BitVec 32 := 4#32
  let v266 : BitVec 32 := Scalar.muli arg11 c4_i32_140
  let c1_i32_141 : BitVec 32 := 1#32
  let v267 : BitVec 32 := Scalar.addi v266 c1_i32_141
  let c8_i32_142 : BitVec 32 := 8#32
  let v268 : BitVec 32 := Scalar.muli v267 c8_i32_142
  v268
def k0_mult20 (k0_t5 : Fin k0_t5_loop.trips) : BitVec 32 :=
  let c0_i32_42 : BitVec 32 := 0#32
  let c1_i32_43 : BitVec 32 := 1#32
  let arg11 : BitVec 32 := Scf.iv c0_i32_42 c1_i32_43 k0_t5
  let c4_i32_144 : BitVec 32 := 4#32
  let v273 : BitVec 32 := Scalar.muli arg11 c4_i32_144
  let c2_i32_145 : BitVec 32 := 2#32
  let v274 : BitVec 32 := Scalar.addi v273 c2_i32_145
  let c8_i32_146 : BitVec 32 := 8#32
  let v275 : BitVec 32 := Scalar.muli v274 c8_i32_146
  v275
def k0_mult21 (k0_t5 : Fin k0_t5_loop.trips) : BitVec 32 :=
  let c0_i32_42 : BitVec 32 := 0#32
  let c1_i32_43 : BitVec 32 := 1#32
  let arg11 : BitVec 32 := Scf.iv c0_i32_42 c1_i32_43 k0_t5
  let c4_i32_148 : BitVec 32 := 4#32
  let v280 : BitVec 32 := Scalar.muli arg11 c4_i32_148
  let c3_i32_149 : BitVec 32 := 3#32
  let v281 : BitVec 32 := Scalar.addi v280 c3_i32_149
  let c8_i32_150 : BitVec 32 := 8#32
  let v282 : BitVec 32 := Scalar.muli v281 c8_i32_150
  v282
@[reducible] def k0_t6_loop : Scf.Loop 32 :=
  let c0_i32_48 : BitVec 32 := 0#32
  let c45_i32 : BitVec 32 := 45#32
  let v95 : BitVec 32 := Scalar.addi c0_i32_48 c45_i32
  let c1_i32_49 : BitVec 32 := 1#32
  ⟨c0_i32_48, v95, c1_i32_49⟩
def k0_mult22 (k0_t6 : Fin k0_t6_loop.trips) : BitVec 32 :=
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  v259
def k0_off35 (k0_t6 : Fin k0_t6_loop.trips) (c0_i32_136 : BitVec 32) : Fin 2 → Nat :=
  let c2_i32_137 : BitVec 32 := 2#32
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v261 : BitVec 32 := Scalar.addi v260 c0_i32_136
  let v262 : BitVec 32 := Scalar.muli c2_i32_137 v261
  let v263 : Index := Scalar.indexCast v262
  let c0_138 : Index := 0#32
  ![v263.toNat, 0]
def k0_off36 (k0_t6 : Fin k0_t6_loop.trips) (c0_i32_136 : BitVec 32) : Fin 2 → Nat :=
  let c2_i32_139 : BitVec 32 := 2#32
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v261 : BitVec 32 := Scalar.addi v260 c0_i32_136
  let v267 : BitVec 32 := Scalar.muli c2_i32_139 v261
  let c1_i32_140 : BitVec 32 := 1#32
  let v268 : BitVec 32 := Scalar.addi v267 c1_i32_140
  let v269 : Index := Scalar.indexCast v268
  let c0_141 : Index := 0#32
  ![v269.toNat, 0]
def k0_off37 (k0_t6 : Fin k0_t6_loop.trips) (c0_i32_136 : BitVec 32) : Fin 2 → Nat :=
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v261 : BitVec 32 := Scalar.addi v260 c0_i32_136
  let v286 : Index := Scalar.indexCast v261
  let c0_146 : Index := 0#32
  ![v286.toNat, 0]
def k0_off38 (k0_t6 : Fin k0_t6_loop.trips) : Fin 2 → Nat :=
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v451 : Index := Scalar.indexCast v260
  let c0_194 : Index := 0#32
  ![v451.toNat, 0]
def k0_off39 (k0_t6 : Fin k0_t6_loop.trips) : Fin 2 → Nat :=
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v455 : Index := Scalar.indexCast v260
  let c128_195 : Index := 128#32
  ![v455.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x14336 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x26x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1456x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
abbrev S1x1664x14336 : Shape := ⟨3, ![1, 1664, 14336]⟩
abbrev S1x832x14336 : Shape := ⟨3, ![1, 832, 14336]⟩
abbrev S1x26x14336 : Shape := ⟨3, ![1, 26, 14336]⟩
abbrev S1456x256 : Shape := ⟨2, ![1456, 256]⟩
abbrev S1x1456 : Shape := ⟨2, ![1, 1456]⟩
abbrev S1x1 : Shape := ⟨2, ![1, 1]⟩
abbrev S1x64x14336 : Shape := ⟨3, ![1, 64, 14336]⟩
abbrev S1x32x14336 : Shape := ⟨3, ![1, 32, 14336]⟩
abbrev S14x71x128 : Shape := ⟨3, ![14, 71, 128]⟩
abbrev S14x71x2x128 : Shape := ⟨4, ![14, 71, 2, 128]⟩
abbrev S14x71x1x128 : Shape := ⟨4, ![14, 71, 1, 128]⟩
abbrev S3584x128 : Shape := ⟨2, ![3584, 128]⟩
abbrev S112x128 : Shape := ⟨2, ![112, 128]⟩
abbrev S112x2x128 : Shape := ⟨3, ![112, 2, 128]⟩
abbrev S112x1x128 : Shape := ⟨3, ![112, 1, 128]⟩
abbrev S1456x128 : Shape := ⟨2, ![1456, 128]⟩
abbrev S1x16x128 : Shape := ⟨3, ![1, 16, 128]⟩
abbrev S16x128 : Shape := ⟨2, ![16, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S8x2x128 : Shape := ⟨3, ![8, 2, 128]⟩
abbrev S8x1x128 : Shape := ⟨3, ![8, 1, 128]⟩
abbrev S1x128 : Shape := ⟨2, ![1, 128]⟩
abbrev S1x2x128 : Shape := ⟨3, ![1, 2, 128]⟩
abbrev S1x1x128 : Shape := ⟨3, ![1, 1, 128]⟩
abbrev S2x128 : Shape := ⟨2, ![2, 128]⟩
abbrev S16x128x1 : Shape := ⟨3, ![16, 128, 1]⟩
abbrev S32x128 : Shape := ⟨2, ![32, 128]⟩
abbrev S1x32x128 : Shape := ⟨3, ![1, 32, 128]⟩
abbrev S1 : Shape := ⟨1, ![1]⟩
abbrev S1x1x1 : Shape := ⟨3, ![1, 1, 1]⟩
abbrev S8 : Shape := ⟨1, ![8]⟩
abbrev S8x1 : Shape := ⟨2, ![8, 1]⟩
abbrev S128x128 : Shape := ⟨2, ![128, 128]⟩
abbrev S128 : Shape := ⟨1, ![128]⟩
abbrev S48x128 : Shape := ⟨2, ![48, 128]⟩
abbrev S1x48 : Shape := ⟨2, ![1, 48]⟩

abbrev nBuf : Space → Nat
  | .hbm => 6
  | .vmem => 11
  | .smem => 1
  | _ => 0

abbrev bufTy : (tb : Table) → Fin (tcTables nBuf tb) → BufTy
  | .hbm, ⟨0, _⟩ => ⟨S1x1664x14336, .bf16⟩
  | .hbm, ⟨1, _⟩ => ⟨S1x832x14336, .i8⟩
  | .hbm, ⟨2, _⟩ => ⟨S1x26x14336, .f32⟩
  | .hbm, ⟨3, _⟩ => ⟨S1456x256, .i8⟩
  | .hbm, ⟨4, _⟩ => ⟨S1x1456, .f32⟩
  | .hbm, ⟨5, _⟩ => ⟨S1x1, .f32⟩
  | .local _ .vmem, ⟨0, _⟩ => ⟨S1x64x14336, .bf16⟩
  | .local _ .vmem, ⟨1, _⟩ => ⟨S1x64x14336, .bf16⟩
  | .local _ .vmem, ⟨2, _⟩ => ⟨S1x32x14336, .i8⟩
  | .local _ .vmem, ⟨3, _⟩ => ⟨S1x32x14336, .i8⟩
  | .local _ .vmem, ⟨4, _⟩ => ⟨S1x26x14336, .f32⟩
  | .local _ .vmem, ⟨5, _⟩ => ⟨S1456x256, .i8⟩
  | .local _ .vmem, ⟨6, _⟩ => ⟨S1x1456, .f32⟩
  | .local _ .vmem, ⟨7, _⟩ => ⟨S14x71x2x128, .bf16⟩
  | .local _ .vmem, ⟨8, _⟩ => ⟨S3584x128, .f32⟩
  | .local _ .vmem, ⟨9, _⟩ => ⟨S112x2x128, .bf16⟩
  | .local _ .vmem, ⟨10, _⟩ => ⟨S1456x128, .f32⟩
  | .local _ .smem, ⟨0, _⟩ => ⟨S1x1, .f32⟩
  | _, _ => ⟨S1x1664x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![26], ![false]⟩

@[reducible] def k0_t1_loop : Scf.Loop 32 :=
  let c0_i32 : BitVec 32 := 0#32
  let c14_i32 : BitVec 32 := 14#32
  let v1 : BitVec 32 := Scalar.addi c0_i32 c14_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let c0_i32_38 : BitVec 32 := 0#32
  let v83 : BitVec 32 := Scalar.addi v82 c0_i32_38
  let c128_i32 : BitVec 32 := 128#32
  let v84 : BitVec 32 := Scalar.muli v83 c128_i32
  v84
def k0_off1 (k0_t1 : Fin k0_t1_loop.trips) (c0_i32_38 : BitVec 32) : Fin 3 → Nat :=
  let c0 : Index := 0#32
  let c0_39 : Index := 0#32
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let v83 : BitVec 32 := Scalar.addi v82 c0_i32_38
  let c128_i32 : BitVec 32 := 128#32
  let v84 : BitVec 32 := Scalar.muli v83 c128_i32
  let v85 : BitVec 32 := v84
  let v86 : Index := Scalar.indexCast v85
  ![0, 0, v86.toNat]
def k0_off2 (k0_t1 : Fin k0_t1_loop.trips) (c0_i32_38 : BitVec 32) : Fin 3 → Nat :=
  let c0_40 : Index := 0#32
  let c16 : Index := 16#32
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let v83 : BitVec 32 := Scalar.addi v82 c0_i32_38
  let c128_i32 : BitVec 32 := 128#32
  let v84 : BitVec 32 := Scalar.muli v83 c128_i32
  let v85 : BitVec 32 := v84
  let v90 : Index := Scalar.indexCast v85
  ![0, 16, v90.toNat]
def k0_off3 (k0_t1 : Fin k0_t1_loop.trips) (c0_i32_38 : BitVec 32) : Fin 3 → Nat :=
  let c0_41 : Index := 0#32
  let c32 : Index := 32#32
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let v83 : BitVec 32 := Scalar.addi v82 c0_i32_38
  let c128_i32 : BitVec 32 := 128#32
  let v84 : BitVec 32 := Scalar.muli v83 c128_i32
  let v85 : BitVec 32 := v84
  let v95 : Index := Scalar.indexCast v85
  ![0, 32, v95.toNat]
def k0_off4 (k0_t1 : Fin k0_t1_loop.trips) (c0_i32_38 : BitVec 32) : Fin 3 → Nat :=
  let c0_42 : Index := 0#32
  let c48 : Index := 48#32
  let c0_i32 : BitVec 32 := 0#32
  let c1_i32 : BitVec 32 := 1#32
  let arg11 : BitVec 32 := Scf.iv c0_i32 c1_i32 k0_t1
  let c8_i32_37 : BitVec 32 := 8#32
  let v82 : BitVec 32 := Scalar.muli arg11 c8_i32_37
  let v83 : BitVec 32 := Scalar.addi v82 c0_i32_38
  let c128_i32 : BitVec 32 := 128#32
  let v84 : BitVec 32 := Scalar.muli v83 c128_i32
  let v85 : BitVec 32 := v84
  let v100 : Index := Scalar.indexCast v85
  ![0, 48, v100.toNat]
def k0_off5 (k0_t1 : Fin k0_t1_loop.trips) : Fin 4 → Nat :=
  let c0_i32 : BitVec 32 := 0#32
  let c1_i32 : BitVec 32 := 1#32
  let arg11 : BitVec 32 := Scf.iv c0_i32 c1_i32 k0_t1
  let v106 : Index := Scalar.indexCast arg11
  let c0_43 : Index := 0#32
  let c0_44 : Index := 0#32
  ![v106.toNat, 0, 0, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_45 : BitVec 32 := 8#32
  let v110 : BitVec 32 := Scalar.muli arg11 c8_i32_45
  let c1_i32_46 : BitVec 32 := 1#32
  let v111 : BitVec 32 := Scalar.addi v110 c1_i32_46
  let c128_i32_47 : BitVec 32 := 128#32
  let v112 : BitVec 32 := Scalar.muli v111 c128_i32_47
  v112
def k0_off6 (k0_t1 : Fin k0_t1_loop.trips) : Fin 4 → Nat :=
  let c0_i32 : BitVec 32 := 0#32
  let c1_i32 : BitVec 32 := 1#32
  let arg11 : BitVec 32 := Scf.iv c0_i32 c1_i32 k0_t1
  let v134 : Index := Scalar.indexCast arg11
  let c1 : Index := 1#32
  let c0_56 : Index := 0#32
  ![v134.toNat, 1, 0, 0]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_57 : BitVec 32 := 8#32
  let v138 : BitVec 32 := Scalar.muli arg11 c8_i32_57
  let c2_i32_58 : BitVec 32 := 2#32
  let v139 : BitVec 32 := Scalar.addi v138 c2_i32_58
  let c128_i32_59 : BitVec 32 := 128#32
  let v140 : BitVec 32 := Scalar.muli v139 c128_i32_59
  v140
def k0_off7 (k0_t1 : Fin k0_t1_loop.trips) : Fin 4 → Nat :=
  let c0_i32 : BitVec 32 := 0#32
  let c1_i32 : BitVec 32 := 1#32
  let arg11 : BitVec 32 := Scf.iv c0_i32 c1_i32 k0_t1
  let v162 : Index := Scalar.indexCast arg11
  let c2 : Index := 2#32
  let c0_68 : Index := 0#32
  ![v162.toNat, 2, 0, 0]
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_69 : BitVec 32 := 8#32
  let v166 : BitVec 32 := Scalar.muli arg11 c8_i32_69
  let c3_i32_70 : BitVec 32 := 3#32
  let v167 : BitVec 32 := Scalar.addi v166 c3_i32_70
  let c128_i32_71 : BitVec 32 := 128#32
  let v168 : BitVec 32 := Scalar.muli v167 c128_i32_71
  v168
def k0_off8 (k0_t1 : Fin k0_t1_loop.trips) : Fin 4 → Nat :=
  let c0_i32 : BitVec 32 := 0#32
  let c1_i32 : BitVec 32 := 1#32
  let arg11 : BitVec 32 := Scf.iv c0_i32 c1_i32 k0_t1
  let v190 : Index := Scalar.indexCast arg11
  let c3 : Index := 3#32
  let c0_80 : Index := 0#32
  ![v190.toNat, 3, 0, 0]
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_81 : BitVec 32 := 8#32
  let v194 : BitVec 32 := Scalar.muli arg11 c8_i32_81
  let c4_i32_82 : BitVec 32 := 4#32
  let v195 : BitVec 32 := Scalar.addi v194 c4_i32_82
  let c128_i32_83 : BitVec 32 := 128#32
  let v196 : BitVec 32 := Scalar.muli v195 c128_i32_83
  v196
def k0_off9 (k0_t1 : Fin k0_t1_loop.trips) : Fin 4 → Nat :=
  let c0_i32 : BitVec 32 := 0#32
  let c1_i32 : BitVec 32 := 1#32
  let arg11 : BitVec 32 := Scf.iv c0_i32 c1_i32 k0_t1
  let v218 : Index := Scalar.indexCast arg11
  let c4 : Index := 4#32
  let c0_92 : Index := 0#32
  ![v218.toNat, 4, 0, 0]
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_93 : BitVec 32 := 8#32
  let v222 : BitVec 32 := Scalar.muli arg11 c8_i32_93
  let c5_i32_94 : BitVec 32 := 5#32
  let v223 : BitVec 32 := Scalar.addi v222 c5_i32_94
  let c128_i32_95 : BitVec 32 := 128#32
  let v224 : BitVec 32 := Scalar.muli v223 c128_i32_95
  v224
def k0_off10 (k0_t1 : Fin k0_t1_loop.trips) : Fin 4 → Nat :=
  let c0_i32 : BitVec 32 := 0#32
  let c1_i32 : BitVec 32 := 1#32
  let arg11 : BitVec 32 := Scf.iv c0_i32 c1_i32 k0_t1
  let v246 : Index := Scalar.indexCast arg11
  let c5 : Index := 5#32
  let c0_104 : Index := 0#32
  ![v246.toNat, 5, 0, 0]
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_105 : BitVec 32 := 8#32
  let v250 : BitVec 32 := Scalar.muli arg11 c8_i32_105
  let c6_i32_106 : BitVec 32 := 6#32
  let v251 : BitVec 32 := Scalar.addi v250 c6_i32_106
  let c128_i32_107 : BitVec 32 := 128#32
  let v252 : BitVec 32 := Scalar.muli v251 c128_i32_107
  v252
def k0_off11 (k0_t1 : Fin k0_t1_loop.trips) : Fin 4 → Nat :=
  let c0_i32 : BitVec 32 := 0#32
  let c1_i32 : BitVec 32 := 1#32
  let arg11 : BitVec 32 := Scf.iv c0_i32 c1_i32 k0_t1
  let v274 : Index := Scalar.indexCast arg11
  let c6 : Index := 6#32
  let c0_116 : Index := 0#32
  ![v274.toNat, 6, 0, 0]
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_117 : BitVec 32 := 8#32
  let v278 : BitVec 32 := Scalar.muli arg11 c8_i32_117
  let c7_i32_118 : BitVec 32 := 7#32
  let v279 : BitVec 32 := Scalar.addi v278 c7_i32_118
  let c128_i32_119 : BitVec 32 := 128#32
  let v280 : BitVec 32 := Scalar.muli v279 c128_i32_119
  v280
def k0_off12 (k0_t1 : Fin k0_t1_loop.trips) : Fin 4 → Nat :=
  let c0_i32 : BitVec 32 := 0#32
  let c1_i32 : BitVec 32 := 1#32
  let arg11 : BitVec 32 := Scf.iv c0_i32 c1_i32 k0_t1
  let v302 : Index := Scalar.indexCast arg11
  let c7 : Index := 7#32
  let c0_128 : Index := 0#32
  ![v302.toNat, 7, 0, 0]
def k0_off13 (k0_t1 : Fin k0_t1_loop.trips) : Fin 4 → Nat :=
  let c0_i32 : BitVec 32 := 0#32
  let c1_i32 : BitVec 32 := 1#32
  let arg11 : BitVec 32 := Scf.iv c0_i32 c1_i32 k0_t1
  let v306 : Index := Scalar.indexCast arg11
  let c0_129 : Index := 0#32
  let c0_130 : Index := 0#32
  ![v306.toNat, 0, 0, 0]
def k0_off14 (k0_t1 : Fin k0_t1_loop.trips) : Fin 4 → Nat :=
  let c0_i32 : BitVec 32 := 0#32
  let c1_i32 : BitVec 32 := 1#32
  let arg11 : BitVec 32 := Scf.iv c0_i32 c1_i32 k0_t1
  let v310 : Index := Scalar.indexCast arg11
  let c9 : Index := 9#32
  let c0_131 : Index := 0#32
  ![v310.toNat, 9, 0, 0]
def k0_off15 (k0_t1 : Fin k0_t1_loop.trips) : Fin 4 → Nat :=
  let c0_i32 : BitVec 32 := 0#32
  let c1_i32 : BitVec 32 := 1#32
  let arg11 : BitVec 32 := Scf.iv c0_i32 c1_i32 k0_t1
  let v315 : Index := Scalar.indexCast arg11
  let c18 : Index := 18#32
  let c0_132 : Index := 0#32
  ![v315.toNat, 18, 0, 0]
def k0_off16 (k0_t1 : Fin k0_t1_loop.trips) : Fin 4 → Nat :=
  let c0_i32 : BitVec 32 := 0#32
  let c1_i32 : BitVec 32 := 1#32
  let arg11 : BitVec 32 := Scf.iv c0_i32 c1_i32 k0_t1
  let v320 : Index := Scalar.indexCast arg11
  let c27 : Index := 27#32
  let c0_133 : Index := 0#32
  ![v320.toNat, 27, 0, 0]
def k0_off17 (k0_t1 : Fin k0_t1_loop.trips) : Fin 4 → Nat :=
  let c0_i32 : BitVec 32 := 0#32
  let c1_i32 : BitVec 32 := 1#32
  let arg11 : BitVec 32 := Scf.iv c0_i32 c1_i32 k0_t1
  let v325 : Index := Scalar.indexCast arg11
  let c36 : Index := 36#32
  let c0_134 : Index := 0#32
  ![v325.toNat, 36, 0, 0]
def k0_off18 (k0_t1 : Fin k0_t1_loop.trips) : Fin 4 → Nat :=
  let c0_i32 : BitVec 32 := 0#32
  let c1_i32 : BitVec 32 := 1#32
  let arg11 : BitVec 32 := Scf.iv c0_i32 c1_i32 k0_t1
  let v330 : Index := Scalar.indexCast arg11
  let c45 : Index := 45#32
  let c0_135 : Index := 0#32
  ![v330.toNat, 45, 0, 0]
def k0_off19 (k0_t1 : Fin k0_t1_loop.trips) : Fin 4 → Nat :=
  let c0_i32 : BitVec 32 := 0#32
  let c1_i32 : BitVec 32 := 1#32
  let arg11 : BitVec 32 := Scf.iv c0_i32 c1_i32 k0_t1
  let v335 : Index := Scalar.indexCast arg11
  let c54 : Index := 54#32
  let c0_136 : Index := 0#32
  ![v335.toNat, 54, 0, 0]
def k0_off20 (k0_t1 : Fin k0_t1_loop.trips) : Fin 4 → Nat :=
  let c0_i32 : BitVec 32 := 0#32
  let c1_i32 : BitVec 32 := 1#32
  let arg11 : BitVec 32 := Scf.iv c0_i32 c1_i32 k0_t1
  let v340 : Index := Scalar.indexCast arg11
  let c63 : Index := 63#32
  let c0_137 : Index := 0#32
  ![v340.toNat, 63, 0, 0]
def k0_mult9 (i : grid0.Coords) (k0_t1 : Fin k0_t1_loop.trips) : BitVec 32 :=
  let arg0 : BitVec 32 := BitVec.ofNat 32 (i 0).val
  let c112_i32 : BitVec 32 := 112#32
  let v0 : BitVec 32 := Scalar.muli arg0 c112_i32
  let c0_i32 : BitVec 32 := 0#32
  let c1_i32 : BitVec 32 := 1#32
  let arg11 : BitVec 32 := Scf.iv c0_i32 c1_i32 k0_t1
  let c8_i32_138 : BitVec 32 := 8#32
  let v353 : BitVec 32 := Scalar.muli arg11 c8_i32_138
  let v354 : BitVec 32 := Scalar.addi v0 v353
  v354
def k0_off21 (i : grid0.Coords) (k0_t1 : Fin k0_t1_loop.trips) : Fin 2 → Nat :=
  let arg0 : BitVec 32 := BitVec.ofNat 32 (i 0).val
  let c112_i32 : BitVec 32 := 112#32
  let v0 : BitVec 32 := Scalar.muli arg0 c112_i32
  let c0_i32 : BitVec 32 := 0#32
  let c1_i32 : BitVec 32 := 1#32
  let arg11 : BitVec 32 := Scf.iv c0_i32 c1_i32 k0_t1
  let c8_i32_138 : BitVec 32 := 8#32
  let v353 : BitVec 32 := Scalar.muli arg11 c8_i32_138
  let v354 : BitVec 32 := Scalar.addi v0 v353
  let v355 : BitVec 32 := v354
  let v356 : Index := Scalar.indexCast v355
  let c0_139 : Index := 0#32
  ![v356.toNat, 0]
def k0_mult10 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32_143 : BitVec 32 := 8#32
  let v367 : BitVec 32 := Scalar.muli arg11 c8_i32_143
  v367
def k0_off22 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_143 : BitVec 32 := 8#32
  let v367 : BitVec 32 := Scalar.muli arg11 c8_i32_143
  let v368 : BitVec 32 := v367
  let v369 : Index := Scalar.indexCast v368
  let c0_144 : Index := 0#32
  ![v369.toNat, 0, 0]
@[reducible] def k0_t2_loop : Scf.Loop 32 :=
  let c0_i32_26 : BitVec 32 := 0#32
  let c28_i32 : BitVec 32 := 28#32
  let v65 : BitVec 32 := Scalar.addi c0_i32_26 c28_i32
  let c1_i32_27 : BitVec 32 := 1#32
  ⟨c0_i32_26, v65, c1_i32_27⟩
def k0_mult11 (k0_t2 : Fin k0_t2_loop.trips) : BitVec 32 :=
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let c0_i32_38 : BitVec 32 := 0#32
  let v83 : BitVec 32 := Scalar.addi v82 c0_i32_38
  let c128_i32 : BitVec 32 := 128#32
  let v84 : BitVec 32 := Scalar.muli v83 c128_i32
  v84
def k0_off23 (i : grid0.Coords) (k0_t2 : Fin k0_t2_loop.trips) (c0_i32_38 : BitVec 32) : Fin 2 → Nat :=
  let arg0 : BitVec 32 := BitVec.ofNat 32 (i 0).val
  let c112_i32 : BitVec 32 := 112#32
  let v0 : BitVec 32 := Scalar.muli arg0 c112_i32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let v86 : BitVec 32 := Scalar.addi v0 v83
  let v87 : Index := Scalar.indexCast v86
  let c0 : Index := 0#32
  ![v87.toNat, 0]
def k0_off24 (k0_t2 : Fin k0_t2_loop.trips) (c0_i32_38 : BitVec 32) : Fin 3 → Nat :=
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let v91 : Index := Scalar.indexCast v83
  let c0_39 : Index := 0#32
  ![v91.toNat, 0, 0]
def k0_off25 (k0_t2 : Fin k0_t2_loop.trips) (c0_i32_38 : BitVec 32) : Fin 3 → Nat :=
  let c0_42 : Index := 0#32
  let c0_43 : Index := 0#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v117 : Index := Scalar.indexCast v85
  ![0, 0, v117.toNat]
def k0_off26 (k0_t2 : Fin k0_t2_loop.trips) (c0_i32_38 : BitVec 32) : Fin 3 → Nat :=
  let c0_46 : Index := 0#32
  let c16 : Index := 16#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v138 : Index := Scalar.indexCast v85
  ![0, 16, v138.toNat]
def k0_off27 (k0_t2 : Fin k0_t2_loop.trips) (c0_i32_38 : BitVec 32) : Fin 3 → Nat :=
  let c0_53 : Index := 0#32
  let c32 : Index := 32#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v170 : Index := Scalar.indexCast v85
  ![0, 32, v170.toNat]
def k0_off28 (k0_t2 : Fin k0_t2_loop.trips) (c0_i32_38 : BitVec 32) : Fin 3 → Nat :=
  let c0_58 : Index := 0#32
  let c48 : Index := 48#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v191 : Index := Scalar.indexCast v85
  ![0, 48, v191.toNat]
def k0_off29 (k0_t2 : Fin k0_t2_loop.trips) (c0_i32_38 : BitVec 32) : Fin 3 → Nat :=
  let c0_66 : Index := 0#32
  let c0_67 : Index := 0#32
  let c0_i32_26 : BitVec 32 := 0#32
  let c1_i32_27 : BitVec 32 := 1#32
  let arg11 : BitVec 32 := Scf.iv c0_i32_26 c1_i32_27 k0_t2
  let c4_i32_37 : BitVec 32 := 4#32
  let v82 : BitVec 32 := Scalar.muli arg11 c4_i32_37
  let v83 : BitVec 32 := Scalar.addi v82 c0_i32_38
  let c128_i32 : BitVec 32 := 128#32
  let v84 : BitVec 32 := Scalar.muli v83 c128_i32
  let v85 : BitVec 32 := v84
  let v225 : Index := Scalar.indexCast v85
  ![0, 0, v225.toNat]
def k0_mult12 (k0_t2 : Fin k0_t2_loop.trips) : BitVec 32 :=
  let c0_i32_26 : BitVec 32 := 0#32
  let c1_i32_27 : BitVec 32 := 1#32
  let arg11 : BitVec 32 := Scf.iv c0_i32_26 c1_i32_27 k0_t2
  let c4_i32_68 : BitVec 32 := 4#32
  let v229 : BitVec 32 := Scalar.muli arg11 c4_i32_68
  let c1_i32_69 : BitVec 32 := 1#32
  let v230 : BitVec 32 := Scalar.addi v229 c1_i32_69
  let c128_i32_70 : BitVec 32 := 128#32
  let v231 : BitVec 32 := Scalar.muli v230 c128_i32_70
  v231
def k0_mult13 (k0_t2 : Fin k0_t2_loop.trips) : BitVec 32 :=
  let c0_i32_26 : BitVec 32 := 0#32
  let c1_i32_27 : BitVec 32 := 1#32
  let arg11 : BitVec 32 := Scf.iv c0_i32_26 c1_i32_27 k0_t2
  let c4_i32_107 : BitVec 32 := 4#32
  let v376 : BitVec 32 := Scalar.muli arg11 c4_i32_107
  let c2_i32_108 : BitVec 32 := 2#32
  let v377 : BitVec 32 := Scalar.addi v376 c2_i32_108
  let c128_i32_109 : BitVec 32 := 128#32
  let v378 : BitVec 32 := Scalar.muli v377 c128_i32_109
  v378
def k0_mult14 (k0_t2 : Fin k0_t2_loop.trips) : BitVec 32 :=
  let c0_i32_26 : BitVec 32 := 0#32
  let c1_i32_27 : BitVec 32 := 1#32
  let arg11 : BitVec 32 := Scf.iv c0_i32_26 c1_i32_27 k0_t2
  let c4_i32_146 : BitVec 32 := 4#32
  let v523 : BitVec 32 := Scalar.muli arg11 c4_i32_146
  let c3_i32_147 : BitVec 32 := 3#32
  let v524 : BitVec 32 := Scalar.addi v523 c3_i32_147
  let c128_i32_148 : BitVec 32 := 128#32
  let v525 : BitVec 32 := Scalar.muli v524 c128_i32_148
  v525
def k0_cond1 (i : grid0.Coords) : BitVec 1 :=
  let arg0 : BitVec 32 := BitVec.ofNat 32 (i 0).val
  let c8_i32 : BitVec 32 := 8#32
  let c0_i32_29 : BitVec 32 := 0#32
  let v66 : BitVec 1 := Scalar.cmpi .eq c8_i32 c0_i32_29
  let c1_i32_30 : BitVec 32 := 1#32
  let v67 : BitVec 32 := Scalar.select v66 c1_i32_30 c8_i32
  let v68 : BitVec 32 := Scalar.remsi arg0 v67
  let c0_i32_32 : BitVec 32 := 0#32
  let v70 : BitVec 1 := Scalar.cmpi .slt v68 c0_i32_32
  let c0_i32_33 : BitVec 32 := 0#32
  let v71 : BitVec 1 := Scalar.cmpi .slt v67 c0_i32_33
  let v72 : BitVec 1 := Scalar.xori v70 v71
  let c0_i32_31 : BitVec 32 := 0#32
  let v69 : BitVec 1 := Scalar.cmpi .ne v68 c0_i32_31
  let v73 : BitVec 1 := Scalar.andi v72 v69
  let v74 : BitVec 32 := Scalar.addi v68 v67
  let v75 : BitVec 32 := Scalar.select v73 v74 v68
  let c7_i32_34 : BitVec 32 := 7#32
  let v76 : BitVec 1 := Scalar.cmpi .eq v75 c7_i32_34
  let v77 : BitVec 32 := Scalar.extui v76
  let c0_i32_35 : BitVec 32 := 0#32
  let v78 : BitVec 1 := Scalar.cmpi .ne v77 c0_i32_35
  v78

def k0_mult15 (i : grid0.Coords) : BitVec 32 :=
  let arg0 : BitVec 32 := BitVec.ofNat 32 (i 0).val
  let c7_i32_37 : BitVec 32 := 7#32
  let v82 : BitVec 32 := Scalar.subi arg0 c7_i32_37
  v82
@[reducible] def k0_t3_loop : Scf.Loop 32 :=
  let c0_i32_38 : BitVec 32 := 0#32
  let c112_i32_39 : BitVec 32 := 112#32
  let v84 : BitVec 32 := Scalar.addi c0_i32_38 c112_i32_39
  let c1_i32_40 : BitVec 32 := 1#32
  ⟨c0_i32_38, v84, c1_i32_40⟩
def k0_off30 (i : grid0.Coords) (k0_t3 : Fin k0_t3_loop.trips) : Fin 2 → Nat :=
  let arg0 : BitVec 32 := BitVec.ofNat 32 (i 0).val
  let c7_i32_37 : BitVec 32 := 7#32
  let v82 : BitVec 32 := Scalar.subi arg0 c7_i32_37
  let v83 : BitVec 32 := v82
  let c112_i32_42 : BitVec 32 := 112#32
  let v85 : BitVec 32 := Scalar.muli v83 c112_i32_42
  let c0_i32_38 : BitVec 32 := 0#32
  let c1_i32_40 : BitVec 32 := 1#32
  let arg11 : BitVec 32 := Scf.iv c0_i32_38 c1_i32_40 k0_t3
  let v86 : BitVec 32 := Scalar.addi v85 arg11
  let v87 : Index := Scalar.indexCast v86
  let c0 : Index := 0#32
  ![v87.toNat, 0]
def k0_mult16 (k0_t3 : Fin k0_t3_loop.trips) : BitVec 32 :=
  let c0_i32_38 : BitVec 32 := 0#32
  let c1_i32_40 : BitVec 32 := 1#32
  let arg11 : BitVec 32 := Scf.iv c0_i32_38 c1_i32_40 k0_t3
  let c128_i32 : BitVec 32 := 128#32
  let v89 : BitVec 32 := Scalar.muli arg11 c128_i32
  v89
def k0_off31 (i : grid0.Coords) (k0_t3 : Fin k0_t3_loop.trips) : Fin 3 → Nat :=
  let c0_43 : Index := 0#32
  let arg0 : BitVec 32 := BitVec.ofNat 32 (i 0).val
  let c7_i32_37 : BitVec 32 := 7#32
  let v82 : BitVec 32 := Scalar.subi arg0 c7_i32_37
  let v83 : BitVec 32 := v82
  let v91 : Index := Scalar.indexCast v83
  let c0_i32_38 : BitVec 32 := 0#32
  let c1_i32_40 : BitVec 32 := 1#32
  let arg11 : BitVec 32 := Scf.iv c0_i32_38 c1_i32_40 k0_t3
  let c128_i32 : BitVec 32 := 128#32
  let v89 : BitVec 32 := Scalar.muli arg11 c128_i32
  let v90 : BitVec 32 := v89
  let v92 : Index := Scalar.indexCast v90
  ![0, v91.toNat, v92.toNat]
def k0_cond2 (i : grid0.Coords) : BitVec 1 :=
  let arg0 : BitVec 32 := BitVec.ofNat 32 (i 0).val
  let c25_i32 : BitVec 32 := 25#32
  let v79 : BitVec 1 := Scalar.cmpi .eq arg0 c25_i32
  let v80 : BitVec 32 := Scalar.extui v79
  let c0_i32_36 : BitVec 32 := 0#32
  let v81 : BitVec 1 := Scalar.cmpi .ne v80 c0_i32_36
  v81

@[reducible] def k0_t4_loop : Scf.Loop 32 :=
  let c0_i32_37 : BitVec 32 := 0#32
  let c112_i32_38 : BitVec 32 := 112#32
  let v82 : BitVec 32 := Scalar.addi c0_i32_37 c112_i32_38
  let c1_i32_39 : BitVec 32 := 1#32
  ⟨c0_i32_37, v82, c1_i32_39⟩
def k0_off32 (k0_t4 : Fin k0_t4_loop.trips) : Fin 2 → Nat :=
  let c2688_i32 : BitVec 32 := 2688#32
  let c0_i32_37 : BitVec 32 := 0#32
  let c1_i32_39 : BitVec 32 := 1#32
  let arg11 : BitVec 32 := Scf.iv c0_i32_37 c1_i32_39 k0_t4
  let v259 : BitVec 32 := Scalar.addi c2688_i32 arg11
  let v260 : Index := Scalar.indexCast v259
  let c0_136 : Index := 0#32
  ![v260.toNat, 0]
def k0_mult17 (k0_t4 : Fin k0_t4_loop.trips) : BitVec 32 :=
  let c0_i32_37 : BitVec 32 := 0#32
  let c1_i32_39 : BitVec 32 := 1#32
  let arg11 : BitVec 32 := Scf.iv c0_i32_37 c1_i32_39 k0_t4
  let c128_i32 : BitVec 32 := 128#32
  let v262 : BitVec 32 := Scalar.muli arg11 c128_i32
  v262
def k0_off33 (k0_t4 : Fin k0_t4_loop.trips) : Fin 3 → Nat :=
  let c0_137 : Index := 0#32
  let c24 : Index := 24#32
  let c0_i32_37 : BitVec 32 := 0#32
  let c1_i32_39 : BitVec 32 := 1#32
  let arg11 : BitVec 32 := Scf.iv c0_i32_37 c1_i32_39 k0_t4
  let c128_i32 : BitVec 32 := 128#32
  let v262 : BitVec 32 := Scalar.muli arg11 c128_i32
  let v263 : BitVec 32 := v262
  let v265 : Index := Scalar.indexCast v263
  ![0, 24, v265.toNat]
@[reducible] def k0_t5_loop : Scf.Loop 32 :=
  let c0_i32_42 : BitVec 32 := 0#32
  let c91_i32 : BitVec 32 := 91#32
  let v84 : BitVec 32 := Scalar.addi c0_i32_42 c91_i32
  let c1_i32_43 : BitVec 32 := 1#32
  ⟨c0_i32_42, v84, c1_i32_43⟩
def k0_mult18 (k0_t5 : Fin k0_t5_loop.trips) : BitVec 32 :=
  let c0_i32_42 : BitVec 32 := 0#32
  let c1_i32_43 : BitVec 32 := 1#32
  let arg11 : BitVec 32 := Scf.iv c0_i32_42 c1_i32_43 k0_t5
  let c4_i32_136 : BitVec 32 := 4#32
  let v259 : BitVec 32 := Scalar.muli arg11 c4_i32_136
  let c0_i32_137 : BitVec 32 := 0#32
  let v260 : BitVec 32 := Scalar.addi v259 c0_i32_137
  let c8_i32_138 : BitVec 32 := 8#32
  let v261 : BitVec 32 := Scalar.muli v260 c8_i32_138
  v261
def k0_off34 (k0_t5 : Fin k0_t5_loop.trips) (c0_i32_137 : BitVec 32) : Fin 2 → Nat :=
  let c0_i32_42 : BitVec 32 := 0#32
  let c1_i32_43 : BitVec 32 := 1#32
  let arg11 : BitVec 32 := Scf.iv c0_i32_42 c1_i32_43 k0_t5
  let c4_i32_136 : BitVec 32 := 4#32
  let v259 : BitVec 32 := Scalar.muli arg11 c4_i32_136
  let v260 : BitVec 32 := Scalar.addi v259 c0_i32_137
  let c8_i32_138 : BitVec 32 := 8#32
  let v261 : BitVec 32 := Scalar.muli v260 c8_i32_138
  let v262 : BitVec 32 := v261
  let v263 : Index := Scalar.indexCast v262
  let c0_139 : Index := 0#32
  ![v263.toNat, 0]
def k0_mult19 (k0_t5 : Fin k0_t5_loop.trips) : BitVec 32 :=
  let c0_i32_42 : BitVec 32 := 0#32
  let c1_i32_43 : BitVec 32 := 1#32
  let arg11 : BitVec 32 := Scf.iv c0_i32_42 c1_i32_43 k0_t5
  let c4_i32_140 : BitVec 32 := 4#32
  let v266 : BitVec 32 := Scalar.muli arg11 c4_i32_140
  let c1_i32_141 : BitVec 32 := 1#32
  let v267 : BitVec 32 := Scalar.addi v266 c1_i32_141
  let c8_i32_142 : BitVec 32 := 8#32
  let v268 : BitVec 32 := Scalar.muli v267 c8_i32_142
  v268
def k0_mult20 (k0_t5 : Fin k0_t5_loop.trips) : BitVec 32 :=
  let c0_i32_42 : BitVec 32 := 0#32
  let c1_i32_43 : BitVec 32 := 1#32
  let arg11 : BitVec 32 := Scf.iv c0_i32_42 c1_i32_43 k0_t5
  let c4_i32_144 : BitVec 32 := 4#32
  let v273 : BitVec 32 := Scalar.muli arg11 c4_i32_144
  let c2_i32_145 : BitVec 32 := 2#32
  let v274 : BitVec 32 := Scalar.addi v273 c2_i32_145
  let c8_i32_146 : BitVec 32 := 8#32
  let v275 : BitVec 32 := Scalar.muli v274 c8_i32_146
  v275
def k0_mult21 (k0_t5 : Fin k0_t5_loop.trips) : BitVec 32 :=
  let c0_i32_42 : BitVec 32 := 0#32
  let c1_i32_43 : BitVec 32 := 1#32
  let arg11 : BitVec 32 := Scf.iv c0_i32_42 c1_i32_43 k0_t5
  let c4_i32_148 : BitVec 32 := 4#32
  let v280 : BitVec 32 := Scalar.muli arg11 c4_i32_148
  let c3_i32_149 : BitVec 32 := 3#32
  let v281 : BitVec 32 := Scalar.addi v280 c3_i32_149
  let c8_i32_150 : BitVec 32 := 8#32
  let v282 : BitVec 32 := Scalar.muli v281 c8_i32_150
  v282
@[reducible] def k0_t6_loop : Scf.Loop 32 :=
  let c0_i32_48 : BitVec 32 := 0#32
  let c45_i32 : BitVec 32 := 45#32
  let v95 : BitVec 32 := Scalar.addi c0_i32_48 c45_i32
  let c1_i32_49 : BitVec 32 := 1#32
  ⟨c0_i32_48, v95, c1_i32_49⟩
def k0_mult22 (k0_t6 : Fin k0_t6_loop.trips) : BitVec 32 :=
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  v259
def k0_off35 (k0_t6 : Fin k0_t6_loop.trips) (c0_i32_136 : BitVec 32) : Fin 2 → Nat :=
  let c2_i32_137 : BitVec 32 := 2#32
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v261 : BitVec 32 := Scalar.addi v260 c0_i32_136
  let v262 : BitVec 32 := Scalar.muli c2_i32_137 v261
  let v263 : Index := Scalar.indexCast v262
  let c0_138 : Index := 0#32
  ![v263.toNat, 0]
def k0_off36 (k0_t6 : Fin k0_t6_loop.trips) (c0_i32_136 : BitVec 32) : Fin 2 → Nat :=
  let c2_i32_139 : BitVec 32 := 2#32
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v261 : BitVec 32 := Scalar.addi v260 c0_i32_136
  let v267 : BitVec 32 := Scalar.muli c2_i32_139 v261
  let c1_i32_140 : BitVec 32 := 1#32
  let v268 : BitVec 32 := Scalar.addi v267 c1_i32_140
  let v269 : Index := Scalar.indexCast v268
  let c0_141 : Index := 0#32
  ![v269.toNat, 0]
def k0_off37 (k0_t6 : Fin k0_t6_loop.trips) (c0_i32_136 : BitVec 32) : Fin 2 → Nat :=
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v261 : BitVec 32 := Scalar.addi v260 c0_i32_136
  let v286 : Index := Scalar.indexCast v261
  let c0_146 : Index := 0#32
  ![v286.toNat, 0]
def k0_off38 (k0_t6 : Fin k0_t6_loop.trips) : Fin 2 → Nat :=
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v451 : Index := Scalar.indexCast v260
  let c0_194 : Index := 0#32
  ![v451.toNat, 0]
def k0_off39 (k0_t6 : Fin k0_t6_loop.trips) : Fin 2 → Nat :=
  let c0_i32_48 : BitVec 32 := 0#32
  let c1_i32_49 : BitVec 32 := 1#32
  let arg11 : BitVec 32 := Scf.iv c0_i32_48 c1_i32_49 k0_t6
  let c32_i32 : BitVec 32 := 32#32
  let v259 : BitVec 32 := Scalar.muli arg11 c32_i32
  let v260 : BitVec 32 := v259
  let v455 : Index := Scalar.indexCast v260
  let c128_195 : Index := 128#32
  ![v455.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x14336 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x26x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1456x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x1664x14336 : Shape := ⟨3, ![1, 1664, 14336]⟩
abbrev S1x832x14336 : Shape := ⟨3, ![1, 832, 14336]⟩
abbrev S1x26x32x14336 : Shape := ⟨4, ![1, 26, 32, 14336]⟩
abbrev S_ : Shape := ⟨0, ![]⟩
abbrev S1x26x14336 : Shape := ⟨3, ![1, 26, 14336]⟩
abbrev S1x26x1x14336 : Shape := ⟨4, ![1, 26, 1, 14336]⟩
abbrev S1456x256 : Shape := ⟨2, ![1456, 256]⟩
abbrev S1456 : Shape := ⟨1, ![1456]⟩
abbrev S1456x1 : Shape := ⟨2, ![1456, 1]⟩
abbrev S1x1456 : Shape := ⟨2, ![1, 1456]⟩
abbrev S1x1 : Shape := ⟨2, ![1, 1]⟩

abbrev nBuf : Space → Nat
  | .hbm => 194
  | .vmem => 0
  | .smem => 0
  | _ => 0

abbrev hbmTy0_0 (i : Nat) : BufTy := match i % 128 with
  | 0 => ⟨S1x1664x14336, .bf16⟩
  | 1 => ⟨S1x832x14336, .bf16⟩
  | 2 => ⟨S1x832x14336, .f32⟩
  | 3 => ⟨S1x26x32x14336, .f32⟩
  | 4 => ⟨S1x832x14336, .bf16⟩
  | 5 => ⟨S1x832x14336, .f32⟩
  | 6 => ⟨S1x26x32x14336, .f32⟩
  | 7 => ⟨S1x26x32x14336, .f32⟩
  | 8 => ⟨S_, .f32⟩
  | 9 => ⟨S1x26x14336, .f32⟩
  | 10 => ⟨S1x26x32x14336, .f32⟩
  | 11 => ⟨S_, .f32⟩
  | 12 => ⟨S1x26x14336, .f32⟩
  | 13 => ⟨S1x26x14336, .f32⟩
  | 14 => ⟨S_, .f32⟩
  | 15 => ⟨S1x26x14336, .f32⟩
  | 16 => ⟨S1x26x14336, .i1⟩
  | 17 => ⟨S_, .f32⟩
  | 18 => ⟨S_, .f32⟩
  | 19 => ⟨S1x26x14336, .f32⟩
  | 20 => ⟨S1x26x14336, .f32⟩
  | 21 => ⟨S_, .f32⟩
  | 22 => ⟨S1x26x14336, .f32⟩
  | 23 => ⟨S1x26x14336, .f32⟩
  | 24 => ⟨S1x26x1x14336, .f32⟩
  | 25 => ⟨S1x26x32x14336, .f32⟩
  | 26 => ⟨S1x26x32x14336, .f32⟩
  | 27 => ⟨S_, .f32⟩
  | 28 => ⟨S1x26x32x14336, .f32⟩
  | 29 => ⟨S1x26x32x14336, .i1⟩
  | 30 => ⟨S_, .f32⟩
  | 31 => ⟨S_, .f32⟩
  | 32 => ⟨S1x26x32x14336, .f32⟩
  | 33 => ⟨S1x26x32x14336, .f32⟩
  | 34 => ⟨S1x26x32x14336, .f32⟩
  | 35 => ⟨S1x26x32x14336, .i1⟩
  | 36 => ⟨S_, .f32⟩
  | 37 => ⟨S_, .f32⟩
  | 38 => ⟨S1x26x32x14336, .f32⟩
  | 39 => ⟨S1x26x32x14336, .f32⟩
  | 40 => ⟨S1x26x32x14336, .f32⟩
  | 41 => ⟨S_, .f32⟩
  | 42 => ⟨S_, .f32⟩
  | 43 => ⟨S1x26x32x14336, .f32⟩
  | 44 => ⟨S1x26x32x14336, .f32⟩
  | 45 => ⟨S1x26x32x14336, .f32⟩
  | 46 => ⟨S1x26x32x14336, .f32⟩
  | 47 => ⟨S1x26x32x14336, .i1⟩
  | 48 => ⟨S_, .f32⟩
  | 49 => ⟨S_, .f32⟩
  | 50 => ⟨S1x26x32x14336, .f32⟩
  | 51 => ⟨S1x26x32x14336, .f32⟩
  | 52 => ⟨S1x26x32x14336, .f32⟩
  | 53 => ⟨S_, .f32⟩
  | 54 => ⟨S_, .f32⟩
  | 55 => ⟨S1x26x32x14336, .f32⟩
  | 56 => ⟨S1x26x32x14336, .f32⟩
  | 57 => ⟨S1x26x32x14336, .f32⟩
  | 58 => ⟨S1x26x32x14336, .f32⟩
  | 59 => ⟨S_, .f32⟩
  | 60 => ⟨S_, .f32⟩
  | 61 => ⟨S1x26x32x14336, .f32⟩
  | 62 => ⟨S1x26x32x14336, .f32⟩
  | 63 => ⟨S1x26x32x14336, .f32⟩
  | 64 => ⟨S_, .f32⟩
  | 65 => ⟨S_, .f32⟩
  | 66 => ⟨S1x26x32x14336, .f32⟩
  | 67 => ⟨S1x26x32x14336, .f32⟩
  | 68 => ⟨S1x26x32x14336, .f32⟩
  | 69 => ⟨S1x26x32x14336, .f32⟩
  | 70 => ⟨S1x26x32x14336, .f32⟩
  | 71 => ⟨S1x26x32x14336, .i1⟩
  | 72 => ⟨S1x26x32x14336, .i32⟩
  | 73 => ⟨S_, .i32⟩
  | 74 => ⟨S1x26x32x14336, .i32⟩
  | 75 => ⟨S1x26x32x14336, .i32⟩
  | 76 => ⟨S1x26x32x14336, .i32⟩
  | 77 => ⟨S_, .i32⟩
  | 78 => ⟨S1x26x32x14336, .i32⟩
  | 79 => ⟨S1x26x32x14336, .i32⟩
  | 80 => ⟨S1x26x32x14336, .i32⟩
  | 81 => ⟨S1x26x32x14336, .i32⟩
  | 82 => ⟨S_, .i32⟩
  | 83 => ⟨S1x26x32x14336, .i32⟩
  | 84 => ⟨S1x26x32x14336, .i32⟩
  | 85 => ⟨S1x26x32x14336, .i32⟩
  | 86 => ⟨S1x26x32x14336, .i32⟩
  | 87 => ⟨S1x26x32x14336, .i32⟩
  | 88 => ⟨S1x26x1x14336, .f32⟩
  | 89 => ⟨S1x26x32x14336, .f32⟩
  | 90 => ⟨S1x26x32x14336, .f32⟩
  | 91 => ⟨S_, .f32⟩
  | 92 => ⟨S1x26x32x14336, .f32⟩
  | 93 => ⟨S1x26x32x14336, .i1⟩
  | 94 => ⟨S_, .f32⟩
  | 95 => ⟨S_, .f32⟩
  | 96 => ⟨S1x26x32x14336, .f32⟩
  | 97 => ⟨S1x26x32x14336, .f32⟩
  | 98 => ⟨S1x26x32x14336, .f32⟩
  | 99 => ⟨S1x26x32x14336, .i1⟩
  | 100 => ⟨S_, .f32⟩
  | 101 => ⟨S_, .f32⟩
  | 102 => ⟨S1x26x32x14336, .f32⟩
  | 103 => ⟨S1x26x32x14336, .f32⟩
  | 104 => ⟨S1x26x32x14336, .f32⟩
  | 105 => ⟨S_, .f32⟩
  | 106 => ⟨S_, .f32⟩
  | 107 => ⟨S1x26x32x14336, .f32⟩
  | 108 => ⟨S1x26x32x14336, .f32⟩
  | 109 => ⟨S1x26x32x14336, .f32⟩
  | 110 => ⟨S1x26x32x14336, .f32⟩
  | 111 => ⟨S1x26x32x14336, .i1⟩
  | 112 => ⟨S_, .f32⟩
  | 113 => ⟨S_, .f32⟩
  | 114 => ⟨S1x26x32x14336, .f32⟩
  | 115 => ⟨S1x26x32x14336, .f32⟩
  | 116 => ⟨S1x26x32x14336, .f32⟩
  | 117 => ⟨S_, .f32⟩
  | 118 => ⟨S_, .f32⟩
  | 119 => ⟨S1x26x32x14336, .f32⟩
  | 120 => ⟨S1x26x32x14336, .f32⟩
  | 121 => ⟨S1x26x32x14336, .f32⟩
  | 122 => ⟨S1x26x32x14336, .f32⟩
  | 123 => ⟨S_, .f32⟩
  | 124 => ⟨S_, .f32⟩
  | 125 => ⟨S1x26x32x14336, .f32⟩
  | 126 => ⟨S1x26x32x14336, .f32⟩
  | 127 => ⟨S1x26x32x14336, .f32⟩
  | _ => ⟨S1x1664x14336, .bf16⟩

abbrev hbmTy0_1 (i : Nat) : BufTy := match i % 128 with
  | 0 => ⟨S_, .f32⟩
  | 1 => ⟨S_, .f32⟩
  | 2 => ⟨S1x26x32x14336, .f32⟩
  | 3 => ⟨S1x26x32x14336, .f32⟩
  | 4 => ⟨S1x26x32x14336, .f32⟩
  | 5 => ⟨S1x26x32x14336, .f32⟩
  | 6 => ⟨S1x26x32x14336, .f32⟩
  | 7 => ⟨S1x26x32x14336, .i1⟩
  | 8 => ⟨S1x26x32x14336, .i32⟩
  | 9 => ⟨S_, .i32⟩
  | 10 => ⟨S1x26x32x14336, .i32⟩
  | 11 => ⟨S1x26x32x14336, .i32⟩
  | 12 => ⟨S1x26x32x14336, .i32⟩
  | 13 => ⟨S_, .i32⟩
  | 14 => ⟨S1x26x32x14336, .i32⟩
  | 15 => ⟨S1x26x32x14336, .i32⟩
  | 16 => ⟨S1x26x32x14336, .i32⟩
  | 17 => ⟨S1x26x32x14336, .i32⟩
  | 18 => ⟨S_, .i32⟩
  | 19 => ⟨S1x26x32x14336, .i32⟩
  | 20 => ⟨S1x26x32x14336, .i32⟩
  | 21 => ⟨S1x26x32x14336, .i32⟩
  | 22 => ⟨S1x26x32x14336, .i32⟩
  | 23 => ⟨S1x26x32x14336, .i32⟩
  | 24 => ⟨S_, .i32⟩
  | 25 => ⟨S1x26x32x14336, .i32⟩
  | 26 => ⟨S1x26x32x14336, .i32⟩
  | 27 => ⟨S1x26x32x14336, .i32⟩
  | 28 => ⟨S1x26x32x14336, .i8⟩
  | 29 => ⟨S1x832x14336, .i8⟩
  | 30 => ⟨S_, .f32⟩
  | 31 => ⟨S_, .f32⟩
  | 32 => ⟨S_, .f32⟩
  | 33 => ⟨S_, .f32⟩
  | 34 => ⟨S1x26x14336, .f32⟩
  | 35 => ⟨S1x26x14336, .f32⟩
  | 36 => ⟨S1456x256, .f32⟩
  | 37 => ⟨S1456x256, .f32⟩
  | 38 => ⟨S_, .f32⟩
  | 39 => ⟨S1456, .f32⟩
  | 40 => ⟨S_, .f32⟩
  | 41 => ⟨S1456, .f32⟩
  | 42 => ⟨S1456, .i1⟩
  | 43 => ⟨S_, .f32⟩
  | 44 => ⟨S1456, .f32⟩
  | 45 => ⟨S1456, .f32⟩
  | 46 => ⟨S_, .f32⟩
  | 47 => ⟨S_, .f32⟩
  | 48 => ⟨S1456, .f32⟩
  | 49 => ⟨S1456, .f32⟩
  | 50 => ⟨S1456x1, .f32⟩
  | 51 => ⟨S1456x256, .f32⟩
  | 52 => ⟨S1456x256, .f32⟩
  | 53 => ⟨S1456x256, .f32⟩
  | 54 => ⟨S_, .i32⟩
  | 55 => ⟨S_, .i32⟩
  | 56 => ⟨S_, .f32⟩
  | 57 => ⟨S1456x256, .f32⟩
  | 58 => ⟨S1456x256, .f32⟩
  | 59 => ⟨S_, .f32⟩
  | 60 => ⟨S1456x256, .f32⟩
  | 61 => ⟨S1456x256, .f32⟩
  | 62 => ⟨S1456x256, .i32⟩
  | 63 => ⟨S1456x256, .i8⟩
  | 64 => ⟨S1x1456, .f32⟩
  | 65 => ⟨S1x1, .f32⟩
  | _ => ⟨S1x1664x14336, .bf16⟩

abbrev hbmTy (i : Nat) : BufTy := match i / 128 with
  | 0 => hbmTy0_0 i
  | 1 => hbmTy0_1 i
  | _ => ⟨S1x1664x14336, .bf16⟩

abbrev bufTy : (tb : Table) → Fin (tcTables nBuf tb) → BufTy
  | .hbm, ⟨i, _⟩ => hbmTy i
  | _, _ => ⟨S1x1664x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_cst_8 : Ref sig .tc := ⟨.hbm, 37, rfl⟩
abbrev main_call2_v0 : Ref sig .tc := ⟨.hbm, 38, rfl⟩
abbrev main_call2_v1 : Ref sig .tc := ⟨.hbm, 39, rfl⟩
abbrev main_v23 : Ref sig .tc := ⟨.hbm, 40, rfl⟩
abbrev main_cst_9 : Ref sig .tc := ⟨.hbm, 41, rfl⟩
abbrev main_cst_10 : Ref sig .tc := ⟨.hbm, 42, rfl⟩
abbrev main_call3_v0 : Ref sig .tc := ⟨.hbm, 43, rfl⟩
abbrev main_call3_v1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_11 : Ref sig .tc := ⟨.hbm, 48, rfl⟩
abbrev main_cst_12 : Ref sig .tc := ⟨.hbm, 49, rfl⟩
abbrev main_call5_v0 : Ref sig .tc := ⟨.hbm, 50, rfl⟩
abbrev main_call5_v1 : Ref sig .tc := ⟨.hbm, 51, rfl⟩
abbrev main_v27 : Ref sig .tc := ⟨.hbm, 52, rfl⟩
abbrev main_cst_13 : Ref sig .tc := ⟨.hbm, 53, rfl⟩
abbrev main_cst_14 : Ref sig .tc := ⟨.hbm, 54, rfl⟩
abbrev main_call6_v0 : Ref sig .tc := ⟨.hbm, 55, rfl⟩
abbrev main_call6_v1 : Ref sig .tc := ⟨.hbm, 56, rfl⟩
abbrev main_v28 : Ref sig .tc := ⟨.hbm, 57, rfl⟩
abbrev main_v29 : Ref sig .tc := ⟨.hbm, 58, rfl⟩
abbrev main_cst_15 : Ref sig .tc := ⟨.hbm, 59, rfl⟩
abbrev main_cst_16 : Ref sig .tc := ⟨.hbm, 60, rfl⟩
abbrev main_call8_v0 : Ref sig .tc := ⟨.hbm, 61, rfl⟩
abbrev main_call8_v1 : Ref sig .tc := ⟨.hbm, 62, rfl⟩
abbrev main_v30 : Ref sig .tc := ⟨.hbm, 63, rfl⟩
abbrev main_cst_17 : Ref sig .tc := ⟨.hbm, 64, rfl⟩
abbrev main_cst_18 : Ref sig .tc := ⟨.hbm, 65, rfl⟩
abbrev main_call9_v0 : Ref sig .tc := ⟨.hbm, 66, rfl⟩
abbrev main_call9_v1 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_19 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_20 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_21 : Ref sig .tc := ⟨.hbm, 91, rfl⟩
abbrev main_v51 : Ref sig .tc := ⟨.hbm, 92, rfl⟩
abbrev main_v52 : Ref sig .tc := ⟨.hbm, 93, rfl⟩
abbrev main_cst_22 : Ref sig .tc := ⟨.hbm, 94, rfl⟩
abbrev main_cst_23 : Ref sig .tc := ⟨.hbm, 95, rfl⟩
abbrev main_call12_v0 : Ref sig .tc := ⟨.hbm, 96, rfl⟩
abbrev main_call12_v1 : Ref sig .tc := ⟨.hbm, 97, rfl⟩
abbrev main_v53 : Ref sig .tc := ⟨.hbm, 98, rfl⟩
abbrev main_v54 : Ref sig .tc := ⟨.hbm, 99, rfl⟩
abbrev main_cst_24 : Ref sig .tc := ⟨.hbm, 100, rfl⟩
abbrev main_cst_25 : Ref sig .tc := ⟨.hbm, 101, rfl⟩
abbrev main_call13_v0 : Ref sig .tc := ⟨.hbm, 102, rfl⟩
abbrev main_call13_v1 : Ref sig .tc := ⟨.hbm, 103, rfl⟩
abbrev main_v55 : Ref sig .tc := ⟨.hbm, 104, rfl⟩
abbrev main_cst_26 : Ref sig .tc := ⟨.hbm, 105, rfl⟩
abbrev main_cst_27 : Ref sig .tc := ⟨.hbm, 106, rfl⟩
abbrev main_call14_v0 : Ref sig .tc := ⟨.hbm, 107, rfl⟩
abbrev main_call14_v1 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_28 : Ref sig .tc := ⟨.hbm, 112, rfl⟩
abbrev main_cst_29 : Ref sig .tc := ⟨.hbm, 113, rfl⟩
abbrev main_call16_v0 : Ref sig .tc := ⟨.hbm, 114, rfl⟩
abbrev main_call16_v1 : Ref sig .tc := ⟨.hbm, 115, rfl⟩
abbrev main_v59 : Ref sig .tc := ⟨.hbm, 116, rfl⟩
abbrev main_cst_30 : Ref sig .tc := ⟨.hbm, 117, rfl⟩
abbrev main_cst_31 : Ref sig .tc := ⟨.hbm, 118, rfl⟩
abbrev main_call17_v0 : Ref sig .tc := ⟨.hbm, 119, rfl⟩
abbrev main_call17_v1 : Ref sig .tc := ⟨.hbm, 120, rfl⟩
abbrev main_v60 : Ref sig .tc := ⟨.hbm, 121, rfl⟩
abbrev main_v61 : Ref sig .tc := ⟨.hbm, 122, rfl⟩
abbrev main_cst_32 : Ref sig .tc := ⟨.hbm, 123, rfl⟩
abbrev main_cst_33 : Ref sig .tc := ⟨.hbm, 124, rfl⟩
abbrev main_call19_v0 : Ref sig .tc := ⟨.hbm, 125, rfl⟩
abbrev main_call19_v1 : Ref sig .tc := ⟨.hbm, 126, rfl⟩
abbrev main_v62 : Ref sig .tc := ⟨.hbm, 127, rfl⟩
abbrev main_cst_34 : Ref sig .tc := ⟨.hbm, 128, rfl⟩
abbrev main_cst_35 : Ref sig .tc := ⟨.hbm, 129, rfl⟩
abbrev main_call20_v0 : Ref sig .tc := ⟨.hbm, 130, rfl⟩
abbrev main_call20_v1 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_c_36 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_c_37 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_c_38 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_c_39 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_40 : Ref sig .tc := ⟨.hbm, 158, rfl⟩
abbrev main_v85 : Ref sig .tc := ⟨.hbm, 159, rfl⟩
abbrev main_cst_41 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_cst_42 : Ref sig .tc := ⟨.hbm, 166, rfl⟩
abbrev main_v91 : Ref sig .tc := ⟨.hbm, 167, rfl⟩
abbrev main_cst_43 : Ref sig .tc := ⟨.hbm, 168, rfl⟩
abbrev main_v92 : Ref sig .tc := ⟨.hbm, 169, rfl⟩
abbrev main_v93 : Ref sig .tc := ⟨.hbm, 170, rfl⟩
abbrev main_cst_44 : Ref sig .tc := ⟨.hbm, 171, rfl⟩
abbrev main_v94 : Ref sig .tc := ⟨.hbm, 172, rfl⟩
abbrev main_v95 : Ref sig .tc := ⟨.hbm, 173, rfl⟩
abbrev main_cst_45 : Ref sig .tc := ⟨.hbm, 174, rfl⟩
abbrev main_call23_v0 : Ref sig .tc := ⟨.hbm, 175, rfl⟩
abbrev main_call23_v1 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_c_46 : Ref sig .tc := ⟨.hbm, 182, rfl⟩
abbrev main_c_47 : Ref sig .tc := ⟨.hbm, 183, rfl⟩
abbrev main_call25_v0 : Ref sig .tc := ⟨.hbm, 184, rfl⟩
abbrev main_call25_v1 : Ref sig .tc := ⟨.hbm, 185, rfl⟩
abbrev main_call25_v2 : Ref sig .tc := ⟨.hbm, 186, rfl⟩
abbrev main_call25_v3 : Ref sig .tc := ⟨.hbm, 187, rfl⟩
abbrev main_call25_v4 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩

abbrev nD : Nat := 1
abbrev τ : Topo := Topo.v7x

variable {F : FTy → Type} [FloatOps F]
-- ==== Proof.KernelIdealT1.lean ====
module

public import proofs.«01_k».proof.Proof.Gen.KernelIdeal.Frame
public import proofs.«01_k».proof.Proof.Gen.KernelIdeal.Loops
public import proofs.«01_k».proof.Proof.Gen.KernelIdeal
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the frame kit. -/
local notation "𝕄G" => MT nD τ sig Unit (Elt F) ℕ (UR sig nD τ) ℕ

/-- What one trip of the absmax loop touches: the staged input, the slab, the flat maxima and the scales. -/
abbrev Trip1 (c : Dev nD) (arg1 : Memref sig .tc .vmem S1x64x14336 .bf16) (arg7 : Memref sig .tc .vmem S14x71x2x128 .bf16) (arg8 : Memref sig .tc .vmem S3584x128 .f32) (arg9 : Memref sig .tc .vmem S112x2x128 .bf16) (X1 : BufTy.Contents (Elt F) arg1.view.ty) (f7 : BufTy.Contents (Elt F) arg7.view.ty) (f8 : BufTy.Contents (Elt F) arg8.view.ty) (f9 : BufTy.Contents (Elt F) arg9.view.ty) : sProp 𝕄G :=
  iprop((arg1.view.loc (c : Thread nD τ) ↦[arg1.view.set]{fullShare} X1) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

/-- One trip of the absmax loop at a symbolic trip number over a slab at `f7`, run once: the pieces it writes into
    the slab, the flat maxima and the scales are what the run finds. -/
@[irreducible] def trip1 (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (v0 : BitVec 32) (X1 : BufTy.Contents (Elt F) arg1.view.ty) (k : Fin k0_t1_loop.trips) (f7 : BufTy.Contents (Elt F) arg7.view.ty) :
    Σ' (L7 : List (View.Piece (Elt F) S14x71x2x128 .bf16)) (L8 : List (View.Piece (Elt F) S3584x128 .f32)), { L9 : List (View.Piece (Elt F) S112x2x128 .bf16) // ∀ (E : Set ℕ) (f8 : BufTy.Contents (Elt F) arg8.view.ty) (f9 : BufTy.Contents (Elt F) arg9.view.ty),
      Trip1 (F := F) c arg1 arg7 arg8 arg9 X1 f7 f8 f9
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 v0 k PUnit.unit)
          (fun _ => Trip1 (F := F) c arg1 arg7 arg8 arg9 X1 (arg7.view.writes (Elt F) f7 L7) (arg8.view.writes (Elt F) f8 L8) (arg9.view.writes (Elt F) f9 L9)) } := by
  have hk : k.val < 14 := Nat.lt_of_lt_of_le k.isLt k0_t1_abs.2.1
  refine ⟨?_, ?_, ?_, fun E f8 f9 => ?run⟩
  case run =>
    unfold k0_t1_body
    iintro ⟨H1, H7, H8, H9⟩
    sl_exec
    sl_step
    sl_close

/-- What the slab, the flat maxima and the scales hold: one state of the absmax loop. -/
abbrev St1 (F : FTy → Type) [FloatOps F] (arg7 : Memref sig .tc .vmem S14x71x2x128 .bf16) (arg8 : Memref sig .tc .vmem S3584x128 .f32) (arg9 : Memref sig .tc .vmem S112x2x128 .bf16) :=
  BufTy.Contents (Elt F) arg7.view.ty × BufTy.Contents (Elt F) arg8.view.ty × BufTy.Contents (Elt F) arg9.view.ty

/-- One trip's effect on the state: its pieces written over it (nothing past the last trip). -/
@[irreducible] def step1 (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (v0 : BitVec 32) (X1 : BufTy.Contents (Elt F) arg1.view.ty) (k : ℕ) (s : St1 F arg7 arg8 arg9) : St1 F arg7 arg8 arg9 :=
  if h : k < k0_t1_loop.trips then
    (arg7.view.writes (Elt F) s.1 (trip1 (F := F) 𝒱 c bd i arg1 harg1 arg2 harg2 arg3 harg3 arg4 harg4 arg5 harg5 arg6 harg6 arg7 harg7 arg8 harg8 arg9 harg9 arg10 harg10 v0 X1 ⟨k, h⟩ s.1).1,
     arg8.view.writes (Elt F) s.2.1 (trip1 (F := F) 𝒱 c bd i arg1 harg1 arg2 harg2 arg3 harg3 arg4 harg4 arg5 harg5 arg6 harg6 arg7 harg7 arg8 harg8 arg9 harg9 arg10 harg10 v0 X1 ⟨k, h⟩ s.1).2.1,
     arg9.view.writes (Elt F) s.2.2 (trip1 (F := F) 𝒱 c bd i arg1 harg1 arg2 harg2 arg3 harg3 arg4 harg4 arg5 harg5 arg6 harg6 arg7 harg7 arg8 harg8 arg9 harg9 arg10 harg10 v0 X1 ⟨k, h⟩ s.1).2.2.1)
  else s

/-- The state before trip `k`, started at `s`. -/
def st1 (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (v0 : BitVec 32) (X1 : BufTy.Contents (Elt F) arg1.view.ty) (s : St1 F arg7 arg8 arg9) : ℕ → St1 F arg7 arg8 arg9
  | 0 => s
  | k + 1 => step1 𝒱 c bd i arg1 harg1 arg2 harg2 arg3 harg3 arg4 harg4 arg5 harg5 arg6 harg6 arg7 harg7 arg8 harg8 arg9 harg9 arg10 harg10 v0 X1 k (st1 𝒱 c bd i arg1 harg1 arg2 harg2 arg3 harg3 arg4 harg4 arg5 harg5 arg6 harg6 arg7 harg7 arg8 harg8 arg9 harg9 arg10 harg10 v0 X1 s k)

/-- The state after trip `k` is that trip's pieces over the state before it. -/
theorem st1_succ (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (v0 : BitVec 32) (X1 : BufTy.Contents (Elt F) arg1.view.ty) (s : St1 F arg7 arg8 arg9) (k : Fin k0_t1_loop.trips) :
    st1 (F := F) 𝒱 c bd i arg1 harg1 arg2 harg2 arg3 harg3 arg4 harg4 arg5 harg5 arg6 harg6 arg7 harg7 arg8 harg8 arg9 harg9 arg10 harg10 v0 X1 s (k.val + 1)
      = (arg7.view.writes (Elt F) (st1 𝒱 c bd i arg1 harg1 arg2 harg2 arg3 harg3 arg4 harg4 arg5 harg5 arg6 harg6 arg7 harg7 arg8 harg8 arg9 harg9 arg10 harg10 v0 X1 s k.val).1 (trip1 (F := F) 𝒱 c bd i arg1 harg1 arg2 harg2 arg3 harg3 arg4 harg4 arg5 harg5 arg6 harg6 arg7 harg7 arg8 harg8 arg9 harg9 arg10 harg10 v0 X1 k (st1 𝒱 c bd i arg1 harg1 arg2 harg2 arg3 harg3 arg4 harg4 arg5 harg5 arg6 harg6 arg7 harg7 arg8 harg8 arg9 harg9 arg10 harg10 v0 X1 s k.val).1).1,
         arg8.view.writes (Elt F) (st1 𝒱 c bd i arg1 harg1 arg2 harg2 arg3 harg3 arg4 harg4 arg5 harg5 arg6 harg6 arg7 harg7 arg8 harg8 arg9 harg9 arg10 harg10 v0 X1 s k.val).2.1 (trip1 (F := F) 𝒱 c bd i arg1 harg1 arg2 harg2 arg3 harg3 arg4 harg4 arg5 harg5 arg6 harg6 arg7 harg7 arg8 harg8 arg9 harg9 arg10 harg10 v0 X1 k (st1 𝒱 c bd i arg1 harg1 arg2 harg2 arg3 harg3 arg4 harg4 arg5 harg5 arg6 harg6 arg7 harg7 arg8 harg8 arg9 harg9 arg10 harg10 v0 X1 s k.val).1).2.1,
         arg9.view.writes (Elt F) (st1 𝒱 c bd i arg1 harg1 arg2 harg2 arg3 harg3 arg4 harg4 arg5 harg5 arg6 harg6 arg7 harg7 arg8 harg8 arg9 harg9 arg10 harg10 v0 X1 s k.val).2.2 (trip1 (F := F) 𝒱 c bd i arg1 harg1 arg2 harg2 arg3 harg3 arg4 harg4 arg5 harg5 arg6 harg6 arg7 harg7 arg8 harg8 arg9 harg9 arg10 harg10 v0 X1 k (st1 𝒱 c bd i arg1 harg1 arg2 harg2 arg3 harg3 arg4 harg4 arg5 harg5 arg6 harg6 arg7 harg7 arg8 harg8 arg9 harg9 arg10 harg10 v0 X1 s k.val).1).2.2.1) := by
  rw [st1.eq_2]; unfold step1; exact dif_pos k.isLt

/-- Before trip `k`: the staged input as it is; the slab, the flat maxima and the scales at the state of trip `k`. -/
abbrev inv1 (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (v0 : BitVec 32) (X1 : BufTy.Contents (Elt F) arg1.view.ty) (G7 : BufTy.Contents (Elt F) arg7.view.ty) (G8 : BufTy.Contents (Elt F) arg8.view.ty) (G9 : BufTy.Contents (Elt F) arg9.view.ty) (k : ℕ) (_u : PUnit) : sProp 𝕄G :=
  iprop((arg1.view.loc (c : Thread nD τ) ↦[arg1.view.set]{fullShare} X1) ∗ (∃ f, (arg7.view.loc (c : Thread nD τ) ↦[arg7.view.set]{fullShare} f) ∗ ⌜f = (st1 (F := F) 𝒱 c bd i arg1 harg1 arg2 harg2 arg3 harg3 arg4 harg4 arg5 harg5 arg6 harg6 arg7 harg7 arg8 harg8 arg9 harg9 arg10 harg10 v0 X1 (G7, G8, G9) k).1⌝) ∗ (∃ f, (arg8.view.loc (c : Thread nD τ) ↦[arg8.view.set]{fullShare} f) ∗ ⌜f = (st1 (F := F) 𝒱 c bd i arg1 harg1 arg2 harg2 arg3 harg3 arg4 harg4 arg5 harg5 arg6 harg6 arg7 harg7 arg8 harg8 arg9 harg9 arg10 harg10 v0 X1 (G7, G8, G9) k).2.1⌝) ∗ (∃ f, (arg9.view.loc (c : Thread nD τ) ↦[arg9.view.set]{fullShare} f) ∗ ⌜f = (st1 (F := F) 𝒱 c bd i arg1 harg1 arg2 harg2 arg3 harg3 arg4 harg4 arg5 harg5 arg6 harg6 arg7 harg7 arg8 harg8 arg9 harg9 arg10 harg10 v0 X1 (G7, G8, G9) k).2.2⌝))

set_option warn.classDefReducibility false in
/-- The absmax loop by its invariant. -/
@[sl_loop] def loopInv_k0_t1 (𝒱 : Variants) (c : Dev nD) (bd : Option 𝒱.V) (E : Set ℕ) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (v0 : BitVec 32) (X1 : BufTy.Contents (Elt F) arg1.view.ty) (G7 : BufTy.Contents (Elt F) arg7.view.ty) (G8 : BufTy.Contents (Elt F) arg8.view.ty) (G9 : BufTy.Contents (Elt F) arg9.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 v0 where
  inv := inv1 (F := F) 𝒱 c bd i arg1 harg1 arg2 harg2 arg3 harg3 arg4 harg4 arg5 harg5 arg6 harg6 arg7 harg7 arg8 harg8 arg9 harg9 arg10 harg10 v0 X1 G7 G8 G9
  step k acc := by
    iintro ⟨H1, ⟨%f7, H7, %h7⟩, ⟨%f8, H8, %h8⟩, ⟨%f9, H9, %h9⟩⟩
    iapply (wp_wand_r Idealize.ShloMosaic.frame (wpE (defs₀ (F := F)) 𝒱 (c : Thread nD τ) bd) E)
    isplitl [H1 H7 H8 H9]
    · iapply ((trip1 (F := F) 𝒱 c bd i arg1 harg1 arg2 harg2 arg3 harg3 arg4 harg4 arg5 harg5 arg6 harg6 arg7 harg7 arg8 harg8 arg9 harg9 arg10 harg10 v0 X1 k f7).2.2.2 E f8 f9)
      isplitl [H1]; · iexact H1
      isplitl [H7]; · iexact H7
      isplitl [H8]; · iexact H8
      iexact H9
    · iintro %_ ⟨H1, H7, H8, H9⟩
      isplitl [H1]; · iexact H1
      rw [st1_succ]
      isplitl [H7]
      · iexists _; isplitl [H7]; · iexact H7
        ipureintro; rw [← h7]
      isplitl [H8]
      · iexists _; isplitl [H8]; · iexact H8
        ipureintro; rw [← h7, ← h8]
      iexists _; isplitl [H9]; · iexact H9
      ipureintro; rw [← h7, ← h9]

end Cert.Proof.KernelIdeal

end
-- ==== Proof.KernelIdealRun.lean ====
module

public import proofs.«01_k».proof.Proof.Gen.KernelIdeal.Frame
public import proofs.«01_k».proof.Proof.Gen.KernelIdeal.Loops
public import proofs.«01_k».proof.Proof.Gen.KernelIdeal
public import proofs.«01_k».proof.Proof.KernelIdealT1
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the frame kit. -/
local notation "𝕄G" => MT nD τ sig Unit (Elt F) ℕ (UR sig nD τ) ℕ

/-- The kernel's ten buffers, each held whole. -/
abbrev Bufs (c : Dev nD) (arg1 : Memref sig .tc .vmem S1x64x14336 .bf16) (arg2 : Memref sig .tc .vmem S1x32x14336 .i8) (arg3 : Memref sig .tc .vmem S1x26x14336 .f32) (arg4 : Memref sig .tc .vmem S1456x256 .i8) (arg5 : Memref sig .tc .vmem S1x1456 .f32) (arg6 : Memref sig .tc .smem S1x1 .f32) (arg7 : Memref sig .tc .vmem S14x71x2x128 .bf16) (arg8 : Memref sig .tc .vmem S3584x128 .f32) (arg9 : Memref sig .tc .vmem S112x2x128 .bf16) (arg10 : Memref sig .tc .vmem S1456x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10))

/-- A grid point that writes neither the maxima nor the tail. -/
@[irreducible] def runA (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h1 : ¬ k0_cond1 i = 1#1) (h2 : ¬ k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    Σ' (C2 : BufTy.Contents (Elt F) arg2.view.ty) (C7 : BufTy.Contents (Elt F) arg7.view.ty) (C8 : BufTy.Contents (Elt F) arg8.view.ty), { C9 : BufTy.Contents (Elt F) arg9.view.ty // ∀ (E : Set ℕ),
      Bufs (F := F) c arg1 arg2 arg3 arg4 arg5 arg6 arg7 arg8 arg9 arg10 X1 X2 X3 X4 X5 X6 X7 X8 X9 X10
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => Bufs (F := F) c arg1 arg2 arg3 arg4 arg5 arg6 arg7 arg8 arg9 arg10 X1 C2 X3 X4 X5 X6 C7 C8 C9 X10) } := by
  refine ⟨?_, ?_, ?_, ?_, fun E => ?run⟩
  case run =>
    rw [cc0_nf4_double_quant_eq_skeleton]
    unfold cc0_nf4_double_quant_skel
    iintro ⟨H1, H2, H3, H4, H5, H6, H7, H8, H9, H10⟩
    sl_exec_parts
    sl_step
    sl_close

/-- A grid point that writes eight rows of the maxima. -/
@[irreducible] def runB (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h1 : k0_cond1 i = 1#1) (h2 : ¬ k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    Σ' (C2 : BufTy.Contents (Elt F) arg2.view.ty) (C3 : BufTy.Contents (Elt F) arg3.view.ty) (C7 : BufTy.Contents (Elt F) arg7.view.ty) (C8 : BufTy.Contents (Elt F) arg8.view.ty), { C9 : BufTy.Contents (Elt F) arg9.view.ty // ∀ (E : Set ℕ),
      Bufs (F := F) c arg1 arg2 arg3 arg4 arg5 arg6 arg7 arg8 arg9 arg10 X1 X2 X3 X4 X5 X6 X7 X8 X9 X10
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => Bufs (F := F) c arg1 arg2 arg3 arg4 arg5 arg6 arg7 arg8 arg9 arg10 X1 C2 C3 X4 X5 X6 C7 C8 C9 X10) } := by
  refine ⟨?_, ?_, ?_, ?_, ?_, fun E => ?run⟩
  case run =>
    rw [cc0_nf4_double_quant_eq_skeleton]
    unfold cc0_nf4_double_quant_skel
    iintro ⟨H1, H2, H3, H4, H5, H6, H7, H8, H9, H10⟩
    sl_exec_parts
    sl_step
    sl_close

/-- The last grid point, which writes the tail. -/
@[irreducible] def runC (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h1 : ¬ k0_cond1 i = 1#1) (h2 : k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    Σ' (C2 : BufTy.Contents (Elt F) arg2.view.ty) (C3 : BufTy.Contents (Elt F) arg3.view.ty) (C4 : BufTy.Contents (Elt F) arg4.view.ty) (C5 : BufTy.Contents (Elt F) arg5.view.ty) (C6 : BufTy.Contents (Elt F) arg6.view.ty) (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ),
      Bufs (F := F) c arg1 arg2 arg3 arg4 arg5 arg6 arg7 arg8 arg9 arg10 X1 X2 X3 X4 X5 X6 X7 X8 X9 X10
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => Bufs (F := F) c arg1 arg2 arg3 arg4 arg5 arg6 arg7 arg8 arg9 arg10 X1 C2 C3 C4 C5 C6 C7 C8 C9 C10) } := by
  refine ⟨?_, ?_, ?_, ?_, ?_, ?_, ?_, ?_, ?_, fun E => ?run⟩
  case run =>
    rw [cc0_nf4_double_quant_eq_skeleton]
    unfold cc0_nf4_double_quant_skel
    iintro ⟨H1, H2, H3, H4, H5, H6, H7, H8, H9, H10⟩
    sl_exec_parts
    sl_step
    sl_close

end Cert.Proof.KernelIdeal

end
-- ==== Proof.KernelIdealBody.lean ====
module

public import proofs.«01_k».proof.Proof.Gen.KernelIdeal.Frame
public import proofs.«01_k».proof.Proof.Gen.KernelIdeal.Loops
public import proofs.«01_k».proof.Proof.Gen.KernelIdeal
public import proofs.«01_k».proof.Proof.KernelIdealRun
public import proofs.«01_k».proof.Proof.Gen.KernelIdeal.Points
public import Idealize.ShloMosaic.Lib.Tactic

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the frame kit. -/
local notation "𝕄G" => MT nD τ sig Unit (Elt F) ℕ (UR sig nD τ) ℕ

/-- What one run of the body leaves, by the grid point's case: the contents the run of that case names. -/
def Res (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (C2 : BufTy.Contents (Elt F) arg2.view.ty) (C3 : BufTy.Contents (Elt F) arg3.view.ty) (C4 : BufTy.Contents (Elt F) arg4.view.ty) (C5 : BufTy.Contents (Elt F) arg5.view.ty) (C6 : BufTy.Contents (Elt F) arg6.view.ty) (C7 : BufTy.Contents (Elt F) arg7.view.ty) (C8 : BufTy.Contents (Elt F) arg8.view.ty) (C9 : BufTy.Contents (Elt F) arg9.view.ty) (C10 : BufTy.Contents (Elt F) arg10.view.ty) : Prop :=
  (∃ (h1 : ¬ k0_cond1 i = 1#1) (h2 : ¬ k0_cond2 i = 1#1),
    C2 = (runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).1 ∧ C3 = X3 ∧ C4 = X4 ∧ C5 = X5 ∧ C6 = X6
    ∧ C7 = (runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.1 ∧ C8 = (runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.1
    ∧ C9 = (runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.1 ∧ C10 = X10)
  ∨ (∃ (h1 : k0_cond1 i = 1#1) (h2 : ¬ k0_cond2 i = 1#1),
    C2 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).1 ∧ C3 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.1 ∧ C4 = X4 ∧ C5 = X5 ∧ C6 = X6
    ∧ C7 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.1 ∧ C8 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.1
    ∧ C9 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.1 ∧ C10 = X10)
  ∨ (∃ (h1 : ¬ k0_cond1 i = 1#1) (h2 : k0_cond2 i = 1#1),
    C2 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).1 ∧ C3 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.1
    ∧ C4 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.1 ∧ C5 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.1
    ∧ C6 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.1 ∧ C7 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.1
    ∧ C8 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.2.1 ∧ C9 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.2.2.1
    ∧ C10 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.2.2.2.1)

/-- No grid point is both one that writes eight rows of maxima and the last one. -/
theorem not_both : ∀ t : Fin grid0.N, ¬ (k0_cond1 (grid0.coords t) = 1#1 ∧ k0_cond2 (grid0.coords t) = 1#1) := by decide

/-- The body run from any contents of its ten buffers: it returns with contents `Res` describes. -/
theorem run_res (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (hn : ¬ (k0_cond1 i = 1#1 ∧ k0_cond2 i = 1#1)) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (E : Set ℕ) :
    Bufs (F := F) c arg1 arg2 arg3 arg4 arg5 arg6 arg7 arg8 arg9 arg10 X1 X2 X3 X4 X5 X6 X7 X8 X9 X10
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => iprop(∃ (C2 : BufTy.Contents (Elt F) arg2.view.ty) (C3 : BufTy.Contents (Elt F) arg3.view.ty) (C4 : BufTy.Contents (Elt F) arg4.view.ty) (C5 : BufTy.Contents (Elt F) arg5.view.ty) (C6 : BufTy.Contents (Elt F) arg6.view.ty) (C7 : BufTy.Contents (Elt F) arg7.view.ty) (C8 : BufTy.Contents (Elt F) arg8.view.ty) (C9 : BufTy.Contents (Elt F) arg9.view.ty) (C10 : BufTy.Contents (Elt F) arg10.view.ty), ⌜Res (F := F) 𝒱 c i arg1 harg1 arg2 harg2 arg3 harg3 arg4 harg4 arg5 harg5 arg6 harg6 arg7 harg7 arg8 harg8 arg9 harg9 arg10 harg10 X1 X2 X3 X4 X5 X6 X7 X8 X9 X10 C2 C3 C4 C5 C6 C7 C8 C9 C10⌝ ∗ Bufs (F := F) c arg1 arg2 arg3 arg4 arg5 arg6 arg7 arg8 arg9 arg10 X1 C2 C3 C4 C5 C6 C7 C8 C9 C10)) := by
  by_cases h1 : k0_cond1 i = 1#1
  · by_cases h2 : k0_cond2 i = 1#1
    · exact absurd ⟨h1, h2⟩ hn
    · iintro H
      iapply (wp_wand_r Idealize.ShloMosaic.frame (wpE (defs₀ (F := F)) 𝒱 (c : Thread nD τ) none) E)
      isplitl [H]
      · iapply ((runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2 E); iexact H
      · iintro %_ H
        iexists _, _, _, _, _, _, _, _, _
        isplitr [H]
        · ipureintro
          exact .inr (.inl ⟨h1, h2, rfl, rfl, rfl, rfl, rfl, rfl, rfl, rfl, rfl⟩)
        · iexact H
  · by_cases h2 : k0_cond2 i = 1#1
    · iintro H
      iapply (wp_wand_r Idealize.ShloMosaic.frame (wpE (defs₀ (F := F)) 𝒱 (c : Thread nD τ) none) E)
      isplitl [H]
      · iapply ((runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.2.2.2.2 E); iexact H
      · iintro %_ H
        iexists _, _, _, _, _, _, _, _, _
        isplitr [H]
        · ipureintro
          exact .inr (.inr ⟨h1, h2, rfl, rfl, rfl, rfl, rfl, rfl, rfl, rfl, rfl⟩)
        · iexact H
    · iintro H
      iapply (wp_wand_r Idealize.ShloMosaic.frame (wpE (defs₀ (F := F)) 𝒱 (c : Thread nD τ) none) E)
      isplitl [H]
      · iapply ((runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2 E); iexact H
      · iintro %_ H
        iexists _, _, _, _, _, _, _, _, _
        isplitr [H]
        · ipureintro
          exact .inl ⟨h1, h2, rfl, rfl, rfl, rfl, rfl, rfl, rfl, rfl, rfl⟩
        · iexact H

/-- A buffer held whole at `f`. -/
abbrev Pt (c : Dev nD) {sp : Space} {S : Shape} {e : EltTy} (M : Memref sig .tc sp S e) (f : BufTy.Contents (Elt F) M.view.ty) : sProp 𝕄G :=
  iprop(M.view.loc (c : Thread nD τ) ↦[M.view.set]{fullShare} f)

/-- The body run from staging buffers holding `Y1 … Y6` and flat maxima satisfying `P`: what is left is related to them by
    `A1 … A6` and the flat maxima satisfy `P'`, provided every result `Res` describes is. -/
theorem run_owns (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (hn : ¬ (k0_cond1 i = 1#1 ∧ k0_cond2 i = 1#1))
    (P P' : BufTy.Contents (Elt F) arg8.view.ty → Prop)
    (Y1 : S1x64x14336.Idx → Elt F .bf16) (Y2 : S1x32x14336.Idx → Elt F .i8) (Y3 : S1x26x14336.Idx → Elt F .f32) (Y4 : S1456x256.Idx → Elt F .i8) (Y5 : S1x1456.Idx → Elt F .f32) (Y6 : S1x1.Idx → Elt F .f32)
    (A1 : (S1x64x14336.Idx → Elt F .bf16) → Prop) (A2 : (S1x32x14336.Idx → Elt F .i8) → Prop) (A3 : (S1x26x14336.Idx → Elt F .f32) → Prop) (A4 : (S1456x256.Idx → Elt F .i8) → Prop) (A5 : (S1x1456.Idx → Elt F .f32) → Prop) (A6 : (S1x1.Idx → Elt F .f32) → Prop)
    (H : ∀ (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (C2 : BufTy.Contents (Elt F) arg2.view.ty) (C3 : BufTy.Contents (Elt F) arg3.view.ty) (C4 : BufTy.Contents (Elt F) arg4.view.ty) (C5 : BufTy.Contents (Elt F) arg5.view.ty) (C6 : BufTy.Contents (Elt F) arg6.view.ty) (C7 : BufTy.Contents (Elt F) arg7.view.ty) (C8 : BufTy.Contents (Elt F) arg8.view.ty) (C9 : BufTy.Contents (Elt F) arg9.view.ty) (C10 : BufTy.Contents (Elt F) arg10.view.ty), arg1.view.read (Elt F) X1 = Y1 → arg2.view.read (Elt F) X2 = Y2 → arg3.view.read (Elt F) X3 = Y3 → arg4.view.read (Elt F) X4 = Y4 → arg5.view.read (Elt F) X5 = Y5 → arg6.view.read (Elt F) X6 = Y6 →
      P X8 → Res (F := F) 𝒱 c i arg1 harg1 arg2 harg2 arg3 harg3 arg4 harg4 arg5 harg5 arg6 harg6 arg7 harg7 arg8 harg8 arg9 harg9 arg10 harg10 X1 X2 X3 X4 X5 X6 X7 X8 X9 X10 C2 C3 C4 C5 C6 C7 C8 C9 C10 →
      A1 Y1 ∧ A2 (arg2.view.read (Elt F) C2) ∧ A3 (arg3.view.read (Elt F) C3) ∧ A4 (arg4.view.read (Elt F) C4) ∧ A5 (arg5.view.read (Elt F) C5) ∧ A6 (arg6.view.read (Elt F) C6) ∧ P' C8) (E : Set ℕ) :
    iprop(((∃ f, Pt (F := F) c arg7 f) ∗ (∃ f, ⌜P f⌝ ∗ Pt (F := F) c arg8 f) ∗ (∃ f, Pt (F := F) c arg9 f) ∗ (∃ f, Pt (F := F) c arg10 f))
      ∗ owns (c : Thread nD τ) arg1 fullShare Y1 ∗ owns (c : Thread nD τ) arg2 fullShare Y2 ∗ owns (c : Thread nD τ) arg3 fullShare Y3
      ∗ owns (c : Thread nD τ) arg4 fullShare Y4 ∗ owns (c : Thread nD τ) arg5 fullShare Y5 ∗ owns (c : Thread nD τ) arg6 fullShare Y6)
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => iprop(((∃ f, Pt (F := F) c arg7 f) ∗ (∃ f, ⌜P' f⌝ ∗ Pt (F := F) c arg8 f) ∗ (∃ f, Pt (F := F) c arg9 f) ∗ (∃ f, Pt (F := F) c arg10 f))
            ∗ (∃ X, ⌜A1 X⌝ ∗ owns (c : Thread nD τ) arg1 fullShare X) ∗ (∃ X, ⌜A2 X⌝ ∗ owns (c : Thread nD τ) arg2 fullShare X)
            ∗ (∃ X, ⌜A3 X⌝ ∗ owns (c : Thread nD τ) arg3 fullShare X) ∗ (∃ X, ⌜A4 X⌝ ∗ owns (c : Thread nD τ) arg4 fullShare X)
            ∗ (∃ X, ⌜A5 X⌝ ∗ owns (c : Thread nD τ) arg5 fullShare X) ∗ (∃ X, ⌜A6 X⌝ ∗ owns (c : Thread nD τ) arg6 fullShare X))) := by
  unfold owns
  iintro ⟨⟨⟨%f7, H7⟩, ⟨%f8, %hP, H8⟩, ⟨%f9, H9⟩, ⟨%f10, H10⟩⟩, ⟨%f1, %e1, H1⟩, ⟨%f2, %e2, H2⟩, ⟨%f3, %e3, H3⟩, ⟨%f4, %e4, H4⟩, ⟨%f5, %e5, H5⟩, ⟨%f6, %e6, H6⟩⟩
  iapply (wp_wand_r Idealize.ShloMosaic.frame (wpE (defs₀ (F := F)) 𝒱 (c : Thread nD τ) none) E)
  isplitl [H1 H2 H3 H4 H5 H6 H7 H8 H9 H10]
  · iapply (run_res (F := F) 𝒱 c i arg1 harg1 arg2 harg2 arg3 harg3 arg4 harg4 arg5 harg5 arg6 harg6 arg7 harg7 arg8 harg8 arg9 harg9 arg10 harg10 hn f1 f2 f3 f4 f5 f6 f7 f8 f9 f10 E)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %_ ⟨%C2, %C3, %C4, %C5, %C6, %C7, %C8, %C9, %C10, %hres, H1, H2, H3, H4, H5, H6, H7, H8, H9, H10⟩
    obtain ⟨a0, a1, a2, a3, a4, a5, aP⟩ := H f1 f2 f3 f4 f5 f6 f7 f8 f9 f10 C2 C3 C4 C5 C6 C7 C8 C9 C10 e1 e2 e3 e4 e5 e6 hP hres
    isplitl [H7 H8 H9 H10]
    · isplitl [H7]; · iexists _; iexact H7
      isplitl [H8]
      · iexists _; isplitr [H8]; · ipureintro; exact aP
        iexact H8
      isplitl [H9]; · iexists _; iexact H9
      iexists _; iexact H10
    isplitl [H1]
    · iexists _; isplitr [H1]; · ipureintro; exact a0
      iexists _; isplitr [H1]; · ipureintro; exact e1
      iexact H1
    isplitl [H2]
    · iexists _; isplitr [H2]; · ipureintro; exact a1
      iexists _; isplitr [H2]; · ipureintro; rfl
      iexact H2
    isplitl [H3]
    · iexists _; isplitr [H3]; · ipureintro; exact a2
      iexists _; isplitr [H3]; · ipureintro; rfl
      iexact H3
    isplitl [H4]
    · iexists _; isplitr [H4]; · ipureintro; exact a3
      iexists _; isplitr [H4]; · ipureintro; rfl
      iexact H4
    isplitl [H5]
    · iexists _; isplitr [H5]; · ipureintro; exact a4
      iexists _; isplitr [H5]; · ipureintro; rfl
      iexact H5
    iexists _; isplitr [H6]; · ipureintro; exact a5
    iexists _; isplitr [H6]; · ipureintro; rfl
    iexact H6

/-! ## The relational proof data -/

open Idealize.ShloMosaic.Pipeline (RDat)

/-- What is carried between grid points: the four scratch buffers, the flat maxima satisfying `P t`, and the
    core's random-number register. -/
def Phi (P : ℕ → (BufTy.Contents (Elt F) (Memref.whole cc0_scratch1).view.ty) → Prop) (c : Dev nD) (t : ℕ) : sProp 𝕄G :=
  iprop(((∃ f, Pt (F := F) c (Memref.whole cc0_scratch0) f) ∗ (∃ f, ⌜P t f⌝ ∗ Pt (F := F) c (Memref.whole cc0_scratch1) f)
      ∗ (∃ f, Pt (F := F) c (Memref.whole cc0_scratch2) f) ∗ (∃ f, Pt (F := F) c (Memref.whole cc0_scratch3) f))
    ∗ ∃ r, prngReg c r)

/-- The class invariant, said with the scratch buffers as memrefs. -/
theorem PhiA_eq (c : Dev nD) : (Pipeline.ΦA (Val := Elt F) (U := UR sig nD τ) spec0 c : sProp 𝕄G)
    = iprop(((∃ f, Pt (F := F) c (Memref.whole cc0_scratch0) f) ∗ (∃ f, Pt (F := F) c (Memref.whole cc0_scratch1) f)
      ∗ (∃ f, Pt (F := F) c (Memref.whole cc0_scratch2) f) ∗ (∃ f, Pt (F := F) c (Memref.whole cc0_scratch3) f)) ∗ ∃ r, prngReg c r) := by
  unfold Pipeline.ΦA Pt
  rw [scopedRest0_eq, (Memref.isWhole_whole cc0_scratch0).set_eq_univ, (Memref.isWhole_whole cc0_scratch1).set_eq_univ, (Memref.isWhole_whole cc0_scratch2).set_eq_univ, (Memref.isWhole_whole cc0_scratch3).set_eq_univ]

variable (m : (ℓ : Loc nD τ sig) → Buf (Elt F) ℓ) (ρ : Dev nD → PrngReg)

/-- The type of a relation between what a window's staging buffer holds before and after the body. -/
abbrev AftTy (F : FTy → Type) := (w : Fin cfg0.W) → Fin cfg0.N → (Y X : (cfg0.win w).block.Idx → Elt F (cfg0.win w).elt) → Prop

/-- The relational data: the arrays as the region finds them, the relation `aft`, the flat maxima satisfying `P`. -/
def rdat (aft : AftTy F) (P : ℕ → (BufTy.Contents (Elt F) (Memref.whole cc0_scratch1).view.ty) → Prop) (c : Dev nD) : RDat τ (Elt F) Unit ℕ (UR sig nD τ) ℕ cfg0 c where
  A w := V m c (Pipeline.arrRef spec0 w)
  after := aft
  Φ t := Phi P c t.val
  q _ := fullShare
  owed _ := 0

/-- What is to be shown of one run of the body, in plain terms: from contents the staging buffers may hold and flat
    maxima satisfying `P t`, what the run leaves is related by `aft` and its flat maxima satisfy `P (t + 1)`. -/
def Step (aft : AftTy F) (P : ℕ → (BufTy.Contents (Elt F) (Memref.whole cc0_scratch1).view.ty) → Prop) (c : Dev nD) : Prop :=
  ∀ (t : Fin cfg0.N) (Y : (w : Fin cfg0.W) → (cfg0.win w).block.Idx → Elt F (cfg0.win w).elt)
    (_ : ∀ w, (rdat m aft P c).Finds w t (Y w))
    (X1 : BufTy.Contents (Elt F) (st0_0 t).view.ty) (X2 : BufTy.Contents (Elt F) (st0_1 t).view.ty) (X3 : BufTy.Contents (Elt F) (st0_2 t).view.ty)
    (X4 : BufTy.Contents (Elt F) (st0_3 t).view.ty) (X5 : BufTy.Contents (Elt F) (st0_4 t).view.ty) (X6 : BufTy.Contents (Elt F) (st0_5 t).view.ty)
    X7 X8 X9 X10 C2 C3 C4 C5 C6 C7 C8 C9 C10,
    (st0_0 t).view.read (Elt F) X1 = Y 0 → (st0_1 t).view.read (Elt F) X2 = Y 1 → (st0_2 t).view.read (Elt F) X3 = Y 2 →
    (st0_3 t).view.read (Elt F) X4 = Y 3 → (st0_4 t).view.read (Elt F) X5 = Y 4 → (st0_5 t).view.read (Elt F) X6 = Y 5 →
    P t.val X8 →
    Res (F := F) Variants.none c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) X1 X2 X3 X4 X5 X6 X7 X8 X9 X10 C2 C3 C4 C5 C6 C7 C8 C9 C10 →
    aft 0 t (Y 0) (Y 0) ∧ aft 1 t (Y 1) ((st0_1 t).view.read (Elt F) C2) ∧ aft 2 t (Y 2) ((st0_2 t).view.read (Elt F) C3)
    ∧ aft 3 t (Y 3) ((st0_3 t).view.read (Elt F) C4) ∧ aft 4 t (Y 4) ((st0_4 t).view.read (Elt F) C5) ∧ aft 5 t (Y 5) ((st0_5 t).view.read (Elt F) C6)
    ∧ P (t.val + 1) C8

/-- The body's row of the label table. -/
theorem row0 (t : Fin cfg0.N) : (defs₀ (F := F)) .tc cfg0.body (cfg0.bodyArgs t (cfg0.slots t)) = bodyAt0 (F := F) t := by
  unfold defs₀; rw [Defs.onTc_tc]

/-- The body obligation of the relational data, from the plain step. -/
theorem body_obligation (aft : AftTy F) (P : ℕ → (BufTy.Contents (Elt F) (Memref.whole cc0_scratch1).view.ty) → Prop) (c : Dev nD) (hstep : Step m aft P c) :
    (rdat m aft P c).BodyObligation (defs₀ (F := F)) Variants.none () Set.univ := by
  intro t Y hY
  rw [row0, bigSep_W0, bigSep_W0]
  show iprop(Phi P c t.val ∗ (rdat m aft P c).owesAt () t.castSucc
      ∗ owns (c : Thread nD τ) (st0_0 t) fullShare (Y 0) ∗ owns (c : Thread nD τ) (st0_1 t) fullShare (Y 1) ∗ owns (c : Thread nD τ) (st0_2 t) fullShare (Y 2)
      ∗ owns (c : Thread nD τ) (st0_3 t) fullShare (Y 3) ∗ owns (c : Thread nD τ) (st0_4 t) fullShare (Y 4) ∗ owns (c : Thread nD τ) (st0_5 t) fullShare (Y 5))
    ⊢ wp frame (wpE (defs₀ (F := F)) Variants.none (c : Thread nD τ) none) Set.univ (bodyAt0 (F := F) t) (fun _ =>
      iprop(Phi P c (t.val + 1) ∗ (rdat m aft P c).owesAt () t.castSucc
      ∗ (∃ X, ⌜aft 0 t (Y 0) X⌝ ∗ owns (c : Thread nD τ) (st0_0 t) fullShare X) ∗ (∃ X, ⌜aft 1 t (Y 1) X⌝ ∗ owns (c : Thread nD τ) (st0_1 t) fullShare X)
      ∗ (∃ X, ⌜aft 2 t (Y 2) X⌝ ∗ owns (c : Thread nD τ) (st0_2 t) fullShare X) ∗ (∃ X, ⌜aft 3 t (Y 3) X⌝ ∗ owns (c : Thread nD τ) (st0_3 t) fullShare X)
      ∗ (∃ X, ⌜aft 4 t (Y 4) X⌝ ∗ owns (c : Thread nD τ) (st0_4 t) fullShare X) ∗ (∃ X, ⌜aft 5 t (Y 5) X⌝ ∗ owns (c : Thread nD τ) (st0_5 t) fullShare X)))
  unfold Phi
  iintro ⟨⟨HS, HR⟩, HO, HW⟩
  iapply (wp_wand_r Idealize.ShloMosaic.frame (wpE (defs₀ (F := F)) Variants.none (c : Thread nD τ) none) Set.univ)
  isplitl [HS HW]
  · iapply (run_owns (F := F) Variants.none c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (not_both t)
      (P t.val) (P (t.val + 1)) (Y 0) (Y 1) (Y 2) (Y 3) (Y 4) (Y 5) (aft 0 t (Y 0)) (aft 1 t (Y 1)) (aft 2 t (Y 2)) (aft 3 t (Y 3)) (aft 4 t (Y 4)) (aft 5 t (Y 5))
      (fun X1 X2 X3 X4 X5 X6 X7 X8 X9 X10 C2 C3 C4 C5 C6 C7 C8 C9 C10 e1 e2 e3 e4 e5 e6 hP hres =>
        hstep t Y hY X1 X2 X3 X4 X5 X6 X7 X8 X9 X10 C2 C3 C4 C5 C6 C7 C8 C9 C10 e1 e2 e3 e4 e5 e6 hP hres) Set.univ)
    isplitl [HS]; · iexact HS
    iexact HW
  · iintro %_ ⟨HS, HW⟩
    isplitl [HS HR]
    · isplitl [HS]; · iexact HS
      iexact HR
    isplitl [HO]; · iexact HO
    iexact HW

/-- Each window's share is the full one. -/
theorem share_full (aft : AftTy F) (P : ℕ → (BufTy.Contents (Elt F) (Memref.whole cc0_scratch1).view.ty) → Prop) (c : Dev nD) (w : Fin cfg0.W) :
    (rdat m aft P c).share w = fullShare := by
  unfold RDat.share; split <;> rfl

/-- The run of the whole program: it ends with the arrays the relational data allow, and every semaphore at zero. -/
theorem run_main (aft : AftTy F) (P : ℕ → (BufTy.Contents (Elt F) (Memref.whole cc0_scratch1).view.ty) → Prop) (h0 : ∀ f, P 0 f) (hstep : ∀ c, Step m aft P c) :
    θ_run defs (onTc (τ := τ) (main (F := F))) (s₀ m ρ) (fun r => RDat.FramePost cfg0 (rdat m aft P) (V m) r ∧ r.2.sem = fun _ => 0) :=
  RDat.θ_run_frame_track cfgs 0 launch0 defs₀ Variants.none (rdat m aft P) m ρ main
    (fun c => body_obligation m aft P c (hstep c)) (share_full m aft P) (fun _ _ => rfl) (V m) (hmain m Variants.none) (fun _ _ => rfl)
    (fun c => by
      show Pipeline.ΦA spec0 c ⊢ Phi P c 0
      rw [PhiA_eq]; unfold Phi
      iintro ⟨⟨H7, ⟨%f8, H8⟩, H9, H10⟩, HR⟩
      isplitr [HR]
      · isplitl [H7]; · iexact H7
        isplitl [H8]
        · iexists f8; isplitr [H8]; · ipureintro; exact h0 f8
          iexact H8
        isplitl [H9]; · iexact H9
        iexact H10
      iexact HR)
    (fun c => by
      show Phi P c _ ⊢ Pipeline.ΦA spec0 c
      rw [PhiA_eq]; unfold Phi
      iintro ⟨⟨H7, ⟨%f8, -, H8⟩, H9, H10⟩, HR⟩
      isplitr [HR]
      · isplitl [H7]; · iexact H7
        isplitl [H8]; · iexists f8; iexact H8
        isplitl [H9]; · iexact H9
        iexact H10
      iexact HR)
    _ (fun _ h => h)

/-- The argument is unchanged and every semaphore ends at zero: the frame, whatever the body leaves. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (RDat.FramePost.arr_in h.1 c 0 rfl).trans rfl, h.2⟩)
    (run_main m ρ (fun _ _ _ _ => True) (fun _ _ => True) (fun _ => trivial) (fun c t => by intros; exact ⟨trivial, trivial, trivial, trivial, trivial, trivial, trivial⟩))

end Cert.Proof.KernelIdeal

end
-- ==== Proof.V1.lean ====
module

public import proofs.«01_k».proof.Proof.KernelIdealBody
public import proofs.«01_k».proof.Proof.Gen.KernelIdeal.Loops
public import proofs.«01_k».proof.Proof.Gen.KernelIdeal
public import Idealize.ShloMosaic.Lib.Tactic
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The word of an input block's row `r` and column `c`. -/
def at1 (x : S1x64x14336.Idx → EReal) (r c : ℕ) : EReal := x (ix3 0 (Fin.ofNat 64 r) (Fin.ofNat 14336 c))

/-- An entry of an input block is the word named by its row and column numbers. -/
theorem at1_eq (x : S1x64x14336.Idx → EReal) (r : Fin 64) (c : Fin 14336) (r' c' : ℕ) (hr : r.val = r') (hc : c.val = c') :
    x (ix3 0 r c) = at1 x r' c' := by
  subst hr hc; unfold at1; congr 2 <;> (apply Fin.ext; simp [Fin.ofNat, Nat.mod_eq_of_lt])

/-- The absolute value of a bf16 float at the ideal instance. -/
abbrev ab (x : EReal) : EReal := FloatOps.absf (F := Ideal) (φ := .bf16) x

/-- The largest absolute value of a column's rows `r`, `16 + r`, `32 + r` and `48 + r`. -/
def qm (x : S1x64x14336.Idx → EReal) (c r : ℕ) : EReal :=
  max (max (max (ab (at1 x r c)) (ab (at1 x (16 + r) c))) (ab (at1 x (32 + r) c))) (ab (at1 x (48 + r) c))

/-- The largest absolute value of a column. -/
def cm (x : S1x64x14336.Idx → EReal) (c : ℕ) : EReal := (Finset.range 64).sup fun r => ab (at1 x r c)

/-- The sixteen maxima over four rows together are the column's maximum. -/
theorem cm_tree (x : S1x64x14336.Idx → EReal) (c : ℕ) :
    max (max (max (max (max (max (max (max (qm x c 1) (qm x c 3)) (qm x c 5)) (qm x c 7)) (qm x c 9)) (qm x c 11)) (qm x c 13)) (qm x c 15))
      (max (max (max (max (max (max (max (qm x c 0) (qm x c 2)) (qm x c 4)) (qm x c 6)) (qm x c 8)) (qm x c 10)) (qm x c 12)) (qm x c 14)) = cm x c := by
  apply eq_of_forall_ge_iff
  intro b
  unfold cm qm
  rw [Finset.sup_le_iff]
  simp only [max_le_iff, Finset.mem_range]
  constructor
  · intro h r hr
    interval_cases r <;> simp_all
  · intro h
    simp only [h, and_self, Nat.reduceAdd, Nat.reduceLT]

/-- A load through a unit rectangle reads the buffer at the index moved by the offsets. -/
theorem rd_unit {sig : RefSig} {κ : Kind} {sp : Space} {s : Shape} {e : EltTy} {Val : EltTy → Type} (v : View sig κ sp s e) (X : v.ty.Contents Val)
    {off size : Fin s.rank → ℕ} {inb} (off' : Fin s.rank → ℕ) (ho : off = off') (x : (Rect.unit (s := s) off size inb).shape.Idx) (y : s.Idx) (h : ∀ a, (y a).val = off' a + (x a).val) :
    v.readAt Val (Rect.unit off size inb).toLoadRect X x = v.read Val X y := by
  subst ho
  rw [View.readAt_apply]; congr 1; funext a; apply Fin.ext
  show off a + 1 * (x a).val = (y a).val
  rw [h a, Nat.one_mul]

/-- An index of four axes, the first of one element, by its coordinates. -/
theorem cov4 {a b c : ℕ} (x : (⟨4, ![1, a, b, c]⟩ : Shape).Idx) : ∃ (i : Fin a) (j : Fin b) (k : Fin c), x = ix4 0 i j k := by
  refine ⟨x 1, x 2, x 3, (eq_ix4 x).trans ?_⟩
  congr 1
  exact Subsingleton.elim (α := Fin 1) _ _

/-- An index of three axes, the first of one element, by its coordinates. -/
theorem cov3 {a b : ℕ} (x : (⟨3, ![1, a, b]⟩ : Shape).Idx) : ∃ (i : Fin a) (j : Fin b), x = ix3 0 i j := by
  refine ⟨x 1, x 2, (eq_ix3 x).trans ?_⟩
  congr 1
  exact Subsingleton.elim (α := Fin 1) _ _

/-- An index of two axes by its coordinates. -/
theorem cov2 {a b : ℕ} (x : (⟨2, ![a, b]⟩ : Shape).Idx) : ∃ (i : Fin a) (j : Fin b), x = ix2 i j :=
  ⟨x 0, x 1, eq_ix2 x⟩

/-- Where every piece agrees with one array, so does what the pieces leave, wherever one of them lies. -/
theorem read_writes_all {sig : RefSig} {κ : Kind} {sp : Space} {s : Shape} {e : EltTy} {Val : EltTy → Type} (v : View sig κ sp s e) (f : v.ty.Contents Val)
    (G : s.Idx → Val e) : ∀ (L : List (View.Piece Val s e)), (∀ p ∈ L, ∀ x, p.2 x = G (p.1.emb x)) → ∀ y, (∃ p ∈ L, y ∈ p.1.set) →
      v.read Val (v.writes Val f L) y = G y
  | [], _, y, h => by obtain ⟨_, hm, _⟩ := h; exact absurd hm List.not_mem_nil
  | p :: L, hG, y, h => by
    by_cases hy : y ∈ p.1.set
    · obtain ⟨x, rfl⟩ : ∃ x, p.1.emb x = y := p.1.exists_idx_of_mem hy
      obtain ⟨r, w⟩ := p
      rw [View.read_writes_cons_emb]
      exact hG _ List.mem_cons_self x
    · have hy' : y ∉ Finset.univ.map p.1.emb := by rwa [Rect.map_emb_univ]
      rw [View.writes_cons, View.read_slice_write_of_not_mem p.1 _ _ _ hy']
      refine read_writes_all v f G L (fun p' h' => hG p' (List.mem_cons_of_mem _ h')) y ?_
      obtain ⟨p', hm, hp⟩ := h
      rcases List.mem_cons.mp hm with rfl | hm
      · exact absurd hp hy
      · exact ⟨p', hm, hp⟩

/-- The loop over the maxima makes 14 trips. -/
theorem trips_t1 : k0_t1_loop.trips = 14 := by decide

end Cert.Proof.KernelIdeal

end
-- ==== Proof.V2.lean ====
module

public import proofs.«01_k».proof.Proof.KernelIdealBody
public import proofs.«01_k».proof.Proof.Gen.KernelIdeal.Loops
public import proofs.«01_k».proof.Proof.Gen.KernelIdeal
public import proofs.«01_k».proof.Proof.V1
public import Idealize.ShloMosaic.Lib.Tactic
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- Offset 1 of trip `k`: rows from 0, the lanes of tile `8 k + s`. -/
theorem off1_eq'' (k : Fin k0_t1_loop.trips) (s : ℕ) (hs : s < 8) : k0_off1 k (BitVec.ofNat 32 s) = ![0, 0, (k.val * 8 + s) * 128] := by
  have hk : k.val < 14 := Nat.lt_of_lt_of_le k.isLt k0_t1_abs.2.1
  unfold k0_off1
  dsimp only
  congr 3
  simp [Scalar.muli, Scalar.addi, IntOp.muli, IntOp.addi, Scf.iv, Scalar.indexCast]
  omega

/-- A load of sixteen rows from 0 reads the block's words. -/
theorem rdo1 (arg1 : Memref sig .tc .vmem S1x64x14336 .bf16) (X1 : BufTy.Contents (Elt Ideal) arg1.view.ty) (k : Fin k0_t1_loop.trips) (s : ℕ) (hs : s < 8) {inb} (r : Fin 16) (l : Fin 128) (r' : ℕ) (hr : r.val = r') :
    View.readAt (Elt Ideal) arg1.view (Rect.unit (s := S1x64x14336) (k0_off1 k (BitVec.ofNat 32 s)) S1x16x128.size inb).toLoadRect X1 (ix3 0 r l)
      = at1 (arg1.view.read (Elt Ideal) X1) (0 + r') ((k.val * 8 + s) * 128 + l.val) := by
  have hk : k.val < 14 := Nat.lt_of_lt_of_le k.isLt k0_t1_abs.2.1
  have hl := l.isLt
  refine (rd_unit arg1.view X1 _ (off1_eq'' k s hs) (ix3 0 r l) (ix3 0 ⟨0 + r.val, by omega⟩ ⟨(k.val * 8 + s) * 128 + l.val, by omega⟩) ?_).trans
    (at1_eq _ _ _ _ _ (by simp only [hr]) rfl)
  intro a
  fin_cases a <;> simp [ix3]

/-- Offset 2 of trip `k`: rows from 16, the lanes of tile `8 k + s`. -/
theorem off2_eq (k : Fin k0_t1_loop.trips) (s : ℕ) (hs : s < 8) : k0_off2 k (BitVec.ofNat 32 s) = ![0, 16, (k.val * 8 + s) * 128] := by
  have hk : k.val < 14 := Nat.lt_of_lt_of_le k.isLt k0_t1_abs.2.1
  unfold k0_off2
  dsimp only
  congr 3
  simp [Scalar.muli, Scalar.addi, IntOp.muli, IntOp.addi, Scf.iv, Scalar.indexCast]
  omega

/-- A load of sixteen rows from 16 reads the block's words. -/
theorem rdo2 (arg1 : Memref sig .tc .vmem S1x64x14336 .bf16) (X1 : BufTy.Contents (Elt Ideal) arg1.view.ty) (k : Fin k0_t1_loop.trips) (s : ℕ) (hs : s < 8) {inb} (r : Fin 16) (l : Fin 128) (r' : ℕ) (hr : r.val = r') :
    View.readAt (Elt Ideal) arg1.view (Rect.unit (s := S1x64x14336) (k0_off2 k (BitVec.ofNat 32 s)) S1x16x128.size inb).toLoadRect X1 (ix3 0 r l)
      = at1 (arg1.view.read (Elt Ideal) X1) (16 + r') ((k.val * 8 + s) * 128 + l.val) := by
  have hk : k.val < 14 := Nat.lt_of_lt_of_le k.isLt k0_t1_abs.2.1
  have hl := l.isLt
  refine (rd_unit arg1.view X1 _ (off2_eq k s hs) (ix3 0 r l) (ix3 0 ⟨16 + r.val, by omega⟩ ⟨(k.val * 8 + s) * 128 + l.val, by omega⟩) ?_).trans
    (at1_eq _ _ _ _ _ (by simp only [hr]) rfl)
  intro a
  fin_cases a <;> simp [ix3]

/-- Offset 3 of trip `k`: rows from 32, the lanes of tile `8 k + s`. -/
theorem off3_eq (k : Fin k0_t1_loop.trips) (s : ℕ) (hs : s < 8) : k0_off3 k (BitVec.ofNat 32 s) = ![0, 32, (k.val * 8 + s) * 128] := by
  have hk : k.val < 14 := Nat.lt_of_lt_of_le k.isLt k0_t1_abs.2.1
  unfold k0_off3
  dsimp only
  congr 3
  simp [Scalar.muli, Scalar.addi, IntOp.muli, IntOp.addi, Scf.iv, Scalar.indexCast]
  omega

/-- A load of sixteen rows from 32 reads the block's words. -/
theorem rdo3 (arg1 : Memref sig .tc .vmem S1x64x14336 .bf16) (X1 : BufTy.Contents (Elt Ideal) arg1.view.ty) (k : Fin k0_t1_loop.trips) (s : ℕ) (hs : s < 8) {inb} (r : Fin 16) (l : Fin 128) (r' : ℕ) (hr : r.val = r') :
    View.readAt (Elt Ideal) arg1.view (Rect.unit (s := S1x64x14336) (k0_off3 k (BitVec.ofNat 32 s)) S1x16x128.size inb).toLoadRect X1 (ix3 0 r l)
      = at1 (arg1.view.read (Elt Ideal) X1) (32 + r') ((k.val * 8 + s) * 128 + l.val) := by
  have hk : k.val < 14 := Nat.lt_of_lt_of_le k.isLt k0_t1_abs.2.1
  have hl := l.isLt
  refine (rd_unit arg1.view X1 _ (off3_eq k s hs) (ix3 0 r l) (ix3 0 ⟨32 + r.val, by omega⟩ ⟨(k.val * 8 + s) * 128 + l.val, by omega⟩) ?_).trans
    (at1_eq _ _ _ _ _ (by simp only [hr]) rfl)
  intro a
  fin_cases a <;> simp [ix3]

/-- Offset 4 of trip `k`: rows from 48, the lanes of tile `8 k + s`. -/
theorem off4_eq (k : Fin k0_t1_loop.trips) (s : ℕ) (hs : s < 8) : k0_off4 k (BitVec.ofNat 32 s) = ![0, 48, (k.val * 8 + s) * 128] := by
  have hk : k.val < 14 := Nat.lt_of_lt_of_le k.isLt k0_t1_abs.2.1
  unfold k0_off4
  dsimp only
  congr 3
  simp [Scalar.muli, Scalar.addi, IntOp.muli, IntOp.addi, Scf.iv, Scalar.indexCast]
  omega

/-- A load of sixteen rows from 48 reads the block's words. -/
theorem rdo4 (arg1 : Memref sig .tc .vmem S1x64x14336 .bf16) (X1 : BufTy.Contents (Elt Ideal) arg1.view.ty) (k : Fin k0_t1_loop.trips) (s : ℕ) (hs : s < 8) {inb} (r : Fin 16) (l : Fin 128) (r' : ℕ) (hr : r.val = r') :
    View.readAt (Elt Ideal) arg1.view (Rect.unit (s := S1x64x14336) (k0_off4 k (BitVec.ofNat 32 s)) S1x16x128.size inb).toLoadRect X1 (ix3 0 r l)
      = at1 (arg1.view.read (Elt Ideal) X1) (48 + r') ((k.val * 8 + s) * 128 + l.val) := by
  have hk : k.val < 14 := Nat.lt_of_lt_of_le k.isLt k0_t1_abs.2.1
  have hl := l.isLt
  refine (rd_unit arg1.view X1 _ (off4_eq k s hs) (ix3 0 r l) (ix3 0 ⟨48 + r.val, by omega⟩ ⟨(k.val * 8 + s) * 128 + l.val, by omega⟩) ?_).trans
    (at1_eq _ _ _ _ _ (by simp only [hr]) rfl)
  intro a
  fin_cases a <;> simp [ix3]

/-- What the slab's pieces hold: at row `s + 9 j` the maxima of lane tile `s`, row pair `j`. -/
def slabG (x : S1x64x14336.Idx → EReal) (i : S14x71x2x128.Idx) : EReal :=
  qm x (((i 0).val * 8 + (i 1).val % 9) * 128 + (i 3).val) (2 * ((i 1).val / 9) + (i 2).val)

/-- Offset of piece 0 of the slab. -/
theorem off5_eq (k : Fin k0_t1_loop.trips) : k0_off5 k = ![k.val, 0, 0, 0] := by
  have hk : k.val < 14 := Nat.lt_of_lt_of_le k.isLt k0_t1_abs.2.1
  unfold k0_off5
  dsimp only
  simp [Scalar.muli, Scalar.addi, IntOp.muli, IntOp.addi, Scf.iv, Scalar.indexCast]
  omega

/-- Offset of piece 1 of the slab. -/
theorem off6_eq (k : Fin k0_t1_loop.trips) : k0_off6 k = ![k.val, 1, 0, 0] := by
  have hk : k.val < 14 := Nat.lt_of_lt_of_le k.isLt k0_t1_abs.2.1
  unfold k0_off6
  dsimp only
  simp [Scalar.muli, Scalar.addi, IntOp.muli, IntOp.addi, Scf.iv, Scalar.indexCast]
  omega

/-- Offset of piece 2 of the slab. -/
theorem off7_eq (k : Fin k0_t1_loop.trips) : k0_off7 k = ![k.val, 2, 0, 0] := by
  have hk : k.val < 14 := Nat.lt_of_lt_of_le k.isLt k0_t1_abs.2.1
  unfold k0_off7
  dsimp only
  simp [Scalar.muli, Scalar.addi, IntOp.muli, IntOp.addi, Scf.iv, Scalar.indexCast]
  omega

/-- Offset of piece 3 of the slab. -/
theorem off8_eq (k : Fin k0_t1_loop.trips) : k0_off8 k = ![k.val, 3, 0, 0] := by
  have hk : k.val < 14 := Nat.lt_of_lt_of_le k.isLt k0_t1_abs.2.1
  unfold k0_off8
  dsimp only
  simp [Scalar.muli, Scalar.addi, IntOp.muli, IntOp.addi, Scf.iv, Scalar.indexCast]
  omega

/-- Offset of piece 4 of the slab. -/
theorem off9_eq (k : Fin k0_t1_loop.trips) : k0_off9 k = ![k.val, 4, 0, 0] := by
  have hk : k.val < 14 := Nat.lt_of_lt_of_le k.isLt k0_t1_abs.2.1
  unfold k0_off9
  dsimp only
  simp [Scalar.muli, Scalar.addi, IntOp.muli, IntOp.addi, Scf.iv, Scalar.indexCast]
  omega

/-- Offset of piece 5 of the slab. -/
theorem off10_eq (k : Fin k0_t1_loop.trips) : k0_off10 k = ![k.val, 5, 0, 0] := by
  have hk : k.val < 14 := Nat.lt_of_lt_of_le k.isLt k0_t1_abs.2.1
  unfold k0_off10
  dsimp only
  simp [Scalar.muli, Scalar.addi, IntOp.muli, IntOp.addi, Scf.iv, Scalar.indexCast]
  omega

/-- Offset of piece 6 of the slab. -/
theorem off11_eq (k : Fin k0_t1_loop.trips) : k0_off11 k = ![k.val, 6, 0, 0] := by
  have hk : k.val < 14 := Nat.lt_of_lt_of_le k.isLt k0_t1_abs.2.1
  unfold k0_off11
  dsimp only
  simp [Scalar.muli, Scalar.addi, IntOp.muli, IntOp.addi, Scf.iv, Scalar.indexCast]
  omega

/-- Offset of piece 7 of the slab. -/
theorem off12_eq (k : Fin k0_t1_loop.trips) : k0_off12 k = ![k.val, 7, 0, 0] := by
  have hk : k.val < 14 := Nat.lt_of_lt_of_le k.isLt k0_t1_abs.2.1
  unfold k0_off12
  dsimp only
  simp [Scalar.muli, Scalar.addi, IntOp.muli, IntOp.addi, Scf.iv, Scalar.indexCast]
  omega

/-- Offset of load 0 of the slab. -/
theorem off13_eq (k : Fin k0_t1_loop.trips) : k0_off13 k = ![k.val, 0, 0, 0] := by
  have hk : k.val < 14 := Nat.lt_of_lt_of_le k.isLt k0_t1_abs.2.1
  unfold k0_off13
  dsimp only
  simp [Scalar.muli, Scalar.addi, IntOp.muli, IntOp.addi, Scf.iv, Scalar.indexCast]
  omega

/-- Offset of load 1 of the slab. -/
theorem off14_eq (k : Fin k0_t1_loop.trips) : k0_off14 k = ![k.val, 9, 0, 0] := by
  have hk : k.val < 14 := Nat.lt_of_lt_of_le k.isLt k0_t1_abs.2.1
  unfold k0_off14
  dsimp only
  simp [Scalar.muli, Scalar.addi, IntOp.muli, IntOp.addi, Scf.iv, Scalar.indexCast]
  omega

/-- Offset of load 2 of the slab. -/
theorem off15_eq (k : Fin k0_t1_loop.trips) : k0_off15 k = ![k.val, 18, 0, 0] := by
  have hk : k.val < 14 := Nat.lt_of_lt_of_le k.isLt k0_t1_abs.2.1
  unfold k0_off15
  dsimp only
  simp [Scalar.muli, Scalar.addi, IntOp.muli, IntOp.addi, Scf.iv, Scalar.indexCast]
  omega

/-- Offset of load 3 of the slab. -/
theorem off16_eq (k : Fin k0_t1_loop.trips) : k0_off16 k = ![k.val, 27, 0, 0] := by
  have hk : k.val < 14 := Nat.lt_of_lt_of_le k.isLt k0_t1_abs.2.1
  unfold k0_off16
  dsimp only
  simp [Scalar.muli, Scalar.addi, IntOp.muli, IntOp.addi, Scf.iv, Scalar.indexCast]
  omega

/-- Offset of load 4 of the slab. -/
theorem off17_eq (k : Fin k0_t1_loop.trips) : k0_off17 k = ![k.val, 36, 0, 0] := by
  have hk : k.val < 14 := Nat.lt_of_lt_of_le k.isLt k0_t1_abs.2.1
  unfold k0_off17
  dsimp only
  simp [Scalar.muli, Scalar.addi, IntOp.muli, IntOp.addi, Scf.iv, Scalar.indexCast]
  omega

/-- Offset of load 5 of the slab. -/
theorem off18_eq (k : Fin k0_t1_loop.trips) : k0_off18 k = ![k.val, 45, 0, 0] := by
  have hk : k.val < 14 := Nat.lt_of_lt_of_le k.isLt k0_t1_abs.2.1
  unfold k0_off18
  dsimp only
  simp [Scalar.muli, Scalar.addi, IntOp.muli, IntOp.addi, Scf.iv, Scalar.indexCast]
  omega

/-- Offset of load 6 of the slab. -/
theorem off19_eq (k : Fin k0_t1_loop.trips) : k0_off19 k = ![k.val, 54, 0, 0] := by
  have hk : k.val < 14 := Nat.lt_of_lt_of_le k.isLt k0_t1_abs.2.1
  unfold k0_off19
  dsimp only
  simp [Scalar.muli, Scalar.addi, IntOp.muli, IntOp.addi, Scf.iv, Scalar.indexCast]
  omega

/-- Offset of load 7 of the slab. -/
theorem off20_eq (k : Fin k0_t1_loop.trips) : k0_off20 k = ![k.val, 63, 0, 0] := by
  have hk : k.val < 14 := Nat.lt_of_lt_of_le k.isLt k0_t1_abs.2.1
  unfold k0_off20
  dsimp only
  simp [Scalar.muli, Scalar.addi, IntOp.muli, IntOp.addi, Scf.iv, Scalar.indexCast]
  omega

/-- Piece `s` of the slab, over the array the pieces agree with. -/
theorem slabG_emb (x : S1x64x14336.Idx → EReal) (k s : ℕ) (hs : s < 8) (off : Fin 4 → ℕ) (ho : off = ![k, s, 0, 0]) {inb pos} (j : Fin 8) (h : Fin 2) (l : Fin 128) :
    slabG x (Rect.emb (s := S14x71x2x128) ⟨⟨off, S1x8x2x128.size, ![1, 9, 1, 1], inb⟩, pos⟩ (ix4 0 j h l)) = qm x ((k * 8 + s) * 128 + l.val) (2 * j.val + h.val) := by
  subst ho
  have hj := j.isLt
  unfold slabG
  have e0 : ((Rect.emb (s := S14x71x2x128) ⟨⟨_, S1x8x2x128.size, ![1, 9, 1, 1], inb⟩, pos⟩ (ix4 0 j h l)) 0).val = k := by
    show k + 1 * 0 = k; omega
  have e1 : ((Rect.emb (s := S14x71x2x128) ⟨⟨_, S1x8x2x128.size, ![1, 9, 1, 1], inb⟩, pos⟩ (ix4 0 j h l)) 1).val = s + 9 * j.val := rfl
  have e2 : ((Rect.emb (s := S14x71x2x128) ⟨⟨_, S1x8x2x128.size, ![1, 9, 1, 1], inb⟩, pos⟩ (ix4 0 j h l)) 2).val = h.val := by
    show 0 + 1 * h.val = h.val; omega
  have e3 : ((Rect.emb (s := S14x71x2x128) ⟨⟨_, S1x8x2x128.size, ![1, 9, 1, 1], inb⟩, pos⟩ (ix4 0 j h l)) 3).val = l.val := by
    show 0 + 1 * l.val = l.val; omega
  rw [e0, e1, e2, e3]
  congr 1 <;> omega

/-- The maximum of four loads' absolute values. -/
theorem qm_of (x : S1x64x14336.Idx → EReal) (c r : ℕ) (a b d e : EReal) (ha : a = at1 x (0 + r) c) (hb : b = at1 x (16 + r) c) (hd : d = at1 x (32 + r) c)
    (he : e = at1 x (48 + r) c) : max (max (max (ab a) (ab b)) (ab d)) (ab e) = qm x c r := by
  subst ha hb hd he; unfold qm; rw [Nat.zero_add]

/-- The slab's pieces hold the maxima over four rows. -/
theorem slab_pieces (arg1 : Memref sig .tc .vmem S1x64x14336 .bf16) (X1 : BufTy.Contents (Elt Ideal) arg1.view.ty) (k : Fin k0_t1_loop.trips) :
    ∀ p ∈ trip1.sl.H7_8 (F := Ideal) arg1 X1 k, ∀ x, p.2 x = slabG (arg1.view.read (Elt Ideal) X1) (p.1.emb x) := by
  unfold trip1.sl.H7_8
  simp only [List.forall_mem_cons, List.not_mem_nil, false_implies, implies_true, and_true]
  refine ⟨?_, ?_, ?_, ?_, ?_, ?_, ?_, ?_⟩
  · intro (x : S1x8x2x128.Idx)
    obtain ⟨j, h, l, rfl⟩ := cov4 (a := 8) (b := 2) (c := 128) x
    refine Eq.trans ?_ (slabG_emb _ k.val 7 (by decide) _ (off12_eq k) j h l).symm
    try simp only [trip1.sl.r, trip1.sl.r_1, trip1.sl.r_2, trip1.sl.r_3, trip1.sl.r_4, trip1.sl.r_5, trip1.sl.r_6]
    pointwise [k0_pay3, k0_pay4, k0_pay5, k0_pay6, k0_pay7, k0_pay8, k0_pay9, k0_pay10, k0_pay11, k0_pay12, k0_pay13, k0_pay14]
    fin_vals h with hh
    all_goals simp only [hh, Nat.reduceMod, Nat.reduceEqDiff, ↓reduceIte]
    all_goals exact qm_of _ _ _ _ _ _ _ (rdo1 arg1 X1 k 7 (by decide) _ l _ rfl) (rdo2 arg1 X1 k 7 (by decide) _ l _ rfl) (rdo3 arg1 X1 k 7 (by decide) _ l _ rfl) (rdo4 arg1 X1 k 7 (by decide) _ l _ rfl)
  · intro (x : S1x8x2x128.Idx)
    obtain ⟨j, h, l, rfl⟩ := cov4 (a := 8) (b := 2) (c := 128) x
    refine Eq.trans ?_ (slabG_emb _ k.val 6 (by decide) _ (off11_eq k) j h l).symm
    try simp only [trip1.sl.r, trip1.sl.r_1, trip1.sl.r_2, trip1.sl.r_3, trip1.sl.r_4, trip1.sl.r_5, trip1.sl.r_6]
    pointwise [k0_pay3, k0_pay4, k0_pay5, k0_pay6, k0_pay7, k0_pay8, k0_pay9, k0_pay10, k0_pay11, k0_pay12, k0_pay13, k0_pay14]
    fin_vals h with hh
    all_goals simp only [hh, Nat.reduceMod, Nat.reduceEqDiff, ↓reduceIte]
    all_goals exact qm_of _ _ _ _ _ _ _ (rdo1 arg1 X1 k 6 (by decide) _ l _ rfl) (rdo2 arg1 X1 k 6 (by decide) _ l _ rfl) (rdo3 arg1 X1 k 6 (by decide) _ l _ rfl) (rdo4 arg1 X1 k 6 (by decide) _ l _ rfl)
  · intro (x : S1x8x2x128.Idx)
    obtain ⟨j, h, l, rfl⟩ := cov4 (a := 8) (b := 2) (c := 128) x
    refine Eq.trans ?_ (slabG_emb _ k.val 5 (by decide) _ (off10_eq k) j h l).symm
    try simp only [trip1.sl.r, trip1.sl.r_1, trip1.sl.r_2, trip1.sl.r_3, trip1.sl.r_4, trip1.sl.r_5, trip1.sl.r_6]
    pointwise [k0_pay3, k0_pay4, k0_pay5, k0_pay6, k0_pay7, k0_pay8, k0_pay9, k0_pay10, k0_pay11, k0_pay12, k0_pay13, k0_pay14]
    fin_vals h with hh
    all_goals simp only [hh, Nat.reduceMod, Nat.reduceEqDiff, ↓reduceIte]
    all_goals exact qm_of _ _ _ _ _ _ _ (rdo1 arg1 X1 k 5 (by decide) _ l _ rfl) (rdo2 arg1 X1 k 5 (by decide) _ l _ rfl) (rdo3 arg1 X1 k 5 (by decide) _ l _ rfl) (rdo4 arg1 X1 k 5 (by decide) _ l _ rfl)
  · intro (x : S1x8x2x128.Idx)
    obtain ⟨j, h, l, rfl⟩ := cov4 (a := 8) (b := 2) (c := 128) x
    refine Eq.trans ?_ (slabG_emb _ k.val 4 (by decide) _ (off9_eq k) j h l).symm
    try simp only [trip1.sl.r, trip1.sl.r_1, trip1.sl.r_2, trip1.sl.r_3, trip1.sl.r_4, trip1.sl.r_5, trip1.sl.r_6]
    pointwise [k0_pay3, k0_pay4, k0_pay5, k0_pay6, k0_pay7, k0_pay8, k0_pay9, k0_pay10, k0_pay11, k0_pay12, k0_pay13, k0_pay14]
    fin_vals h with hh
    all_goals simp only [hh, Nat.reduceMod, Nat.reduceEqDiff, ↓reduceIte]
    all_goals exact qm_of _ _ _ _ _ _ _ (rdo1 arg1 X1 k 4 (by decide) _ l _ rfl) (rdo2 arg1 X1 k 4 (by decide) _ l _ rfl) (rdo3 arg1 X1 k 4 (by decide) _ l _ rfl) (rdo4 arg1 X1 k 4 (by decide) _ l _ rfl)
  · intro (x : S1x8x2x128.Idx)
    obtain ⟨j, h, l, rfl⟩ := cov4 (a := 8) (b := 2) (c := 128) x
    refine Eq.trans ?_ (slabG_emb _ k.val 3 (by decide) _ (off8_eq k) j h l).symm
    try simp only [trip1.sl.r, trip1.sl.r_1, trip1.sl.r_2, trip1.sl.r_3, trip1.sl.r_4, trip1.sl.r_5, trip1.sl.r_6]
    pointwise [k0_pay3, k0_pay4, k0_pay5, k0_pay6, k0_pay7, k0_pay8, k0_pay9, k0_pay10, k0_pay11, k0_pay12, k0_pay13, k0_pay14]
    fin_vals h with hh
    all_goals simp only [hh, Nat.reduceMod, Nat.reduceEqDiff, ↓reduceIte]
    all_goals exact qm_of _ _ _ _ _ _ _ (rdo1 arg1 X1 k 3 (by decide) _ l _ rfl) (rdo2 arg1 X1 k 3 (by decide) _ l _ rfl) (rdo3 arg1 X1 k 3 (by decide) _ l _ rfl) (rdo4 arg1 X1 k 3 (by decide) _ l _ rfl)
  · intro (x : S1x8x2x128.Idx)
    obtain ⟨j, h, l, rfl⟩ := cov4 (a := 8) (b := 2) (c := 128) x
    refine Eq.trans ?_ (slabG_emb _ k.val 2 (by decide) _ (off7_eq k) j h l).symm
    try simp only [trip1.sl.r, trip1.sl.r_1, trip1.sl.r_2, trip1.sl.r_3, trip1.sl.r_4, trip1.sl.r_5, trip1.sl.r_6]
    pointwise [k0_pay3, k0_pay4, k0_pay5, k0_pay6, k0_pay7, k0_pay8, k0_pay9, k0_pay10, k0_pay11, k0_pay12, k0_pay13, k0_pay14]
    fin_vals h with hh
    all_goals simp only [hh, Nat.reduceMod, Nat.reduceEqDiff, ↓reduceIte]
    all_goals exact qm_of _ _ _ _ _ _ _ (rdo1 arg1 X1 k 2 (by decide) _ l _ rfl) (rdo2 arg1 X1 k 2 (by decide) _ l _ rfl) (rdo3 arg1 X1 k 2 (by decide) _ l _ rfl) (rdo4 arg1 X1 k 2 (by decide) _ l _ rfl)
  · intro (x : S1x8x2x128.Idx)
    obtain ⟨j, h, l, rfl⟩ := cov4 (a := 8) (b := 2) (c := 128) x
    refine Eq.trans ?_ (slabG_emb _ k.val 1 (by decide) _ (off6_eq k) j h l).symm
    try simp only [trip1.sl.r, trip1.sl.r_1, trip1.sl.r_2, trip1.sl.r_3, trip1.sl.r_4, trip1.sl.r_5, trip1.sl.r_6]
    pointwise [k0_pay3, k0_pay4, k0_pay5, k0_pay6, k0_pay7, k0_pay8, k0_pay9, k0_pay10, k0_pay11, k0_pay12, k0_pay13, k0_pay14]
    fin_vals h with hh
    all_goals simp only [hh, Nat.reduceMod, Nat.reduceEqDiff, ↓reduceIte]
    all_goals exact qm_of _ _ _ _ _ _ _ (rdo1 arg1 X1 k 1 (by decide) _ l _ rfl) (rdo2 arg1 X1 k 1 (by decide) _ l _ rfl) (rdo3 arg1 X1 k 1 (by decide) _ l _ rfl) (rdo4 arg1 X1 k 1 (by decide) _ l _ rfl)
  · intro (x : S1x8x2x128.Idx)
    obtain ⟨j, h, l, rfl⟩ := cov4 (a := 8) (b := 2) (c := 128) x
    refine Eq.trans ?_ (slabG_emb _ k.val 0 (by decide) _ (off5_eq k) j h l).symm
    try simp only [trip1.sl.r, trip1.sl.r_1, trip1.sl.r_2, trip1.sl.r_3, trip1.sl.r_4, trip1.sl.r_5, trip1.sl.r_6]
    pointwise [k0_pay3, k0_pay4, k0_pay5, k0_pay6, k0_pay7, k0_pay8, k0_pay9, k0_pay10, k0_pay11, k0_pay12, k0_pay13, k0_pay14]
    fin_vals h with hh
    all_goals simp only [hh, Nat.reduceMod, Nat.reduceEqDiff, ↓reduceIte]
    all_goals exact qm_of _ _ _ _ _ _ _ (rdo1 arg1 X1 k 0 (by decide) _ l _ rfl) (rdo2 arg1 X1 k 0 (by decide) _ l _ rfl) (rdo3 arg1 X1 k 0 (by decide) _ l _ rfl) (rdo4 arg1 X1 k 0 (by decide) _ l _ rfl)

/-- A load of the slab after the trip's pieces. -/
theorem slab_read (arg1 : Memref sig .tc .vmem S1x64x14336 .bf16) (arg7 : Memref sig .tc .vmem S14x71x2x128 .bf16) (X1 : BufTy.Contents (Elt Ideal) arg1.view.ty) (k : Fin k0_t1_loop.trips)
    (f7 : BufTy.Contents (Elt Ideal) arg7.view.ty) (t : ℕ) (ht : t < 8) (off : Fin 4 → ℕ) (ho : off = ![k.val, 9 * t, 0, 0]) {inb} (s : Fin 8) (h : Fin 2) (l : Fin 128) :
    View.readAt (Elt Ideal) arg7.view (Rect.unit (s := S14x71x2x128) off S1x8x2x128.size inb).toLoadRect (arg7.view.writes (Elt Ideal) f7 (trip1.sl.H7_8 arg1 X1 k)) (ix4 0 s h l)
      = qm (arg1.view.read (Elt Ideal) X1) ((k.val * 8 + s.val) * 128 + l.val) (2 * t + h.val) := by
  have hk : k.val < 14 := Nat.lt_of_lt_of_le k.isLt k0_t1_abs.2.1
  have hs := s.isLt
  refine (rd_unit arg7.view _ _ ho (ix4 0 s h l) (ix4 ⟨k.val, hk⟩ ⟨9 * t + s.val, by omega⟩ h l) ?_).trans ?_
  · intro a
    fin_cases a <;> simp [ix4]
  refine (read_writes_all arg7.view f7 (slabG (arg1.view.read (Elt Ideal) X1)) _ (slab_pieces arg1 X1 k) _ ?_).trans ?_
  · have key : ∀ (s' : ℕ), s.val = s' → ∀ (off : Fin 4 → ℕ) (ho : off = ![k.val, s', 0, 0]) (inb),
        (ix4 ⟨k.val, hk⟩ ⟨9 * t + s.val, by omega⟩ h l : S14x71x2x128.Idx) ∈ (Rect.toLoadRect (s := S14x71x2x128) ⟨⟨off, S1x8x2x128.size, ![1, 9, 1, 1], inb⟩, fun a => by show 0 < (![1, 9, 1, 1] : Fin 4 → ℕ) a; revert a; decide⟩).set := by
      rintro s' rfl off rfl inb
      rw [LoadRect.mem_set]
      intro a
      fin_cases a
      · exact ⟨0, by show 0 < 1; omega, by show k.val = k.val + 1 * 0; omega⟩
      · exact ⟨t, by show t < 8; omega, by show 9 * t + s.val = s.val + 9 * t; omega⟩
      · exact ⟨h.val, h.isLt, by show h.val = 0 + 1 * h.val; omega⟩
      · exact ⟨l.val, l.isLt, by show l.val = 0 + 1 * l.val; omega⟩
    unfold trip1.sl.H7_8
    simp only [List.exists_mem_cons_iff, List.not_mem_nil, _root_.false_and, exists_false, _root_.or_false]
    fin_vals s with hs'
    · iterate 7 apply Or.inr
      exact key 0 hs' _ (off5_eq k) _
    · iterate 6 apply Or.inr
      exact Or.inl (key 1 hs' _ (off6_eq k) _)
    · iterate 5 apply Or.inr
      exact Or.inl (key 2 hs' _ (off7_eq k) _)
    · iterate 4 apply Or.inr
      exact Or.inl (key 3 hs' _ (off8_eq k) _)
    · iterate 3 apply Or.inr
      exact Or.inl (key 4 hs' _ (off9_eq k) _)
    · iterate 2 apply Or.inr
      exact Or.inl (key 5 hs' _ (off10_eq k) _)
    · apply Or.inr
      exact Or.inl (key 6 hs' _ (off11_eq k) _)
    · exact Or.inl (key 7 hs' _ (off12_eq k) _)
  · unfold slabG
    show qm _ ((k.val * 8 + (9 * t + s.val) % 9) * 128 + l.val) (2 * ((9 * t + s.val) / 9) + h.val) = _
    congr 1 <;> omega

/-- The tree of maxima whose leaves are the maxima over four rows. -/
theorem cm_of (x : S1x64x14336.Idx → EReal) (c : ℕ) (a1 a3 a5 a7 a9 a11 a13 a15 a0 a2 a4 a6 a8 a10 a12 a14 : EReal) (ha1 : a1 = qm x c 1) (ha3 : a3 = qm x c 3) (ha5 : a5 = qm x c 5) (ha7 : a7 = qm x c 7) (ha9 : a9 = qm x c 9) (ha11 : a11 = qm x c 11) (ha13 : a13 = qm x c 13) (ha15 : a15 = qm x c 15) (ha0 : a0 = qm x c 0) (ha2 : a2 = qm x c 2) (ha4 : a4 = qm x c 4) (ha6 : a6 = qm x c 6) (ha8 : a8 = qm x c 8) (ha10 : a10 = qm x c 10) (ha12 : a12 = qm x c 12) (ha14 : a14 = qm x c 14) :
    max (max (max (max (max (max (max (max a1 a3) a5) a7) a9) a11) a13) a15) (max (max (max (max (max (max (max a0 a2) a4) a6) a8) a10) a12) a14) = cm x c := by
  subst ha1 ha3 ha5 ha7 ha9 ha11 ha13 ha15 ha0 ha2 ha4 ha6 ha8 ha10 ha12 ha14
  exact cm_tree x c

/-- The trip's maxima are the columns'. -/
theorem flat_tile (arg1 : Memref sig .tc .vmem S1x64x14336 .bf16) (arg7 : Memref sig .tc .vmem S14x71x2x128 .bf16) (X1 : BufTy.Contents (Elt Ideal) arg1.view.ty) (k : Fin k0_t1_loop.trips)
    (f7 : BufTy.Contents (Elt Ideal) arg7.view.ty) (s : Fin 8) (l : Fin 128) :
    trip1.sl.r_10 (F := Ideal) arg1 arg7 X1 k f7 (ix2 s l) = cm (arg1.view.read (Elt Ideal) X1) ((k.val * 8 + s.val) * 128 + l.val) := by
  simp only [trip1.sl.r_10, trip1.sl.r_7, trip1.sl.r_8, trip1.sl.r_9, trip1.sl.v307_raw]
  pointwise [k0_pay18, k0_pay15, k0_pay16, k0_pay17]
  have e1 : (2 * s.val + 1) % 2 = 1 := by omega
  have e2 : (2 * s.val) % 2 = 0 := by omega
  have e3 : (2 * s.val + 1) / 2 = s.val := by omega
  have e4 : (2 * s.val) / 2 = s.val := by omega
  simp only [e1, e2, e3, e4, Nat.reduceEqDiff, ↓reduceIte]
  exact cm_of _ _ _ _ _ _ _ _ _ _ _ _ _ _ _ _ _ _ (slab_read arg1 arg7 X1 k _ 0 (by decide) _ (off13_eq k) s 1 l) (slab_read arg1 arg7 X1 k _ 1 (by decide) _ (off14_eq k) s 1 l) (slab_read arg1 arg7 X1 k _ 2 (by decide) _ (off15_eq k) s 1 l) (slab_read arg1 arg7 X1 k _ 3 (by decide) _ (off16_eq k) s 1 l) (slab_read arg1 arg7 X1 k _ 4 (by decide) _ (off17_eq k) s 1 l) (slab_read arg1 arg7 X1 k _ 5 (by decide) _ (off18_eq k) s 1 l) (slab_read arg1 arg7 X1 k _ 6 (by decide) _ (off19_eq k) s 1 l) (slab_read arg1 arg7 X1 k _ 7 (by decide) _ (off20_eq k) s 1 l) (slab_read arg1 arg7 X1 k _ 0 (by decide) _ (off13_eq k) s 0 l) (slab_read arg1 arg7 X1 k _ 1 (by decide) _ (off14_eq k) s 0 l) (slab_read arg1 arg7 X1 k _ 2 (by decide) _ (off15_eq k) s 0 l) (slab_read arg1 arg7 X1 k _ 3 (by decide) _ (off16_eq k) s 0 l) (slab_read arg1 arg7 X1 k _ 4 (by decide) _ (off17_eq k) s 0 l) (slab_read arg1 arg7 X1 k _ 5 (by decide) _ (off18_eq k) s 0 l) (slab_read arg1 arg7 X1 k _ 6 (by decide) _ (off19_eq k) s 0 l) (slab_read arg1 arg7 X1 k _ 7 (by decide) _ (off20_eq k) s 0 l)

end Cert.Proof.KernelIdeal

end
-- ==== Proof.V3.lean ====
module

public import proofs.«01_k».proof.Proof.KernelIdealBody
public import proofs.«01_k».proof.Proof.Gen.KernelIdeal.Loops
public import proofs.«01_k».proof.Proof.Gen.KernelIdeal
public import proofs.«01_k».proof.Proof.V2
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- One piece written through a unit rectangle, read inside it. -/
theorem write_in {sig : RefSig} {κ : Kind} {sp : Space} {s : Shape} {e : EltTy} {Val : EltTy → Type} (v : View sig κ sp s e) (f : v.ty.Contents Val)
    {off size : Fin s.rank → ℕ} {inb} (off' : Fin s.rank → ℕ) (ho : off = off') (p : (Rect.unit (s := s) off size inb).shape.Idx → Val e) (L : List (View.Piece Val s e))
    (x : (Rect.unit (s := s) off size inb).shape.Idx) (y : s.Idx) (h : ∀ a, (y a).val = off' a + (x a).val) :
    v.read Val (v.writes Val f (⟨Rect.unit off size inb, p⟩ :: L)) y = p x := by
  subst ho
  have e : y = (Rect.unit (s := s) off size inb).emb x := by
    funext a; apply Fin.ext
    show (y a).val = off a + 1 * (x a).val
    rw [h a, Nat.one_mul]
  rw [e, View.read_writes_cons_emb]

/-- One piece written through a unit rectangle, read outside it. -/
theorem write_out {sig : RefSig} {κ : Kind} {sp : Space} {s : Shape} {e : EltTy} {Val : EltTy → Type} (v : View sig κ sp s e) (f : v.ty.Contents Val)
    {off size : Fin s.rank → ℕ} {inb} (off' : Fin s.rank → ℕ) (ho : off = off') (p : (Rect.unit (s := s) off size inb).shape.Idx → Val e) (L : List (View.Piece Val s e))
    (y : s.Idx) (a : Fin s.rank) (h : (y a).val < off' a ∨ off' a + size a ≤ (y a).val) :
    v.read Val (v.writes Val f (⟨Rect.unit off size inb, p⟩ :: L)) y = v.read Val (v.writes Val f L) y := by
  subst ho
  rw [View.writes_cons, View.read_slice_write_of_not_mem (Rect.unit off size inb)]
  rw [Rect.map_emb_univ, LoadRect.mem_set]
  intro hm
  obtain ⟨j, hj, e⟩ := hm a
  have hj' : j < size a := hj
  have e' : (y a).val = off a + 1 * j := e
  omega

/-- The offsets of the group's rows of the flat maxima. -/
theorem off21_eq (i : grid0.Coords) (k : Fin k0_t1_loop.trips) : k0_off21 i k = ![(i 0).val * 112 + k.val * 8, 0] := by
  have hk : k.val < 14 := Nat.lt_of_lt_of_le k.isLt k0_t1_abs.2.1
  have hi : (i 0).val < 26 := (i 0).isLt
  unfold k0_off21
  dsimp only
  congr 1
  simp [Scalar.muli, Scalar.addi, IntOp.muli, IntOp.addi, Scf.iv, Scalar.indexCast]
  omega

/-- The offsets of the group's rows of the scales. -/
theorem off22_eq (k : Fin k0_t1_loop.trips) : k0_off22 k = ![k.val * 8, 0, 0] := by
  have hk : k.val < 14 := Nat.lt_of_lt_of_le k.isLt k0_t1_abs.2.1
  unfold k0_off22
  dsimp only
  congr 1
  simp [Scalar.muli, Scalar.addi, IntOp.muli, IntOp.addi, Scf.iv, Scalar.indexCast]
  omega

/-- The warped scale of an absmax. -/
def scp (a : EReal) : EReal := Ideal.div (Ideal.ofBits .f32 0x3FBBC6A8#32) (if a = 0 then (1 : EReal) else a)

/-- The pair of warped scales the group stores. -/
theorem pay133_at (v : FVec Ideal S8x128 .f32) (j : Fin 8) (h : Fin 2) (l : Fin 128) : k0_pay133 (F := Ideal) v (ix3 j h l) = scp (v (ix2 j l)) := by
  pointwise [k0_pay133]
  exact ite_self _

/-- Reshaping an eight-row tile to its own shape leaves it as it is. -/
theorem pay132_at (v : FVec Ideal S8x128 .f32) : k0_pay132 (F := Ideal) v = v := by
  unfold k0_pay132; exact shapeCast_self _ _

/-- What the absmax loop has written after `n` trips: the flat maxima of the group rows so far, and their scales. -/
theorem flat_inv (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (v0 : BitVec 32) (X1 : BufTy.Contents (Elt Ideal) arg1.view.ty) (s : St1 Ideal arg7 arg8 arg9) : ∀ n : ℕ, n ≤ k0_t1_loop.trips →
    (∀ (r : Fin 3584) (l : Fin 128), arg8.view.read (Elt Ideal) (st1 (F := Ideal) 𝒱 c none i arg1 harg1 arg2 harg2 arg3 harg3 arg4 harg4 arg5 harg5 arg6 harg6 arg7 harg7 arg8 harg8 arg9 harg9 arg10 harg10 v0 X1 s n).2.1 (ix2 r l)
      = if (i 0).val * 112 ≤ r.val ∧ r.val < (i 0).val * 112 + 8 * n then cm (arg1.view.read (Elt Ideal) X1) ((r.val - (i 0).val * 112) * 128 + l.val)
        else arg8.view.read (Elt Ideal) s.2.1 (ix2 r l))
    ∧ (∀ (r : Fin 112) (h : Fin 2) (l : Fin 128), r.val < 8 * n → arg9.view.read (Elt Ideal) (st1 (F := Ideal) 𝒱 c none i arg1 harg1 arg2 harg2 arg3 harg3 arg4 harg4 arg5 harg5 arg6 harg6 arg7 harg7 arg8 harg8 arg9 harg9 arg10 harg10 v0 X1 s n).2.2 (ix3 r h l)
      = scp (cm (arg1.view.read (Elt Ideal) X1) (r.val * 128 + l.val)))
  | 0, _ => by
    refine ⟨fun r l => ?_, fun r h l hr => absurd hr (by omega)⟩
    rw [if_neg (by omega)]
    rfl
  | n + 1, hn => by
    obtain ⟨h8, h9⟩ := flat_inv 𝒱 c i arg1 harg1 arg2 harg2 arg3 harg3 arg4 harg4 arg5 harg5 arg6 harg6 arg7 harg7 arg8 harg8 arg9 harg9 arg10 harg10 v0 X1 s n (by omega)
    have hk : n < 14 := Nat.lt_of_lt_of_le hn k0_t1_abs.2.1
    have hi : (i 0).val < 26 := (i 0).isLt
    have e := st1_succ (F := Ideal) 𝒱 c none i arg1 harg1 arg2 harg2 arg3 harg3 arg4 harg4 arg5 harg5 arg6 harg6 arg7 harg7 arg8 harg8 arg9 harg9 arg10 harg10 v0 X1 s ⟨n, hn⟩
    dsimp only at e
    rw [e]
    unfold trip1
    dsimp only
    constructor
    · intro r l
      by_cases hr : (i 0).val * 112 + n * 8 ≤ r.val ∧ r.val < (i 0).val * 112 + n * 8 + 8
      · rw [if_pos (by omega)]
        refine (write_in arg8.view _ _ (off21_eq i ⟨n, hn⟩) _ _ (ix2 ⟨r.val - ((i 0).val * 112 + n * 8), by omega⟩ l) (ix2 r l) ?_).trans ?_
        · intro a
          fin_cases a <;> simp [ix2]
          omega
        · rw [pay132_at, flat_tile]
          congr 2; simp only []; omega
      · refine (write_out arg8.view _ _ (off21_eq i ⟨n, hn⟩) _ _ (ix2 r l) 0 ?_).trans ?_
        · show r.val < (i 0).val * 112 + n * 8 ∨ (i 0).val * 112 + n * 8 + 8 ≤ r.val
          omega
        · rw [View.writes_nil, h8]
          by_cases hc : (i 0).val * 112 ≤ r.val ∧ r.val < (i 0).val * 112 + 8 * n
          · rw [if_pos hc, if_pos (by omega)]
          · rw [if_neg hc, if_neg (by omega)]
    · intro r h l hr
      by_cases hr' : n * 8 ≤ r.val
      · refine (write_in arg9.view _ _ (off22_eq ⟨n, hn⟩) _ _ (ix3 ⟨r.val - n * 8, by omega⟩ h l) (ix3 r h l) ?_).trans ?_
        · intro a
          fin_cases a <;> simp [ix3]
          omega
        · rw [pay133_at, flat_tile]
          congr 3; simp only []; omega
      · refine (write_out arg9.view _ _ (off22_eq ⟨n, hn⟩) _ _ (ix3 r h l) 0 ?_).trans ?_
        · show r.val < n * 8 ∨ n * 8 + 8 ≤ r.val
          omega
        · rw [View.writes_nil]
          exact h9 r h l (by omega)

end Cert.Proof.KernelIdeal

end
-- ==== Proof.V5.lean ====
module

public import proofs.«01_k».proof.Proof.KernelIdealBody
public import proofs.«01_k».proof.Proof.Gen.KernelIdeal.Loops
public import proofs.«01_k».proof.Proof.Gen.KernelIdeal
public import proofs.«01_k».proof.Proof.V3
public import Idealize.ShloMosaic.Lib.BitcastFour
public import Idealize.ShloMosaic.Lib.BitcastPair
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The rounded warps of sixteen rows, as the words the kernel builds. -/
def pvec (w sc : FVec Ideal S16x128 .bf16) : IVec S16x128 32 :=
  addi (fptosi 32 (roundeven (mulf (extf .f32 (addf (tanh (mulf w sc)) (broadcast S16x128 (Scalar.ofBits .bf16 0x4188#16))) bitsLt_bf16_f32) (broadcast S16x128 (Scalar.ofBits .f32 0x41000000#32))))) (broadcast S16x128 16640#32)

/-- The code words of sixteen rows: `p` where the weight passes its threshold, `p` less one otherwise. -/
def cvec (sc th : FVec Ideal S16x128 .bf16) (w' : Vec Ideal S1x16x128 .bf16) : IVec S16x128 32 :=
  have w : FVec Ideal S16x128 .bf16 := shapeCast S16x128 w' shapeCasts_S1x16x128_S16x128
  have p : IVec S16x128 32 := pvec w sc
  have q : IVec S16x128 32 := subi p (broadcast S16x128 16769#32)
  select (cmpf .ogt w (dynamicGather 0 th (shapeCast S16x128 (shapeCast S16x128x1 q shapeCasts_S16x128_S16x128x1) shapeCasts_S16x128x1_S16x128))) p q

/-- Thirty-two rows of codes packed two to a byte, each byte in the low half of a sixteen-bit word. -/
def half (z0 z1 : IVec S16x128 32) : IVec S16x128 16 :=
  have x : IVec S8x128 32 := andi (bitcast S8x128 32 (trunci 8 (concatenate S32x128 0 [⟨S16x128, z0⟩, ⟨S16x128, z1⟩] concatenates_S16x128_S16x128_S32x128_d0) natLt_8_32) bitcasts_S32x128_w8_S8x128_w32) (broadcast S8x128 252645135#32)
  bitcast S16x128 16 (ori (shli x (broadcast S8x128 4#32)) (shrui x (broadcast S8x128 8#32))) bitcasts_S8x128_w32_S16x128_w16

/-- One lane tile's packed bytes, from the threshold iota and table, the absmax row, the scale pair and the weights. -/
def tile (v2 : IVec S8x128 32) (v35 : FVec Ideal S8x128 .f32) (a : Vec Ideal S1x128 .f32) (sc : Vec Ideal S1x2x128 .bf16) (w0 w1 w2 w3 : Vec Ideal S1x16x128 .bf16) : IVec S1x32x128 8 :=
  shapeCast S1x32x128 (trunci 8 (concatenate S32x128 0 [⟨S16x128, half (cvec (k0_pay19 sc) (k0_pay20 v35 (k0_pay135 v2) a) w0) (cvec (k0_pay19 sc) (k0_pay20 v35 (k0_pay135 v2) a) w1)⟩,
    ⟨S16x128, half (cvec (k0_pay19 sc) (k0_pay20 v35 (k0_pay135 v2) a) w2) (cvec (k0_pay19 sc) (k0_pay20 v35 (k0_pay135 v2) a) w3)⟩] concatenates_S16x128_S16x128_S32x128_d0) natLt_8_16) shapeCasts_S32x128_S1x32x128

set_option maxRecDepth 65530 in
/-- The pieces of one trip of the encoding loop are the four lane tiles. -/
theorem t2_pieces (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (arg0 v0 : BitVec 32) (v2 : IVec S8x128 32) (v35 : FVec Ideal S8x128 .f32) (X1 : BufTy.Contents (Elt Ideal) arg1.view.ty) (X8 : BufTy.Contents (Elt Ideal) arg8.view.ty) (X9 : BufTy.Contents (Elt Ideal) arg9.view.ty) (k : Fin k0_t2_loop.trips) :
   (trip_k0_t2 (F := Ideal) 𝒱 c none i arg1 harg1 arg2 harg2 arg3 harg3 arg4 harg4 arg5 harg5 arg6 harg6 arg7 harg7 arg8 harg8 arg9 harg9 arg10 harg10 arg0 v0 v2 v35 X1 X8 X9 k).1 = [⟨Rect.unit (s := S1x32x14336) (k0_off29 k 3#32) S1x32x128.size (k0_off29_inb k 3), tile v2 v35 (View.readAt (Elt Ideal) arg8.view (Rect.unit (s := S3584x128) (k0_off23 i k 3#32) S1x128.size (k0_off23_inb i k 3)).toLoadRect X8) (View.readAt (Elt Ideal) arg9.view (Rect.unit (s := S112x2x128) (k0_off24 k 3#32) S1x2x128.size (k0_off24_inb k 3)).toLoadRect X9) (View.readAt (Elt Ideal) arg1.view (Rect.unit (s := S1x64x14336) (k0_off25 k 3#32) S1x16x128.size (k0_off25_inb k 3)).toLoadRect X1) (View.readAt (Elt Ideal) arg1.view (Rect.unit (s := S1x64x14336) (k0_off26 k 3#32) S1x16x128.size (k0_off26_inb k 3)).toLoadRect X1) (View.readAt (Elt Ideal) arg1.view (Rect.unit (s := S1x64x14336) (k0_off27 k 3#32) S1x16x128.size (k0_off27_inb k 3)).toLoadRect X1) (View.readAt (Elt Ideal) arg1.view (Rect.unit (s := S1x64x14336) (k0_off28 k 3#32) S1x16x128.size (k0_off28_inb k 3)).toLoadRect X1)⟩,
      ⟨Rect.unit (s := S1x32x14336) (k0_off29 k 2#32) S1x32x128.size (k0_off29_inb k 2), tile v2 v35 (View.readAt (Elt Ideal) arg8.view (Rect.unit (s := S3584x128) (k0_off23 i k 2#32) S1x128.size (k0_off23_inb i k 2)).toLoadRect X8) (View.readAt (Elt Ideal) arg9.view (Rect.unit (s := S112x2x128) (k0_off24 k 2#32) S1x2x128.size (k0_off24_inb k 2)).toLoadRect X9) (View.readAt (Elt Ideal) arg1.view (Rect.unit (s := S1x64x14336) (k0_off25 k 2#32) S1x16x128.size (k0_off25_inb k 2)).toLoadRect X1) (View.readAt (Elt Ideal) arg1.view (Rect.unit (s := S1x64x14336) (k0_off26 k 2#32) S1x16x128.size (k0_off26_inb k 2)).toLoadRect X1) (View.readAt (Elt Ideal) arg1.view (Rect.unit (s := S1x64x14336) (k0_off27 k 2#32) S1x16x128.size (k0_off27_inb k 2)).toLoadRect X1) (View.readAt (Elt Ideal) arg1.view (Rect.unit (s := S1x64x14336) (k0_off28 k 2#32) S1x16x128.size (k0_off28_inb k 2)).toLoadRect X1)⟩,
      ⟨Rect.unit (s := S1x32x14336) (k0_off29 k 1#32) S1x32x128.size (k0_off29_inb k 1), tile v2 v35 (View.readAt (Elt Ideal) arg8.view (Rect.unit (s := S3584x128) (k0_off23 i k 1#32) S1x128.size (k0_off23_inb i k 1)).toLoadRect X8) (View.readAt (Elt Ideal) arg9.view (Rect.unit (s := S112x2x128) (k0_off24 k 1#32) S1x2x128.size (k0_off24_inb k 1)).toLoadRect X9) (View.readAt (Elt Ideal) arg1.view (Rect.unit (s := S1x64x14336) (k0_off25 k 1#32) S1x16x128.size (k0_off25_inb k 1)).toLoadRect X1) (View.readAt (Elt Ideal) arg1.view (Rect.unit (s := S1x64x14336) (k0_off26 k 1#32) S1x16x128.size (k0_off26_inb k 1)).toLoadRect X1) (View.readAt (Elt Ideal) arg1.view (Rect.unit (s := S1x64x14336) (k0_off27 k 1#32) S1x16x128.size (k0_off27_inb k 1)).toLoadRect X1) (View.readAt (Elt Ideal) arg1.view (Rect.unit (s := S1x64x14336) (k0_off28 k 1#32) S1x16x128.size (k0_off28_inb k 1)).toLoadRect X1)⟩,
      ⟨Rect.unit (s := S1x32x14336) (k0_off29 k 0#32) S1x32x128.size (k0_off29_inb k 0), tile v2 v35 (View.readAt (Elt Ideal) arg8.view (Rect.unit (s := S3584x128) (k0_off23 i k 0#32) S1x128.size (k0_off23_inb i k 0)).toLoadRect X8) (View.readAt (Elt Ideal) arg9.view (Rect.unit (s := S112x2x128) (k0_off24 k 0#32) S1x2x128.size (k0_off24_inb k 0)).toLoadRect X9) (View.readAt (Elt Ideal) arg1.view (Rect.unit (s := S1x64x14336) (k0_off25 k 0#32) S1x16x128.size (k0_off25_inb k 0)).toLoadRect X1) (View.readAt (Elt Ideal) arg1.view (Rect.unit (s := S1x64x14336) (k0_off26 k 0#32) S1x16x128.size (k0_off26_inb k 0)).toLoadRect X1) (View.readAt (Elt Ideal) arg1.view (Rect.unit (s := S1x64x14336) (k0_off27 k 0#32) S1x16x128.size (k0_off27_inb k 0)).toLoadRect X1) (View.readAt (Elt Ideal) arg1.view (Rect.unit (s := S1x64x14336) (k0_off28 k 0#32) S1x16x128.size (k0_off28_inb k 0)).toLoadRect X1)⟩] := by
  unfold trip_k0_t2
  dsimp only [trip_k0_t2.sl.r,trip_k0_t2.sl.r_1,trip_k0_t2.sl.r_2,trip_k0_t2.sl.r_3,trip_k0_t2.sl.r_4,trip_k0_t2.sl.r_5,trip_k0_t2.sl.r_6,trip_k0_t2.sl.r_7,trip_k0_t2.sl.r_8,trip_k0_t2.sl.r_9,trip_k0_t2.sl.r_10,trip_k0_t2.sl.r_11,trip_k0_t2.sl.r_12,trip_k0_t2.sl.r_13,trip_k0_t2.sl.r_14,trip_k0_t2.sl.r_15,trip_k0_t2.sl.r_16,trip_k0_t2.sl.r_17,trip_k0_t2.sl.r_18,trip_k0_t2.sl.r_19,trip_k0_t2.sl.r_20,trip_k0_t2.sl.r_21,trip_k0_t2.sl.r_22,trip_k0_t2.sl.r_23,trip_k0_t2.sl.r_24,trip_k0_t2.sl.r_25,trip_k0_t2.sl.r_26,trip_k0_t2.sl.r_27,trip_k0_t2.sl.r_28,trip_k0_t2.sl.r_29,trip_k0_t2.sl.r_30,trip_k0_t2.sl.r_31,trip_k0_t2.sl.r_32,trip_k0_t2.sl.r_33,trip_k0_t2.sl.r_34,trip_k0_t2.sl.r_35,trip_k0_t2.sl.r_36,trip_k0_t2.sl.r_37,trip_k0_t2.sl.r_38]
  rfl

/-- The rounded warp of a weight, as the word the kernel builds. -/
@[irreducible] def kp (w sc : EReal) : BitVec 32 :=
  IntOp.addi (FloatOps.fptosi (F := Ideal) (φ := .f32) 32 (FloatOps.roundeven (F := Ideal) (φ := .f32) (FloatOps.mulf (F := Ideal) (φ := .f32) (FloatOps.extf (F := Ideal) (φ := .bf16) .f32 bitsLt_bf16_f32 (FloatOps.addf (F := Ideal) (φ := .bf16) (FloatOps.tanh (F := Ideal) (φ := .bf16) (FloatOps.mulf (F := Ideal) (φ := .bf16) w sc)) (Scalar.ofBits (F := Ideal) .bf16 0x4188#16))) (Scalar.ofBits (F := Ideal) .f32 0x41000000#32)))) 16640#32

/-- The code word: the word where the weight passes the table's threshold, one less otherwise. -/
def ksel (p : BitVec 32) (w : EReal) (th : Fin 16 → EReal) : BitVec 32 :=
  if th ⟨(IntOp.subi p 16769#32).toNat % 16, Nat.mod_lt _ (by decide)⟩ < w then p else IntOp.subi p 16769#32

/-- Reshaping sixteen rows of words out and back leaves them as they are. -/
theorem sc_round (q : IVec S16x128 32) (h1 h2) : shapeCast S16x128 (shapeCast S16x128x1 q h1) h2 = q := by
  funext x
  obtain ⟨r, l, rfl⟩ := cov2 (a := 16) (b := 128) x
  pointwise []

/-- A loaded sixteen-row weight block, read without its leading axis of one. -/
theorem sc_row (w' : Vec Ideal S1x16x128 .bf16) (h) (r : Fin 16) (l : Fin 128) : shapeCast S16x128 w' h (ix2 r l) = w' (ix3 0 r l) := by
  pointwise []

/-- The words of sixteen rows, entry by entry. -/
theorem kp_at (w sc : FVec Ideal S16x128 .bf16) (x : S16x128.Idx) : pvec w sc x = kp (w x) (sc x) := by
  unfold pvec kp
  rfl

/-- The code words of sixteen rows, entry by entry. -/
theorem cvec_at (sc th : FVec Ideal S16x128 .bf16) (w : Vec Ideal S1x16x128 .bf16) (r : Fin 16) (l : Fin 128) :
    cvec sc th w (ix2 r l) = ksel (kp (w (ix3 0 r l)) (sc (ix2 r l))) (w (ix3 0 r l)) (fun j => th (ix2 j l)) := by
  unfold cvec
  rw [sc_round]
  have hp := kp_at (shapeCast S16x128 w shapeCasts_S1x16x128_S16x128) sc (ix2 r l)
  rw [sc_row] at hp
  generalize pvec _ _ = pv at hp ⊢
  refine Eq.trans ?_ (congrArg (fun K => ksel K (w (ix3 0 r l)) (fun j => th (ix2 j l))) hp)
  show _ = ksel _ _ _
  unfold ksel
  pointwise []

/-- The scale pair's first row is repeated over sixteen rows. -/
theorem pay19_at (sc : Vec Ideal S1x2x128 .bf16) (r : Fin 16) (l : Fin 128) : k0_pay19 (F := Ideal) sc (ix2 r l) = sc (ix3 0 0 l) := by
  pointwise [k0_pay19]

/-- The thresholds, by code (row fifteen of the table is a filler). -/
def thr : ℕ → EReal
  | 0 => Ideal.ofBits .f32 0xBF591CD8#32
  | 1 => Ideal.ofBits .f32 0xBF1C5270#32
  | 2 => Ideal.ofBits .f32 0xBEEB8480#32
  | 3 => Ideal.ofBits .f32 0xBEADEA76#32
  | 4 => Ideal.ofBits .f32 0xBE703CEC#32
  | 5 => Ideal.ofBits .f32 0xBE0D38BC#32
  | 6 => Ideal.ofBits .f32 0xBD3A7871#32
  | 7 => Ideal.ofBits .f32 0x3D22FAFF#32
  | 8 => Ideal.ofBits .f32 0x3DF64862#32
  | 9 => Ideal.ofBits .f32 0x3E5067E0#32
  | 10 => Ideal.ofBits .f32 0x3E9582D4#32
  | 11 => Ideal.ofBits .f32 0x3EC753F9#32
  | 12 => Ideal.ofBits .f32 0x3F006D04#32
  | 13 => Ideal.ofBits .f32 0x3F248DAF#32
  | 14 => Ideal.ofBits .f32 0x3F5C89DA#32
  | _ => 0

/-- The sixteen-row threshold table: the two eight-row halves one over the other, times the row of maxima. -/
theorem pay20_at' (v35 v64 : FVec Ideal S8x128 .f32) (r : Fin 16) (l : Fin 128) (a : Vec Ideal S1x128 .f32) :
    k0_pay20 (F := Ideal) v35 v64 a (ix2 r l) = (if h : r.val < 8 then v35 (ix2 ⟨r.val, h⟩ l) else v64 (ix2 ⟨r.val - 8, by omega⟩ l)) * a (ix2 0 l) := by
  pointwise [k0_pay20]
  simp only [lt_irrefl, ↓reduceIte]
  split_ifs <;> rfl

/-- The first half of the table holds thresholds 0 to 7. -/
theorem tlo_at (r : Fin 8) (l : Fin 128) : k0_pay134 (F := Ideal) (ix2 r l) = thr r.val := by
  pointwise [k0_pay134]
  fin_vals r with hr
  all_goals simp [hr, thr, Scalar.select, IntOp.cmpi]

/-- The second half of the table holds thresholds 8 to 14 and a filler. -/
theorem thi_at (r : Fin 8) (l : Fin 128) : k0_pay135 (F := Ideal) (iota .tc S8x128 32 [0] iota_S8x128_d0_w32) (ix2 r l) = thr (8 + r.val) := by
  pointwise [k0_pay135]
  fin_vals r with hr
  all_goals simp [hr, thr, Scalar.select, IntOp.cmpi]

/-- Row `r` of the table is threshold `r` times the block's maximum. -/
theorem pay20_at (r : Fin 16) (l : Fin 128) (a : Vec Ideal S1x128 .f32) :
    k0_pay20 (F := Ideal) k0_pay134 (k0_pay135 (iota .tc S8x128 32 [0] iota_S8x128_d0_w32)) a (ix2 r l) = thr r.val * a (ix2 0 l) := by
  rw [pay20_at']
  split_ifs with h
  · rw [tlo_at]
  · rw [thi_at]; congr 2; simp only []; omega

/-- Sixteen-bit rows read from 32-bit words: row `a` is half `a % 2` of word row `a / 2`. -/
theorem bits_32_16 (x : IVec S8x128 32) (h : S8x128.Bitcasts 32 S16x128 16) (a : Fin 16) (l : Fin 128) :
    bitcast S16x128 16 x h (ix2 a l) = (x (ix2 ⟨a.val / 2, by omega⟩ l)).extractLsb' (16 * (a.val % 2)) 16 := by
  rw [bitcast_32_16 x h]
  have e : S16x128.row (ix2 a l) = a.val := rfl
  have e2 : h.srcIdx (ix2 a l) (S16x128.row (ix2 a l) / 2) (fun b hb => by have := h.pos_lt (ix2 a l) 0 (by decide) b hb; omega) = ix2 ⟨a.val / 2, by omega⟩ l := by
    funext b
    match b with
    | ⟨0, _⟩ => exact Fin.ext ((h.srcIdx_row _ _ _ ⟨0, Nat.zero_lt_two⟩ rfl))
    | ⟨1, _⟩ => exact Fin.ext (h.srcIdx_other _ _ _ ⟨1, Nat.one_lt_two⟩ (by show ¬ 1 + 2 = 2; omega))
  rw [e2]; rfl

/-- Two codes packed in a byte. -/
def pk (a b : BitVec 32) : BitVec 8 := ((a.setWidth 8 &&& 15#8) <<< 4) ||| (b.setWidth 8 &&& 15#8)

/-- The low half of the shifted and masked word: its low byte packs the word's first two codes. -/
theorem pk_lo (X : BitVec 32) (b0 b1 : BitVec 8) (h0 : ∀ i < 8, X.getLsbD (0 + i) = b0.getLsbD i) (h1 : ∀ i < 8, X.getLsbD (8 + i) = b1.getLsbD i) : (BitVec.extractLsb' (16 * 0) 16 (IntOp.ori (IntOp.shli .vector (IntOp.andi X 252645135#32) 4#32) (IntOp.shrui .vector (IntOp.andi X 252645135#32) 8#32))).setWidth 8
    = ((b0 &&& 15#8) <<< 4) ||| (b1 &&& 15#8) := by
  have s4 : ∀ x : BitVec 32, IntOp.shli .vector x 4#32 = x <<< 4 := fun x => by simp [IntOp.shli]
  have s8 : ∀ x : BitVec 32, IntOp.shrui .vector x 8#32 = x >>> 8 := fun x => by simp [IntOp.shrui]
  rw [s4, s8]
  simp only [IntOp.ori, IntOp.andi]
  apply BitVec.eq_of_getLsbD_eq
  intro i hi
  have a0 := h0 (i - 4) (by omega)
  have a1 := h1 i (by omega)
  interval_cases i <;> simp_all only [BitVec.getLsbD_setWidth, BitVec.getLsbD_append, BitVec.getLsbD_extractLsb', BitVec.getLsbD_or, BitVec.getLsbD_and, BitVec.getLsbD_shiftLeft, BitVec.getLsbD_ushiftRight, Nat.reduceAdd, Nat.reduceMul, Nat.reduceSub, Nat.reduceLT, decide_true, decide_false, BitVec.reduceGetLsb, Bool.and_true, Bool.and_false, Bool.true_and, Bool.false_and, Bool.not_true, Bool.not_false, Bool.or_false, Bool.false_or, ↓reduceIte]

/-- The high half of the shifted and masked word: its low byte packs the word's last two codes. -/
theorem pk_hi (X : BitVec 32) (b0 b1 : BitVec 8) (h0 : ∀ i < 8, X.getLsbD (16 + i) = b0.getLsbD i) (h1 : ∀ i < 8, X.getLsbD (24 + i) = b1.getLsbD i) : (BitVec.extractLsb' (16 * 1) 16 (IntOp.ori (IntOp.shli .vector (IntOp.andi X 252645135#32) 4#32) (IntOp.shrui .vector (IntOp.andi X 252645135#32) 8#32))).setWidth 8
    = ((b0 &&& 15#8) <<< 4) ||| (b1 &&& 15#8) := by
  have s4 : ∀ x : BitVec 32, IntOp.shli .vector x 4#32 = x <<< 4 := fun x => by simp [IntOp.shli]
  have s8 : ∀ x : BitVec 32, IntOp.shrui .vector x 8#32 = x >>> 8 := fun x => by simp [IntOp.shrui]
  rw [s4, s8]
  simp only [IntOp.ori, IntOp.andi]
  apply BitVec.eq_of_getLsbD_eq
  intro i hi
  have a0 := h0 (i - 4) (by omega)
  have a1 := h1 i (by omega)
  interval_cases i <;> simp_all only [BitVec.getLsbD_setWidth, BitVec.getLsbD_append, BitVec.getLsbD_extractLsb', BitVec.getLsbD_or, BitVec.getLsbD_and, BitVec.getLsbD_shiftLeft, BitVec.getLsbD_ushiftRight, Nat.reduceAdd, Nat.reduceMul, Nat.reduceSub, Nat.reduceLT, decide_true, decide_false, BitVec.reduceGetLsb, Bool.and_true, Bool.and_false, Bool.true_and, Bool.false_and, Bool.not_true, Bool.not_false, Bool.or_false, Bool.false_or, ↓reduceIte]

/-- Two blocks of sixteen rows of codes, one over the other and cut to bytes, hold the codes in order. -/
theorem cat_at (z0 z1 : IVec S16x128 32) (Z : ℕ → BitVec 32) (l : Fin 128) (h0 : ∀ r : Fin 16, z0 (ix2 r l) = Z r.val) (h1 : ∀ r : Fin 16, z1 (ix2 r l) = Z (16 + r.val)) (r : Fin 32) :
    trunci 8 (concatenate S32x128 0 [⟨S16x128, z0⟩, ⟨S16x128, z1⟩] concatenates_S16x128_S16x128_S32x128_d0) natLt_8_32 (ix2 r l) = (Z r.val).setWidth 8 := by
  pointwise []
  split_ifs with h
  · rw [h0]
  all_goals
    rw [h1]
    have e : 16 + (r.val - 16) = r.val := by omega
    simp only [e]

/-- A byte of the packed half holds two codes. -/
theorem half_at (z0 z1 : IVec S16x128 32) (Z : ℕ → BitVec 32) (l : Fin 128) (h0 : ∀ r : Fin 16, z0 (ix2 r l) = Z r.val) (h1 : ∀ r : Fin 16, z1 (ix2 r l) = Z (16 + r.val)) (q : Fin 16) :
    (half z0 z1 (ix2 q l)).setWidth 8 = pk (Z (2 * q.val)) (Z (2 * q.val + 1)) := by
  unfold half
  rw [bits_32_16]
  have hc := cat_at z0 z1 Z l h0 h1
  generalize trunci 8 (concatenate S32x128 0 [⟨S16x128, z0⟩, ⟨S16x128, z1⟩] concatenates_S16x128_S16x128_S32x128_d0) natLt_8_32 = x at hc ⊢
  have hb : ∀ (n : ℕ) (hn : n < 4) (i : ℕ), i < 8 → (bitcast S8x128 32 x bitcasts_S32x128_w8_S8x128_w32 (ix2 ⟨q.val / 2, by omega⟩ l)).getLsbD (8 * n + i) = ((Z (4 * (q.val / 2) + n)).setWidth 8).getLsbD i := by
    intro n hn i hi
    refine (bitcast_8_32_getLsbD_ix2 (R := 32) (r := 8) (n := 128) x _ ⟨q.val / 2, by omega⟩ l (8 * n + i) (by omega) ⟨4 * (q.val / 2) + n, by omega⟩ (by simp only []; omega)).trans ?_
    have e : (8 * n + i) % 8 = i := by omega
    rw [e]
    exact congrArg (fun b : BitVec 8 => b.getLsbD i) (hc ⟨4 * (q.val / 2) + n, by omega⟩)
  generalize hX : bitcast S8x128 32 x bitcasts_S32x128_w8_S8x128_w32 = y at hb ⊢
  show (BitVec.extractLsb' (16 * (q.val % 2)) 16 (IntOp.ori (IntOp.shli .vector (IntOp.andi (y (ix2 ⟨q.val / 2, by omega⟩ l)) 252645135#32) 4#32) (IntOp.shrui .vector (IntOp.andi (y (ix2 ⟨q.val / 2, by omega⟩ l)) 252645135#32) 8#32))).setWidth 8 = _
  rcases Nat.mod_two_eq_zero_or_one q.val with hq | hq
  · rw [hq, pk_lo _ _ _ (hb 0 (by decide)) (hb 1 (by decide))]
    have e0 : 4 * (q.val / 2) + 0 = 2 * q.val := by omega
    have e1 : 4 * (q.val / 2) + 1 = 2 * q.val + 1 := by omega
    rw [e0, e1]; rfl
  · rw [hq, pk_hi _ _ _ (hb 2 (by decide)) (hb 3 (by decide))]
    have e0 : 4 * (q.val / 2) + 2 = 2 * q.val := by omega
    have e1 : 4 * (q.val / 2) + 3 = 2 * q.val + 1 := by omega
    rw [e0, e1]; rfl

/-- A byte of a packed lane tile holds the codes of its two rows. -/
theorem tile_at (a : Vec Ideal S1x128 .f32) (sc : Vec Ideal S1x2x128 .bf16) (w0 w1 w2 w3 : Vec Ideal S1x16x128 .bf16) (W : ℕ → EReal) (l : Fin 128)
    (h0 : ∀ r : Fin 16, w0 (ix3 0 r l) = W r.val) (h1 : ∀ r : Fin 16, w1 (ix3 0 r l) = W (16 + r.val)) (h2 : ∀ r : Fin 16, w2 (ix3 0 r l) = W (32 + r.val)) (h3 : ∀ r : Fin 16, w3 (ix3 0 r l) = W (48 + r.val)) (q : Fin 32)
    (Z : ℕ → BitVec 32) (hZ : ∀ r, Z r = ksel (kp (W r) (sc (ix3 0 0 l))) (W r) (fun j => thr j.val * a (ix2 0 l))) :
    tile (iota .tc S8x128 32 [0] iota_S8x128_d0_w32) k0_pay134 a sc w0 w1 w2 w3 (ix3 0 q l) = pk (Z (2 * q.val)) (Z (2 * q.val + 1)) := by
  unfold tile
  have hc : ∀ (w : Vec Ideal S1x16x128 .bf16) (n : ℕ), (∀ r : Fin 16, w (ix3 0 r l) = W (n + r.val)) → ∀ r : Fin 16,
      cvec (k0_pay19 sc) (k0_pay20 k0_pay134 (k0_pay135 (iota .tc S8x128 32 [0] iota_S8x128_d0_w32)) a) w (ix2 r l) = Z (n + r.val) := by
    intro w n hw r
    rw [cvec_at, hZ, hw, pay19_at]
    exact congrArg _ (funext fun j => pay20_at j l a)
  have A := half_at _ _ Z l (fun r => (hc w0 0 (fun r => by rw [h0, Nat.zero_add]) r).trans (by rw [Nat.zero_add])) (hc w1 16 h1)
  have B := half_at _ _ (fun r => Z (32 + r)) l (hc w2 32 h2) (fun r => (hc w3 48 h3 r).trans (by simp only [← Nat.add_assoc, Nat.reduceAdd]))
  generalize half _ _ = x0 at A ⊢
  generalize half _ _ = x1 at B ⊢
  pointwise []
  split_ifs with h
  · exact A ⟨q.val, h⟩
  all_goals
    refine (B ⟨q.val - 16, by omega⟩).trans ?_
    have e0 : 32 + 2 * (q.val - 16) = 2 * q.val := by omega
    have e1 : 32 + (2 * (q.val - 16) + 1) = 2 * q.val + 1 := by omega
    simp only [e0, e1]

end Cert.Proof.KernelIdeal

end
-- ==== Proof.V6.lean ====
module

public import proofs.«01_k».proof.Proof.KernelIdealBody
public import proofs.«01_k».proof.Proof.Gen.KernelIdeal.Loops
public import proofs.«01_k».proof.Proof.Gen.KernelIdeal
public import proofs.«01_k».proof.Proof.V5
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- Offset 23 of trip `k` for lane tile `4 k + s`. -/
theorem off23_eq (i : grid0.Coords) (k : Fin k0_t2_loop.trips) (s : ℕ) (hs : s < 4) : k0_off23 i k (BitVec.ofNat 32 s) = ![(i 0).val * 112 + (k.val * 4 + s), 0] := by
  have hk : k.val < 28 := Nat.lt_of_lt_of_le k.isLt k0_t2_abs.2.1
  have hi : (i 0).val < 26 := (i 0).isLt
  unfold k0_off23
  dsimp only
  congr 1
  simp [Scalar.muli, Scalar.addi, IntOp.muli, IntOp.addi, Scf.iv, Scalar.indexCast]
  omega

/-- Offset 24 of trip `k` for lane tile `4 k + s`. -/
theorem off24_eq (k : Fin k0_t2_loop.trips) (s : ℕ) (hs : s < 4) : k0_off24 k (BitVec.ofNat 32 s) = ![k.val * 4 + s, 0, 0] := by
  have hk : k.val < 28 := Nat.lt_of_lt_of_le k.isLt k0_t2_abs.2.1
  unfold k0_off24
  dsimp only
  congr 1
  simp [Scalar.muli, Scalar.addi, IntOp.muli, IntOp.addi, Scf.iv, Scalar.indexCast]
  omega

/-- Offset 25 of trip `k` for lane tile `4 k + s`. -/
theorem off25_eq (k : Fin k0_t2_loop.trips) (s : ℕ) (hs : s < 4) : k0_off25 k (BitVec.ofNat 32 s) = ![0, 0, (k.val * 4 + s) * 128] := by
  have hk : k.val < 28 := Nat.lt_of_lt_of_le k.isLt k0_t2_abs.2.1
  unfold k0_off25
  dsimp only
  congr 3
  simp [Scalar.muli, Scalar.addi, IntOp.muli, IntOp.addi, Scf.iv, Scalar.indexCast]
  omega

/-- Offset 26 of trip `k` for lane tile `4 k + s`. -/
theorem off26_eq (k : Fin k0_t2_loop.trips) (s : ℕ) (hs : s < 4) : k0_off26 k (BitVec.ofNat 32 s) = ![0, 16, (k.val * 4 + s) * 128] := by
  have hk : k.val < 28 := Nat.lt_of_lt_of_le k.isLt k0_t2_abs.2.1
  unfold k0_off26
  dsimp only
  congr 3
  simp [Scalar.muli, Scalar.addi, IntOp.muli, IntOp.addi, Scf.iv, Scalar.indexCast]
  omega

/-- Offset 27 of trip `k` for lane tile `4 k + s`. -/
theorem off27_eq (k : Fin k0_t2_loop.trips) (s : ℕ) (hs : s < 4) : k0_off27 k (BitVec.ofNat 32 s) = ![0, 32, (k.val * 4 + s) * 128] := by
  have hk : k.val < 28 := Nat.lt_of_lt_of_le k.isLt k0_t2_abs.2.1
  unfold k0_off27
  dsimp only
  congr 3
  simp [Scalar.muli, Scalar.addi, IntOp.muli, IntOp.addi, Scf.iv, Scalar.indexCast]
  omega

/-- Offset 28 of trip `k` for lane tile `4 k + s`. -/
theorem off28_eq (k : Fin k0_t2_loop.trips) (s : ℕ) (hs : s < 4) : k0_off28 k (BitVec.ofNat 32 s) = ![0, 48, (k.val * 4 + s) * 128] := by
  have hk : k.val < 28 := Nat.lt_of_lt_of_le k.isLt k0_t2_abs.2.1
  unfold k0_off28
  dsimp only
  congr 3
  simp [Scalar.muli, Scalar.addi, IntOp.muli, IntOp.addi, Scf.iv, Scalar.indexCast]
  omega

/-- Offset 29 of trip `k` for lane tile `4 k + s`. -/
theorem off29_eq (k : Fin k0_t2_loop.trips) (s : ℕ) (hs : s < 4) : k0_off29 k (BitVec.ofNat 32 s) = ![0, 0, (k.val * 4 + s) * 128] := by
  have hk : k.val < 28 := Nat.lt_of_lt_of_le k.isLt k0_t2_abs.2.1
  unfold k0_off29
  dsimp only
  congr 3
  simp [Scalar.muli, Scalar.addi, IntOp.muli, IntOp.addi, Scf.iv, Scalar.indexCast]
  omega

/-- A load of sixteen rows from 0 reads the block's words. -/
theorem rdo25 (arg1 : Memref sig .tc .vmem S1x64x14336 .bf16) (X1 : BufTy.Contents (Elt Ideal) arg1.view.ty) (k : Fin k0_t2_loop.trips) (s : ℕ) (hs : s < 4) {inb} (r : Fin 16) (l : Fin 128) :
    View.readAt (Elt Ideal) arg1.view (Rect.unit (s := S1x64x14336) (k0_off25 k (BitVec.ofNat 32 s)) S1x16x128.size inb).toLoadRect X1 (ix3 0 r l)
      = at1 (arg1.view.read (Elt Ideal) X1) (0 + r.val) ((k.val * 4 + s) * 128 + l.val) := by
  have hk : k.val < 28 := Nat.lt_of_lt_of_le k.isLt k0_t2_abs.2.1
  have hl := l.isLt
  refine (rd_unit arg1.view X1 _ (off25_eq k s hs) (ix3 0 r l) (ix3 0 ⟨0 + r.val, by omega⟩ ⟨(k.val * 4 + s) * 128 + l.val, by omega⟩) ?_).trans
    (at1_eq _ _ _ _ _ rfl rfl)
  intro a
  fin_cases a <;> simp [ix3]

/-- A load of sixteen rows from 16 reads the block's words. -/
theorem rdo26 (arg1 : Memref sig .tc .vmem S1x64x14336 .bf16) (X1 : BufTy.Contents (Elt Ideal) arg1.view.ty) (k : Fin k0_t2_loop.trips) (s : ℕ) (hs : s < 4) {inb} (r : Fin 16) (l : Fin 128) :
    View.readAt (Elt Ideal) arg1.view (Rect.unit (s := S1x64x14336) (k0_off26 k (BitVec.ofNat 32 s)) S1x16x128.size inb).toLoadRect X1 (ix3 0 r l)
      = at1 (arg1.view.read (Elt Ideal) X1) (16 + r.val) ((k.val * 4 + s) * 128 + l.val) := by
  have hk : k.val < 28 := Nat.lt_of_lt_of_le k.isLt k0_t2_abs.2.1
  have hl := l.isLt
  refine (rd_unit arg1.view X1 _ (off26_eq k s hs) (ix3 0 r l) (ix3 0 ⟨16 + r.val, by omega⟩ ⟨(k.val * 4 + s) * 128 + l.val, by omega⟩) ?_).trans
    (at1_eq _ _ _ _ _ rfl rfl)
  intro a
  fin_cases a <;> simp [ix3]

/-- A load of sixteen rows from 32 reads the block's words. -/
theorem rdo27 (arg1 : Memref sig .tc .vmem S1x64x14336 .bf16) (X1 : BufTy.Contents (Elt Ideal) arg1.view.ty) (k : Fin k0_t2_loop.trips) (s : ℕ) (hs : s < 4) {inb} (r : Fin 16) (l : Fin 128) :
    View.readAt (Elt Ideal) arg1.view (Rect.unit (s := S1x64x14336) (k0_off27 k (BitVec.ofNat 32 s)) S1x16x128.size inb).toLoadRect X1 (ix3 0 r l)
      = at1 (arg1.view.read (Elt Ideal) X1) (32 + r.val) ((k.val * 4 + s) * 128 + l.val) := by
  have hk : k.val < 28 := Nat.lt_of_lt_of_le k.isLt k0_t2_abs.2.1
  have hl := l.isLt
  refine (rd_unit arg1.view X1 _ (off27_eq k s hs) (ix3 0 r l) (ix3 0 ⟨32 + r.val, by omega⟩ ⟨(k.val * 4 + s) * 128 + l.val, by omega⟩) ?_).trans
    (at1_eq _ _ _ _ _ rfl rfl)
  intro a
  fin_cases a <;> simp [ix3]

/-- A load of sixteen rows from 48 reads the block's words. -/
theorem rdo28 (arg1 : Memref sig .tc .vmem S1x64x14336 .bf16) (X1 : BufTy.Contents (Elt Ideal) arg1.view.ty) (k : Fin k0_t2_loop.trips) (s : ℕ) (hs : s < 4) {inb} (r : Fin 16) (l : Fin 128) :
    View.readAt (Elt Ideal) arg1.view (Rect.unit (s := S1x64x14336) (k0_off28 k (BitVec.ofNat 32 s)) S1x16x128.size inb).toLoadRect X1 (ix3 0 r l)
      = at1 (arg1.view.read (Elt Ideal) X1) (48 + r.val) ((k.val * 4 + s) * 128 + l.val) := by
  have hk : k.val < 28 := Nat.lt_of_lt_of_le k.isLt k0_t2_abs.2.1
  have hl := l.isLt
  refine (rd_unit arg1.view X1 _ (off28_eq k s hs) (ix3 0 r l) (ix3 0 ⟨48 + r.val, by omega⟩ ⟨(k.val * 4 + s) * 128 + l.val, by omega⟩) ?_).trans
    (at1_eq _ _ _ _ _ rfl rfl)
  intro a
  fin_cases a <;> simp [ix3]

/-- The code word the kernel gives the weight at a row and column of a block. -/
def zc (x : S1x64x14336.Idx → EReal) (c r : ℕ) : BitVec 32 := ksel (kp (at1 x r c) (scp (cm x c))) (at1 x r c) (fun j => thr j.val * cm x c)

/-- The packed block the kernel writes. -/
def packG (x : S1x64x14336.Idx → EReal) (y : S1x32x14336.Idx) : BitVec 8 := pk (zc x (y 2).val (2 * (y 1).val)) (zc x (y 2).val (2 * (y 1).val + 1))

/-- A piece of the encoding loop holds the packed block's bytes. -/
theorem tile_piece (arg1 : Memref sig .tc .vmem S1x64x14336 .bf16) (arg8 : Memref sig .tc .vmem S3584x128 .f32) (arg9 : Memref sig .tc .vmem S112x2x128 .bf16)
    (X1 : BufTy.Contents (Elt Ideal) arg1.view.ty) (X8 : BufTy.Contents (Elt Ideal) arg8.view.ty) (X9 : BufTy.Contents (Elt Ideal) arg9.view.ty) (i : grid0.Coords) (k : Fin k0_t2_loop.trips) (s : ℕ) (hs : s < 4)
    (H8 : ∀ (r : Fin 3584) (l : Fin 128), (i 0).val * 112 ≤ r.val → r.val < (i 0).val * 112 + 112 → arg8.view.read (Elt Ideal) X8 (ix2 r l) = cm (arg1.view.read (Elt Ideal) X1) ((r.val - (i 0).val * 112) * 128 + l.val))
    (H9 : ∀ (r : Fin 112) (h : Fin 2) (l : Fin 128), arg9.view.read (Elt Ideal) X9 (ix3 r h l) = scp (cm (arg1.view.read (Elt Ideal) X1) (r.val * 128 + l.val))) {i1 i2 i3 i4 i5 i6 i7} (q : Fin 32) (l : Fin 128) :
    tile (iota .tc S8x128 32 [0] iota_S8x128_d0_w32) k0_pay134 (View.readAt (Elt Ideal) arg8.view (Rect.unit (s := S3584x128) (k0_off23 i k (BitVec.ofNat 32 s)) S1x128.size i1).toLoadRect X8)
      (View.readAt (Elt Ideal) arg9.view (Rect.unit (s := S112x2x128) (k0_off24 k (BitVec.ofNat 32 s)) S1x2x128.size i2).toLoadRect X9)
      (View.readAt (Elt Ideal) arg1.view (Rect.unit (s := S1x64x14336) (k0_off25 k (BitVec.ofNat 32 s)) S1x16x128.size i3).toLoadRect X1)
      (View.readAt (Elt Ideal) arg1.view (Rect.unit (s := S1x64x14336) (k0_off26 k (BitVec.ofNat 32 s)) S1x16x128.size i4).toLoadRect X1)
      (View.readAt (Elt Ideal) arg1.view (Rect.unit (s := S1x64x14336) (k0_off27 k (BitVec.ofNat 32 s)) S1x16x128.size i5).toLoadRect X1)
      (View.readAt (Elt Ideal) arg1.view (Rect.unit (s := S1x64x14336) (k0_off28 k (BitVec.ofNat 32 s)) S1x16x128.size i6).toLoadRect X1) (ix3 0 q l)
      = packG (arg1.view.read (Elt Ideal) X1) ((Rect.unit (s := S1x32x14336) (k0_off29 k (BitVec.ofNat 32 s)) S1x32x128.size i7).emb (ix3 0 q l)) := by
  have hk : k.val < 28 := Nat.lt_of_lt_of_le k.isLt k0_t2_abs.2.1
  have hi : (i 0).val < 26 := (i 0).isLt
  have e : packG (arg1.view.read (Elt Ideal) X1) ((Rect.unit (s := S1x32x14336) (k0_off29 k (BitVec.ofNat 32 s)) S1x32x128.size i7).emb (ix3 0 q l))
      = pk (zc (arg1.view.read (Elt Ideal) X1) ((k.val * 4 + s) * 128 + l.val) (2 * q.val)) (zc (arg1.view.read (Elt Ideal) X1) ((k.val * 4 + s) * 128 + l.val) (2 * q.val + 1)) := by
    have a1 : (((Rect.unit (s := S1x32x14336) (k0_off29 k (BitVec.ofNat 32 s)) S1x32x128.size i7).emb (ix3 0 q l)) 1).val = q.val := by
      show k0_off29 k (BitVec.ofNat 32 s) 1 + 1 * q.val = q.val
      rw [off29_eq k s hs]; show 0 + 1 * q.val = q.val; omega
    have a2 : (((Rect.unit (s := S1x32x14336) (k0_off29 k (BitVec.ofNat 32 s)) S1x32x128.size i7).emb (ix3 0 q l)) 2).val = (k.val * 4 + s) * 128 + l.val := by
      show k0_off29 k (BitVec.ofNat 32 s) 2 + 1 * l.val = _
      rw [off29_eq k s hs]; show (k.val * 4 + s) * 128 + 1 * l.val = _; omega
    unfold packG
    rw [a1, a2]
  rw [e]
  have ha : View.readAt (Elt Ideal) arg8.view (Rect.unit (s := S3584x128) (k0_off23 i k (BitVec.ofNat 32 s)) S1x128.size i1).toLoadRect X8 (ix2 0 l) = cm (arg1.view.read (Elt Ideal) X1) ((k.val * 4 + s) * 128 + l.val) := by
    refine (rd_unit arg8.view X8 _ (off23_eq i k s hs) (ix2 0 l) (ix2 ⟨(i 0).val * 112 + (k.val * 4 + s), by omega⟩ l) ?_).trans ?_
    · intro a
      fin_cases a <;> simp [ix2]
    · rw [H8 _ _ (by simp only []; omega) (by simp only []; omega)]
      congr 2; simp only []; omega
  have hsc : View.readAt (Elt Ideal) arg9.view (Rect.unit (s := S112x2x128) (k0_off24 k (BitVec.ofNat 32 s)) S1x2x128.size i2).toLoadRect X9 (ix3 0 0 l) = scp (cm (arg1.view.read (Elt Ideal) X1) ((k.val * 4 + s) * 128 + l.val)) := by
    refine (rd_unit arg9.view X9 _ (off24_eq k s hs) (ix3 0 0 l) (ix3 ⟨k.val * 4 + s, by omega⟩ 0 l) ?_).trans (H9 _ _ _)
    intro a
    fin_cases a <;> simp [ix3]
  exact tile_at _ _ _ _ _ _ (fun r => at1 (arg1.view.read (Elt Ideal) X1) r ((k.val * 4 + s) * 128 + l.val)) l (fun r => (rdo25 arg1 X1 k s hs r l).trans (by rw [Nat.zero_add]))
    (fun r => rdo26 arg1 X1 k s hs r l) (fun r => rdo27 arg1 X1 k s hs r l) (fun r => rdo28 arg1 X1 k s hs r l) q (zc (arg1.view.read (Elt Ideal) X1) ((k.val * 4 + s) * 128 + l.val))
    (fun r => by rw [ha, hsc]; rfl)

/-- The pieces of the encoding loop hold the packed block's bytes. -/
theorem enc_pieces (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (arg0 v0 : BitVec 32) (X1 : BufTy.Contents (Elt Ideal) arg1.view.ty) (X8 : BufTy.Contents (Elt Ideal) arg8.view.ty) (X9 : BufTy.Contents (Elt Ideal) arg9.view.ty)
    (H8 : ∀ (r : Fin 3584) (l : Fin 128), (i 0).val * 112 ≤ r.val → r.val < (i 0).val * 112 + 112 → arg8.view.read (Elt Ideal) X8 (ix2 r l) = cm (arg1.view.read (Elt Ideal) X1) ((r.val - (i 0).val * 112) * 128 + l.val))
    (H9 : ∀ (r : Fin 112) (h : Fin 2) (l : Fin 128), arg9.view.read (Elt Ideal) X9 (ix3 r h l) = scp (cm (arg1.view.read (Elt Ideal) X1) (r.val * 128 + l.val))) : ∀ n : ℕ, n ≤ k0_t2_loop.trips →
    (∀ p ∈ pb_k0_t2 (F := Ideal) 𝒱 c none i arg1 harg1 arg2 harg2 arg3 harg3 arg4 harg4 arg5 harg5 arg6 harg6 arg7 harg7 arg8 harg8 arg9 harg9 arg10 harg10 arg0 v0 (iota .tc S8x128 32 [0] iota_S8x128_d0_w32) k0_pay134 X1 X8 X9 n, ∀ x, p.2 x = packG (arg1.view.read (Elt Ideal) X1) (p.1.emb x))
    ∧ ∀ y : S1x32x14336.Idx, (y 2).val < n * 512 → ∃ p ∈ pb_k0_t2 (F := Ideal) 𝒱 c none i arg1 harg1 arg2 harg2 arg3 harg3 arg4 harg4 arg5 harg5 arg6 harg6 arg7 harg7 arg8 harg8 arg9 harg9 arg10 harg10 arg0 v0 (iota .tc S8x128 32 [0] iota_S8x128_d0_w32) k0_pay134 X1 X8 X9 n, y ∈ p.1.set
  | 0, _ => ⟨fun p hp => absurd hp List.not_mem_nil, fun y hy => absurd hy (by omega)⟩
  | n + 1, hn => by
    obtain ⟨hA, hB⟩ := enc_pieces 𝒱 c i arg1 harg1 arg2 harg2 arg3 harg3 arg4 harg4 arg5 harg5 arg6 harg6 arg7 harg7 arg8 harg8 arg9 harg9 arg10 harg10 arg0 v0 X1 X8 X9 H8 H9 n (by omega)
    have hk : n < 28 := Nat.lt_of_lt_of_le hn k0_t2_abs.2.1
    have e := pb_k0_t2_succ (F := Ideal) 𝒱 c none i arg1 harg1 arg2 harg2 arg3 harg3 arg4 harg4 arg5 harg5 arg6 harg6 arg7 harg7 arg8 harg8 arg9 harg9 arg10 harg10 arg0 v0 (iota .tc S8x128 32 [0] iota_S8x128_d0_w32) k0_pay134 X1 X8 X9 ⟨n, hn⟩
    unfold tripL_k0_t2 at e
    rw [t2_pieces] at e
    dsimp only at e
    rw [e]
    generalize hkk : (⟨n, hn⟩ : Fin k0_t2_loop.trips) = k
    have hkv : k.val = n := by rw [← hkk]
    clear e hkk
    constructor
    · intro p hp0
      rcases List.mem_append.mp hp0 with hp | hp
      · clear hp0
        revert p
        simp only [List.forall_mem_cons, List.not_mem_nil, false_implies, implies_true, _root_.and_true]
        refine ⟨?_, ?_, ?_, ?_⟩
        · intro (x : S1x32x128.Idx)
          obtain ⟨q, l, rfl⟩ := cov3 (a := 32) (b := 128) x
          exact tile_piece arg1 arg8 arg9 X1 X8 X9 i k 3 (by decide) H8 H9 q l
        · intro (x : S1x32x128.Idx)
          obtain ⟨q, l, rfl⟩ := cov3 (a := 32) (b := 128) x
          exact tile_piece arg1 arg8 arg9 X1 X8 X9 i k 2 (by decide) H8 H9 q l
        · intro (x : S1x32x128.Idx)
          obtain ⟨q, l, rfl⟩ := cov3 (a := 32) (b := 128) x
          exact tile_piece arg1 arg8 arg9 X1 X8 X9 i k 1 (by decide) H8 H9 q l
        · intro (x : S1x32x128.Idx)
          obtain ⟨q, l, rfl⟩ := cov3 (a := 32) (b := 128) x
          exact tile_piece arg1 arg8 arg9 X1 X8 X9 i k 0 (by decide) H8 H9 q l
      · exact hA p hp
    · intro y hy
      by_cases hy' : (y 2).val < n * 512
      · obtain ⟨p, hp, hm⟩ := hB y hy'
        exact ⟨p, List.mem_append_right _ hp, hm⟩
      · have key : ∀ (s : ℕ), s < 4 → (n * 4 + s) * 128 ≤ (y 2).val → (y 2).val < (n * 4 + s) * 128 + 128 → ∀ inb,
            y ∈ (Rect.unit (s := S1x32x14336) (k0_off29 k (BitVec.ofNat 32 s)) S1x32x128.size inb).toLoadRect.set := by
          intro s hs h1 h2 inb
          rw [LoadRect.mem_set]
          intro a
          have he := off29_eq k s hs
          rw [hkv] at he
          have y0 : (y 0).val = 0 := by have : (y 0).val < 1 := (y 0).isLt; omega
          have y1 : (y 1).val < 32 := (y 1).isLt
          fin_cases a
          · exact ⟨0, by show 0 < 1; omega, by show (y 0).val = k0_off29 k (BitVec.ofNat 32 s) 0 + 1 * 0; rw [he]; show (y 0).val = 0 + 1 * 0; omega⟩
          · exact ⟨(y 1).val, by show (y 1).val < 32; omega, by show (y 1).val = k0_off29 k (BitVec.ofNat 32 s) 1 + 1 * (y 1).val; rw [he]; show (y 1).val = 0 + 1 * (y 1).val; omega⟩
          · exact ⟨(y 2).val - (n * 4 + s) * 128, by show _ < 128; omega, by show (y 2).val = k0_off29 k (BitVec.ofNat 32 s) 2 + 1 * _; rw [he]; show (y 2).val = (n * 4 + s) * 128 + 1 * _; omega⟩
        by_cases c3 : (n * 4 + 3) * 128 ≤ (y 2).val
        · exact ⟨_, List.mem_append_left _ (List.mem_cons_self ..), key 3 (by decide) c3 (by omega) (k0_off29_inb k 3)⟩
        · by_cases c2 : (n * 4 + 2) * 128 ≤ (y 2).val
          · exact ⟨_, List.mem_append_left _ (List.mem_cons_of_mem _ (List.mem_cons_self ..)), key 2 (by decide) c2 (by omega) (k0_off29_inb k 2)⟩
          · by_cases c1 : (n * 4 + 1) * 128 ≤ (y 2).val
            · exact ⟨_, List.mem_append_left _ (List.mem_cons_of_mem _ (List.mem_cons_of_mem _ (List.mem_cons_self ..))), key 1 (by decide) c1 (by omega) (k0_off29_inb k 1)⟩
            · exact ⟨_, List.mem_append_left _ (List.mem_cons_of_mem _ (List.mem_cons_of_mem _ (List.mem_cons_of_mem _ (List.mem_cons_self ..)))), key 0 (by decide) (by omega) (by omega) (k0_off29_inb k 0)⟩

end Cert.Proof.KernelIdeal

end
-- ==== Proof.RefRead.lean ====
module

public import proofs.«01_k».proof.Proof.Gen.ReferenceIdeal.Run
public import proofs.«01_k».proof.Proof.Gen.ReferenceIdeal.Read
public import proofs.«01_k».proof.Proof.V6
public import Idealize.ShloMosaic.Lib.Pointwise
public import Idealize.ShloMosaic.Lib.Tactic

@[expose] public section

set_option maxRecDepth 16384
set_option maxHeartbeats 1000000

noncomputable section

namespace Cert.Proof.ReferenceIdeal

open Cert.ReferenceIdeal.Read Cert.Proof.KernelIdeal
open Cert.ReferenceIdeal Cert.ReferenceIdeal.Gen
open Idealize.ShloMosaic Idealize.ShloMosaic.TcCoe Idealize.ShloMosaic.Tactic
open Idealize.SL Idealize.SL.Sem

/-- Block `b` of the weights. -/
def blk (x : S1x1664x14336.Idx → EReal) (b : Fin 26) : (⟨3, ![1, 64, 14336]⟩ : Shape).Idx → EReal := fun y => x (ix3 0 ⟨b.val * 64 + (y 1).val, by have h : (y 1).val < 64 := (y 1).isLt; have := b.isLt; omega⟩ (y 2))

/-- An entry of a block. -/
theorem at1_blk (x : S1x1664x14336.Idx → EReal) (b : Fin 26) (r : ℕ) (c : ℕ) (r' : Fin 1664) (c' : Fin 14336) (hr : r < 64) (h : r'.val = b.val * 64 + r) (hc : c'.val = c) : at1 (blk x b) r c = x (ix3 0 r' c') := by
  rw [← at1_eq (blk x b) ⟨r, hr⟩ c' r c rfl hc]
  show x (ix3 0 _ _) = _
  congr 2
  exact Fin.ext h.symm

/-- The even rows of the weights, in blocks. -/
theorem even_at (x : S1x1664x14336.Idx → EReal) (b : Fin 26) (r : Fin 32) (c : Fin 14336) : val_main_v2 (F := Ideal) x (ix4 0 b r c) = at1 (blk x b) (2 * r.val) c.val := by
  rw [at1_blk x b (2 * r.val) c.val ⟨b.val * 64 + 2 * r.val, by omega⟩ c (by omega) rfl rfl]
  pointwise [val_main_v2, val_main_v1, val_main_v0]
  congr 2
  apply Fin.ext
  show 2 * (b.val * 32 + r.val) = b.val * 64 + 2 * r.val
  omega

/-- The odd rows of the weights, in blocks. -/
theorem odd_at (x : S1x1664x14336.Idx → EReal) (b : Fin 26) (r : Fin 32) (c : Fin 14336) : val_main_v5 (F := Ideal) x (ix4 0 b r c) = at1 (blk x b) (2 * r.val + 1) c.val := by
  rw [at1_blk x b (2 * r.val + 1) c.val ⟨b.val * 64 + (2 * r.val + 1), by omega⟩ c (by omega) rfl rfl]
  pointwise [val_main_v5, val_main_v4, val_main_v3]
  congr 2
  apply Fin.ext
  show 1 + 2 * (b.val * 32 + r.val) = b.val * 64 + (2 * r.val + 1)
  omega

/-- The block's maximum of absolute values. -/
theorem amax_at (x : S1x1664x14336.Idx → EReal) (b : Fin 26) (c : Fin 14336) : val_main_v10 (F := Ideal) x (ix3 0 b c) = cm (blk x b) c.val := by
  have hR : S1x26x32x14336.Reduces [2] S1x26x14336 := by decide
  have hl : ∀ k : Fin 32, hR.lift (ix3 0 b c) k = ix4 0 b k c := by
    intro k
    funext a
    fin_cases a <;> rfl
  rw [val_main_v10_apply]
  show max (val_main_v7 (F := Ideal) x (ix3 0 b c)) (val_main_v9 (F := Ideal) x (ix3 0 b c)) = _
  unfold val_main_v7 val_main_v9
  rw [Host.reduce_eq_fold_single (f := FloatOps.maximumf (F := Ideal) (φ := .f32)) (h := hR), Host.reduce_eq_fold_single (f := FloatOps.maximumf (F := Ideal) (φ := .f32)) (h := hR)]
  show max (Finset.univ.fold max (Ideal.ofBits .f32 0xFF800000#32) _) (Finset.univ.fold max (Ideal.ofBits .f32 0xFF800000#32) _) = _
  apply eq_of_forall_ge_iff
  intro B
  have hbot : Ideal.ofBits .f32 0xFF800000#32 = ⊥ := by simp [Ideal.ofBits, Ideal.ieee]
  have e6 : ∀ k : Fin 32, val_main_v6 (F := Ideal) x (ix4 0 b k c) = ab (at1 (blk x b) (2 * k.val) c.val) := by
    intro k
    rw [val_main_v6_apply, even_at]; rfl
  have e8 : ∀ k : Fin 32, val_main_v8 (F := Ideal) x (ix4 0 b k c) = ab (at1 (blk x b) (2 * k.val + 1) c.val) := by
    intro k
    rw [val_main_v8_apply, odd_at]; rfl
  rw [max_le_iff, Finset.fold_max_le, Finset.fold_max_le, cm, Finset.sup_le_iff, hbot]
  simp only [Function.comp_apply, Finset.mem_univ, Finset.mem_range]
  constructor
  · rintro ⟨⟨-, he⟩, ⟨-, ho⟩⟩ r hr
    rcases Nat.even_or_odd' r with ⟨k, rfl | rfl⟩
    · have := he (⟨k, by omega⟩ : Fin 32) trivial
      rw [hl] at this
      exact (e6 ⟨k, by omega⟩) ▸ this
    · have := ho (⟨k, by omega⟩ : Fin 32) trivial
      rw [hl] at this
      exact (e8 ⟨k, by omega⟩) ▸ this
  · intro h
    refine ⟨⟨bot_le, fun k _ => ?_⟩, ⟨bot_le, fun k _ => ?_⟩⟩
    · rw [hl k]
      exact (e6 k).symm ▸ h (2 * k.val) (by have : k.val < 32 := k.isLt; omega)
    · rw [hl k]
      exact (e8 k).symm ▸ h (2 * k.val + 1) (by have : k.val < 32 := k.isLt; omega)

/-- The lowest threshold of the tree. -/
def rt0 (b3 b2 b1 : BitVec 1) : EReal :=
  Scalar.select b3 (Scalar.select b2 (Scalar.select b1 (thr 14) (thr 12)) (Scalar.select b1 (thr 10) (thr 8)))
    (Scalar.select b2 (Scalar.select b1 (thr 6) (thr 4)) (Scalar.select b1 (thr 2) (thr 0)))

/-- The comparison `u > v`, as a bit. -/
def gt (u v : EReal) : BitVec 1 := FloatOps.cmpf (F := Ideal) (φ := .f32) .ogt u v

/-- The reference's code of a normalised weight: four comparisons down a binary tree. -/
def rcode (v : EReal) : BitVec 32 :=
  IntOp.ori (IntOp.ori (IntOp.ori (IntOp.shli .host ((gt v (thr 7)).setWidth 32) 3#32)
    (IntOp.shli .host ((gt v (Scalar.select (gt v (thr 7)) (thr 11) (thr 3))).setWidth 32) 2#32))
    (IntOp.shli .host ((gt v (Scalar.select (gt v (thr 7)) (Scalar.select (gt v (Scalar.select (gt v (thr 7)) (thr 11) (thr 3))) (thr 13) (thr 9)) (Scalar.select (gt v (Scalar.select (gt v (thr 7)) (thr 11) (thr 3))) (thr 5) (thr 1)))).setWidth 32) 1#32))
    ((gt v (rt0 (gt v (thr 7)) (gt v (Scalar.select (gt v (thr 7)) (thr 11) (thr 3))) (gt v (Scalar.select (gt v (thr 7)) (Scalar.select (gt v (Scalar.select (gt v (thr 7)) (thr 11) (thr 3))) (thr 13) (thr 9)) (Scalar.select (gt v (Scalar.select (gt v (thr 7)) (thr 11) (thr 3))) (thr 5) (thr 1)))))).setWidth 32)

/-- The reference's code of an even row is the tree's code of the normalised weight. -/
theorem ce_at (x : S1x1664x14336.Idx → EReal) (i : S1x26x32x14336.Idx) (v : EReal) (h : val_main_v18 (F := Ideal) x i = v) : val_main_v47 (F := Ideal) x i = rcode v := by
  have h20 : val_main_v20 (F := Ideal) x i = gt v (thr 7) := by
    rw [val_main_v20_apply, h]; rfl
  have h22 : val_main_v22 (F := Ideal) x i = gt v (Scalar.select (gt v (thr 7)) (thr 11) (thr 3)) := by
    rw [val_main_v22_apply, h, val_main_v21_apply, h20]; rfl
  have h26 : val_main_v26 (F := Ideal) x i = gt v (Scalar.select (gt v (thr 7)) (Scalar.select (gt v (Scalar.select (gt v (thr 7)) (thr 11) (thr 3))) (thr 13) (thr 9)) (Scalar.select (gt v (Scalar.select (gt v (thr 7)) (thr 11) (thr 3))) (thr 5) (thr 1))) := by
    rw [val_main_v26_apply, h, val_main_v25_apply, h20, val_main_v24_apply, val_main_v23_apply, h22]; rfl
  rw [val_main_v47_apply, val_main_v46_apply, val_main_v45_apply, val_main_v44_apply, val_main_v42_apply, val_main_v41_apply, val_main_v40_apply, val_main_v38_apply, val_main_v37_apply, val_main_v35_apply, val_main_v34_apply, val_main_v33_apply, val_main_v32_apply, val_main_v31_apply, val_main_v30_apply, val_main_v29_apply, val_main_v28_apply, val_main_v27_apply, h, h20, h22, h26]
  rfl
/-- The reference's code of an odd row is the tree's code of the normalised weight. -/
theorem co_at (x : S1x1664x14336.Idx → EReal) (i : S1x26x32x14336.Idx) (v : EReal) (h : val_main_v50 (F := Ideal) x i = v) : val_main_v79 (F := Ideal) x i = rcode v := by
  have h20 : val_main_v52 (F := Ideal) x i = gt v (thr 7) := by
    rw [val_main_v52_apply, h]; rfl
  have h22 : val_main_v54 (F := Ideal) x i = gt v (Scalar.select (gt v (thr 7)) (thr 11) (thr 3)) := by
    rw [val_main_v54_apply, h, val_main_v53_apply, h20]; rfl
  have h26 : val_main_v58 (F := Ideal) x i = gt v (Scalar.select (gt v (thr 7)) (Scalar.select (gt v (Scalar.select (gt v (thr 7)) (thr 11) (thr 3))) (thr 13) (thr 9)) (Scalar.select (gt v (Scalar.select (gt v (thr 7)) (thr 11) (thr 3))) (thr 5) (thr 1))) := by
    rw [val_main_v58_apply, h, val_main_v57_apply, h20, val_main_v56_apply, val_main_v55_apply, h22]; rfl
  rw [val_main_v79_apply, val_main_v78_apply, val_main_v77_apply, val_main_v76_apply, val_main_v74_apply, val_main_v73_apply, val_main_v72_apply, val_main_v70_apply, val_main_v69_apply, val_main_v67_apply, val_main_v66_apply, val_main_v65_apply, val_main_v64_apply, val_main_v63_apply, val_main_v62_apply, val_main_v61_apply, val_main_v60_apply, val_main_v59_apply, h, h20, h22, h26]
  rfl

/-- One over the block's maximum. -/
theorem inv_at (x : S1x1664x14336.Idx → EReal) (b : Fin 26) (c : Fin 14336) : val_main_v15 (F := Ideal) x (ix3 0 b c) = Ideal.div 1 (if cm (blk x b) c.val = 0 then 1 else cm (blk x b) c.val) := by
  rw [val_main_v15_apply, val_main_v14_apply, val_main_v13_apply, val_main_v12_apply, amax_at, val_main_call0_v1_apply, val_main_v11_apply]
  generalize cm (blk x b) c.val = a
  pointwise [val_main_cst_3, val_main_cst_1, val_main_call0_v0, val_main_cst_2]
  show Ideal.div 1 (if a = 0 then Ideal.ofBits .f32 0x3F800000#32 else a) = _
  have h1 : Ideal.ofBits .f32 0x3F800000#32 = (1 : EReal) := by pointwise []
  rw [h1]

/-- The normalised even weight. -/
theorem xe_at (x : S1x1664x14336.Idx → EReal) (b : Fin 26) (r : Fin 32) (c : Fin 14336) : val_main_v18 (F := Ideal) x (ix4 0 b r c) = at1 (blk x b) (2 * r.val) c.val * Ideal.div 1 (if cm (blk x b) c.val = 0 then 1 else cm (blk x b) c.val) := by
  rw [val_main_v18_apply, even_at, val_main_v17_apply, val_main_v16_apply, ← inv_at]
  have hi : idx_main_v16 (idx_main_v17 (ix4 0 b r c)) = ix3 0 b c := by
    funext a
    fin_cases a <;> rfl
  rw [hi]
  rfl

/-- The normalised odd weight. -/
theorem xo_at (x : S1x1664x14336.Idx → EReal) (b : Fin 26) (r : Fin 32) (c : Fin 14336) : val_main_v50 (F := Ideal) x (ix4 0 b r c) = at1 (blk x b) (2 * r.val + 1) c.val * Ideal.div 1 (if cm (blk x b) c.val = 0 then 1 else cm (blk x b) c.val) := by
  rw [val_main_v50_apply, odd_at, val_main_v49_apply, val_main_v48_apply, ← inv_at]
  have hi : idx_main_v48 (idx_main_v49 (ix4 0 b r c)) = ix3 0 b c := by
    funext a
    fin_cases a <;> rfl
  rw [hi]
  rfl

/-- The reference's packed byte. -/
theorem packed_at (x : S1x1664x14336.Idx → EReal) (b : Fin 26) (r : Fin 32) (c : Fin 14336) (q : Fin 832) (hq : q.val = b.val * 32 + r.val) :
    val_main_v84 (F := Ideal) x (ix3 0 q c) = (IntOp.ori (IntOp.shli .host (rcode (at1 (blk x b) (2 * r.val) c.val * Ideal.div 1 (if cm (blk x b) c.val = 0 then 1 else cm (blk x b) c.val))) 4#32) (rcode (at1 (blk x b) (2 * r.val + 1) c.val * Ideal.div 1 (if cm (blk x b) c.val = 0 then 1 else cm (blk x b) c.val)))).setWidth 8 := by
  have hi : idx_main_v84 (ix3 0 q c) = ix4 0 b r c := by
    have hc := c.isLt
    have hb := b.isLt
    have hr := r.isLt
    funext a
    fin_cases a
    · rfl
    · apply Fin.ext
      show ((0 * 832 + q.val) * 14336 + c.val) / 458752 % 26 = b.val
      omega
    · apply Fin.ext
      show ((0 * 832 + q.val) * 14336 + c.val) / 14336 % 32 = r.val
      omega
    · apply Fin.ext
      show ((0 * 832 + q.val) * 14336 + c.val) % 14336 = c.val
      omega
  rw [val_main_v84_apply, hi, val_main_v83_apply, val_main_v82_apply, val_main_v81_apply, ce_at x _ _ (xe_at x b r c), co_at x _ _ (xo_at x b r c)]
  rfl

end Cert.Proof.ReferenceIdeal

end

end
-- ==== Proof.KernelT1.lean ====
module

public import proofs.«01_k».proof.Proof.Gen.Kernel.Frame
public import proofs.«01_k».proof.Proof.Gen.Kernel.Loops
public import proofs.«01_k».proof.Proof.Gen.Kernel
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The resource algebra of the frame kit. -/
local notation "𝕄G" => MT nD τ sig Unit (Elt F) ℕ (UR sig nD τ) ℕ

/-- What one trip of the absmax loop touches: the staged input, the slab, the flat maxima and the scales. -/
abbrev Trip1 (c : Dev nD) (arg1 : Memref sig .tc .vmem S1x64x14336 .bf16) (arg7 : Memref sig .tc .vmem S14x71x128 .i32) (arg8 : Memref sig .tc .vmem S3584x128 .f32) (arg9 : Memref sig .tc .vmem S112x128 .i32) (X1 : BufTy.Contents (Elt F) arg1.view.ty) (f7 : BufTy.Contents (Elt F) arg7.view.ty) (f8 : BufTy.Contents (Elt F) arg8.view.ty) (f9 : BufTy.Contents (Elt F) arg9.view.ty) : sProp 𝕄G :=
  iprop((arg1.view.loc (c : Thread nD τ) ↦[arg1.view.set]{fullShare} X1) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

/-- One trip of the absmax loop at a symbolic trip number over a slab at `f7`, run once: the pieces it writes into
    the slab, the flat maxima and the scales are what the run finds. -/
@[irreducible] def trip1 (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (v0 : BitVec 32) (X1 : BufTy.Contents (Elt F) arg1.view.ty) (k : Fin k0_t1_loop.trips) (f7 : BufTy.Contents (Elt F) arg7.view.ty) :
    Σ' (L7 : List (View.Piece (Elt F) S14x71x128 .i32)) (L8 : List (View.Piece (Elt F) S3584x128 .f32)), { L9 : List (View.Piece (Elt F) S112x128 .i32) // ∀ (E : Set ℕ) (f8 : BufTy.Contents (Elt F) arg8.view.ty) (f9 : BufTy.Contents (Elt F) arg9.view.ty),
      Trip1 (F := F) c arg1 arg7 arg8 arg9 X1 f7 f8 f9
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 v0 k PUnit.unit)
          (fun _ => Trip1 (F := F) c arg1 arg7 arg8 arg9 X1 (arg7.view.writes (Elt F) f7 L7) (arg8.view.writes (Elt F) f8 L8) (arg9.view.writes (Elt F) f9 L9)) } := by
  have hk : k.val < 14 := Nat.lt_of_lt_of_le k.isLt k0_t1_abs.2.1
  refine ⟨?_, ?_, ?_, fun E f8 f9 => ?run⟩
  case run =>
    unfold k0_t1_body
    iintro ⟨H1, H7, H8, H9⟩
    sl_exec
    sl_step
    sl_close

/-- What the slab, the flat maxima and the scales hold: one state of the absmax loop. -/
abbrev St1 (F : FTy → Type) [BitOps F] (arg7 : Memref sig .tc .vmem S14x71x128 .i32) (arg8 : Memref sig .tc .vmem S3584x128 .f32) (arg9 : Memref sig .tc .vmem S112x128 .i32) :=
  BufTy.Contents (Elt F) arg7.view.ty × BufTy.Contents (Elt F) arg8.view.ty × BufTy.Contents (Elt F) arg9.view.ty

/-- One trip's effect on the state: its pieces written over it (nothing past the last trip). -/
@[irreducible] def step1 (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (v0 : BitVec 32) (X1 : BufTy.Contents (Elt F) arg1.view.ty) (k : ℕ) (s : St1 F arg7 arg8 arg9) : St1 F arg7 arg8 arg9 :=
  if h : k < k0_t1_loop.trips then
    (arg7.view.writes (Elt F) s.1 (trip1 (F := F) 𝒱 c bd i arg1 harg1 arg2 harg2 arg3 harg3 arg4 harg4 arg5 harg5 arg6 harg6 arg7 harg7 arg8 harg8 arg9 harg9 arg10 harg10 v0 X1 ⟨k, h⟩ s.1).1,
     arg8.view.writes (Elt F) s.2.1 (trip1 (F := F) 𝒱 c bd i arg1 harg1 arg2 harg2 arg3 harg3 arg4 harg4 arg5 harg5 arg6 harg6 arg7 harg7 arg8 harg8 arg9 harg9 arg10 harg10 v0 X1 ⟨k, h⟩ s.1).2.1,
     arg9.view.writes (Elt F) s.2.2 (trip1 (F := F) 𝒱 c bd i arg1 harg1 arg2 harg2 arg3 harg3 arg4 harg4 arg5 harg5 arg6 harg6 arg7 harg7 arg8 harg8 arg9 harg9 arg10 harg10 v0 X1 ⟨k, h⟩ s.1).2.2.1)
  else s

/-- The state before trip `k`, started at `s`. -/
def st1 (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (v0 : BitVec 32) (X1 : BufTy.Contents (Elt F) arg1.view.ty) (s : St1 F arg7 arg8 arg9) : ℕ → St1 F arg7 arg8 arg9
  | 0 => s
  | k + 1 => step1 𝒱 c bd i arg1 harg1 arg2 harg2 arg3 harg3 arg4 harg4 arg5 harg5 arg6 harg6 arg7 harg7 arg8 harg8 arg9 harg9 arg10 harg10 v0 X1 k (st1 𝒱 c bd i arg1 harg1 arg2 harg2 arg3 harg3 arg4 harg4 arg5 harg5 arg6 harg6 arg7 harg7 arg8 harg8 arg9 harg9 arg10 harg10 v0 X1 s k)

/-- The state after trip `k` is that trip's pieces over the state before it. -/
theorem st1_succ (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (v0 : BitVec 32) (X1 : BufTy.Contents (Elt F) arg1.view.ty) (s : St1 F arg7 arg8 arg9) (k : Fin k0_t1_loop.trips) :
    st1 (F := F) 𝒱 c bd i arg1 harg1 arg2 harg2 arg3 harg3 arg4 harg4 arg5 harg5 arg6 harg6 arg7 harg7 arg8 harg8 arg9 harg9 arg10 harg10 v0 X1 s (k.val + 1)
      = (arg7.view.writes (Elt F) (st1 𝒱 c bd i arg1 harg1 arg2 harg2 arg3 harg3 arg4 harg4 arg5 harg5 arg6 harg6 arg7 harg7 arg8 harg8 arg9 harg9 arg10 harg10 v0 X1 s k.val).1 (trip1 (F := F) 𝒱 c bd i arg1 harg1 arg2 harg2 arg3 harg3 arg4 harg4 arg5 harg5 arg6 harg6 arg7 harg7 arg8 harg8 arg9 harg9 arg10 harg10 v0 X1 k (st1 𝒱 c bd i arg1 harg1 arg2 harg2 arg3 harg3 arg4 harg4 arg5 harg5 arg6 harg6 arg7 harg7 arg8 harg8 arg9 harg9 arg10 harg10 v0 X1 s k.val).1).1,
         arg8.view.writes (Elt F) (st1 𝒱 c bd i arg1 harg1 arg2 harg2 arg3 harg3 arg4 harg4 arg5 harg5 arg6 harg6 arg7 harg7 arg8 harg8 arg9 harg9 arg10 harg10 v0 X1 s k.val).2.1 (trip1 (F := F) 𝒱 c bd i arg1 harg1 arg2 harg2 arg3 harg3 arg4 harg4 arg5 harg5 arg6 harg6 arg7 harg7 arg8 harg8 arg9 harg9 arg10 harg10 v0 X1 k (st1 𝒱 c bd i arg1 harg1 arg2 harg2 arg3 harg3 arg4 harg4 arg5 harg5 arg6 harg6 arg7 harg7 arg8 harg8 arg9 harg9 arg10 harg10 v0 X1 s k.val).1).2.1,
         arg9.view.writes (Elt F) (st1 𝒱 c bd i arg1 harg1 arg2 harg2 arg3 harg3 arg4 harg4 arg5 harg5 arg6 harg6 arg7 harg7 arg8 harg8 arg9 harg9 arg10 harg10 v0 X1 s k.val).2.2 (trip1 (F := F) 𝒱 c bd i arg1 harg1 arg2 harg2 arg3 harg3 arg4 harg4 arg5 harg5 arg6 harg6 arg7 harg7 arg8 harg8 arg9 harg9 arg10 harg10 v0 X1 k (st1 𝒱 c bd i arg1 harg1 arg2 harg2 arg3 harg3 arg4 harg4 arg5 harg5 arg6 harg6 arg7 harg7 arg8 harg8 arg9 harg9 arg10 harg10 v0 X1 s k.val).1).2.2.1) := by
  rw [st1.eq_2]; unfold step1; exact dif_pos k.isLt

/-- Before trip `k`: the staged input as it is; the slab, the flat maxima and the scales at the state of trip `k`. -/
abbrev inv1 (𝒱 : Variants) (c : Dev nD) (bd : Option 𝒱.V) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (v0 : BitVec 32) (X1 : BufTy.Contents (Elt F) arg1.view.ty) (G7 : BufTy.Contents (Elt F) arg7.view.ty) (G8 : BufTy.Contents (Elt F) arg8.view.ty) (G9 : BufTy.Contents (Elt F) arg9.view.ty) (k : ℕ) (_u : PUnit) : sProp 𝕄G :=
  iprop((arg1.view.loc (c : Thread nD τ) ↦[arg1.view.set]{fullShare} X1) ∗ (∃ f, (arg7.view.loc (c : Thread nD τ) ↦[arg7.view.set]{fullShare} f) ∗ ⌜f = (st1 (F := F) 𝒱 c bd i arg1 harg1 arg2 harg2 arg3 harg3 arg4 harg4 arg5 harg5 arg6 harg6 arg7 harg7 arg8 harg8 arg9 harg9 arg10 harg10 v0 X1 (G7, G8, G9) k).1⌝) ∗ (∃ f, (arg8.view.loc (c : Thread nD τ) ↦[arg8.view.set]{fullShare} f) ∗ ⌜f = (st1 (F := F) 𝒱 c bd i arg1 harg1 arg2 harg2 arg3 harg3 arg4 harg4 arg5 harg5 arg6 harg6 arg7 harg7 arg8 harg8 arg9 harg9 arg10 harg10 v0 X1 (G7, G8, G9) k).2.1⌝) ∗ (∃ f, (arg9.view.loc (c : Thread nD τ) ↦[arg9.view.set]{fullShare} f) ∗ ⌜f = (st1 (F := F) 𝒱 c bd i arg1 harg1 arg2 harg2 arg3 harg3 arg4 harg4 arg5 harg5 arg6 harg6 arg7 harg7 arg8 harg8 arg9 harg9 arg10 harg10 v0 X1 (G7, G8, G9) k).2.2⌝))

set_option warn.classDefReducibility false in
/-- The absmax loop by its invariant. -/
@[sl_loop] def loopInv_k0_t1 (𝒱 : Variants) (c : Dev nD) (bd : Option 𝒱.V) (E : Set ℕ) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (v0 : BitVec 32) (X1 : BufTy.Contents (Elt F) arg1.view.ty) (G7 : BufTy.Contents (Elt F) arg7.view.ty) (G8 : BufTy.Contents (Elt F) arg8.view.ty) (G9 : BufTy.Contents (Elt F) arg9.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 v0 where
  inv := inv1 (F := F) 𝒱 c bd i arg1 harg1 arg2 harg2 arg3 harg3 arg4 harg4 arg5 harg5 arg6 harg6 arg7 harg7 arg8 harg8 arg9 harg9 arg10 harg10 v0 X1 G7 G8 G9
  step k acc := by
    iintro ⟨H1, ⟨%f7, H7, %h7⟩, ⟨%f8, H8, %h8⟩, ⟨%f9, H9, %h9⟩⟩
    iapply (wp_wand_r Idealize.ShloMosaic.frame (wpE (defs₀ (F := F)) 𝒱 (c : Thread nD τ) bd) E)
    isplitl [H1 H7 H8 H9]
    · iapply ((trip1 (F := F) 𝒱 c bd i arg1 harg1 arg2 harg2 arg3 harg3 arg4 harg4 arg5 harg5 arg6 harg6 arg7 harg7 arg8 harg8 arg9 harg9 arg10 harg10 v0 X1 k f7).2.2.2 E f8 f9)
      isplitl [H1]; · iexact H1
      isplitl [H7]; · iexact H7
      isplitl [H8]; · iexact H8
      iexact H9
    · iintro %_ ⟨H1, H7, H8, H9⟩
      isplitl [H1]; · iexact H1
      rw [st1_succ]
      isplitl [H7]
      · iexists _; isplitl [H7]; · iexact H7
        ipureintro; rw [← h7]
      isplitl [H8]
      · iexists _; isplitl [H8]; · iexact H8
        ipureintro; rw [← h7, ← h8]
      iexists _; isplitl [H9]; · iexact H9
      ipureintro; rw [← h7, ← h9]

end Cert.Proof.Kernel

end
-- ==== Proof.KernelRun.lean ====
module

public import proofs.«01_k».proof.Proof.Gen.Kernel.Frame
public import proofs.«01_k».proof.Proof.Gen.Kernel.Loops
public import proofs.«01_k».proof.Proof.Gen.Kernel
public import proofs.«01_k».proof.Proof.KernelT1
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The resource algebra of the frame kit. -/
local notation "𝕄G" => MT nD τ sig Unit (Elt F) ℕ (UR sig nD τ) ℕ

/-- The kernel's ten buffers, each held whole. -/
abbrev Bufs (c : Dev nD) (arg1 : Memref sig .tc .vmem S1x64x14336 .bf16) (arg2 : Memref sig .tc .vmem S1x32x14336 .i8) (arg3 : Memref sig .tc .vmem S1x26x14336 .f32) (arg4 : Memref sig .tc .vmem S1456x256 .i8) (arg5 : Memref sig .tc .vmem S1x1456 .f32) (arg6 : Memref sig .tc .smem S1x1 .f32) (arg7 : Memref sig .tc .vmem S14x71x128 .i32) (arg8 : Memref sig .tc .vmem S3584x128 .f32) (arg9 : Memref sig .tc .vmem S112x128 .i32) (arg10 : Memref sig .tc .vmem S1456x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10))

/-- A grid point that writes neither the maxima nor the tail. -/
@[irreducible] def runA (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (h1 : ¬ k0_cond1 i = 1#1) (h2 : ¬ k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    Σ' (C2 : BufTy.Contents (Elt F) arg2.view.ty) (C7 : BufTy.Contents (Elt F) arg7.view.ty) (C8 : BufTy.Contents (Elt F) arg8.view.ty), { C9 : BufTy.Contents (Elt F) arg9.view.ty // ∀ (E : Set ℕ),
      Bufs (F := F) c arg1 arg2 arg3 arg4 arg5 arg6 arg7 arg8 arg9 arg10 X1 X2 X3 X4 X5 X6 X7 X8 X9 X10
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => Bufs (F := F) c arg1 arg2 arg3 arg4 arg5 arg6 arg7 arg8 arg9 arg10 X1 C2 X3 X4 X5 X6 C7 C8 C9 X10) } := by
  refine ⟨?_, ?_, ?_, ?_, fun E => ?run⟩
  case run =>
    rw [cc0_nf4_double_quant_eq_skeleton]
    unfold cc0_nf4_double_quant_skel
    iintro ⟨H1, H2, H3, H4, H5, H6, H7, H8, H9, H10⟩
    sl_exec_parts
    sl_step
    sl_close

/-- A grid point that writes eight rows of the maxima. -/
@[irreducible] def runB (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (h1 : k0_cond1 i = 1#1) (h2 : ¬ k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    Σ' (C2 : BufTy.Contents (Elt F) arg2.view.ty) (C3 : BufTy.Contents (Elt F) arg3.view.ty) (C7 : BufTy.Contents (Elt F) arg7.view.ty) (C8 : BufTy.Contents (Elt F) arg8.view.ty), { C9 : BufTy.Contents (Elt F) arg9.view.ty // ∀ (E : Set ℕ),
      Bufs (F := F) c arg1 arg2 arg3 arg4 arg5 arg6 arg7 arg8 arg9 arg10 X1 X2 X3 X4 X5 X6 X7 X8 X9 X10
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => Bufs (F := F) c arg1 arg2 arg3 arg4 arg5 arg6 arg7 arg8 arg9 arg10 X1 C2 C3 X4 X5 X6 C7 C8 C9 X10) } := by
  refine ⟨?_, ?_, ?_, ?_, ?_, fun E => ?run⟩
  case run =>
    rw [cc0_nf4_double_quant_eq_skeleton]
    unfold cc0_nf4_double_quant_skel
    iintro ⟨H1, H2, H3, H4, H5, H6, H7, H8, H9, H10⟩
    sl_exec_parts
    sl_step
    sl_close

/-- The last grid point, which writes the tail. -/
@[irreducible] def runC (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (h1 : ¬ k0_cond1 i = 1#1) (h2 : k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    Σ' (C2 : BufTy.Contents (Elt F) arg2.view.ty) (C3 : BufTy.Contents (Elt F) arg3.view.ty) (C4 : BufTy.Contents (Elt F) arg4.view.ty) (C5 : BufTy.Contents (Elt F) arg5.view.ty) (C6 : BufTy.Contents (Elt F) arg6.view.ty) (C7 : BufTy.Contents (Elt F) arg7.view.ty) (C8 : BufTy.Contents (Elt F) arg8.view.ty) (C9 : BufTy.Contents (Elt F) arg9.view.ty), { C10 : BufTy.Contents (Elt F) arg10.view.ty // ∀ (E : Set ℕ),
      Bufs (F := F) c arg1 arg2 arg3 arg4 arg5 arg6 arg7 arg8 arg9 arg10 X1 X2 X3 X4 X5 X6 X7 X8 X9 X10
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => Bufs (F := F) c arg1 arg2 arg3 arg4 arg5 arg6 arg7 arg8 arg9 arg10 X1 C2 C3 C4 C5 C6 C7 C8 C9 C10) } := by
  refine ⟨?_, ?_, ?_, ?_, ?_, ?_, ?_, ?_, ?_, fun E => ?run⟩
  case run =>
    rw [cc0_nf4_double_quant_eq_skeleton]
    unfold cc0_nf4_double_quant_skel
    iintro ⟨H1, H2, H3, H4, H5, H6, H7, H8, H9, H10⟩
    sl_exec_parts
    sl_step
    sl_close

end Cert.Proof.Kernel

end
-- ==== Proof.KernelBody.lean ====
module

public import proofs.«01_k».proof.Proof.Gen.Kernel.Frame
public import proofs.«01_k».proof.Proof.Gen.Kernel.Loops
public import proofs.«01_k».proof.Proof.Gen.Kernel
public import proofs.«01_k».proof.Proof.KernelRun
public import proofs.«01_k».proof.Proof.Gen.Kernel.Points
public import Idealize.ShloMosaic.Lib.Tactic

@[expose] public section

set_option maxRecDepth 16384
set_option maxHeartbeats 400000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The resource algebra of the frame kit. -/
local notation "𝕄G" => MT nD τ sig Unit (Elt F) ℕ (UR sig nD τ) ℕ

/-- What one run of the body leaves, by the grid point's case: the contents the run of that case names. -/
def Res (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (C2 : BufTy.Contents (Elt F) arg2.view.ty) (C3 : BufTy.Contents (Elt F) arg3.view.ty) (C4 : BufTy.Contents (Elt F) arg4.view.ty) (C5 : BufTy.Contents (Elt F) arg5.view.ty) (C6 : BufTy.Contents (Elt F) arg6.view.ty) (C7 : BufTy.Contents (Elt F) arg7.view.ty) (C8 : BufTy.Contents (Elt F) arg8.view.ty) (C9 : BufTy.Contents (Elt F) arg9.view.ty) (C10 : BufTy.Contents (Elt F) arg10.view.ty) : Prop :=
  (∃ (h1 : ¬ k0_cond1 i = 1#1) (h2 : ¬ k0_cond2 i = 1#1),
    C2 = (runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).1 ∧ C3 = X3 ∧ C4 = X4 ∧ C5 = X5 ∧ C6 = X6
    ∧ C7 = (runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.1 ∧ C8 = (runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.1
    ∧ C9 = (runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.1 ∧ C10 = X10)
  ∨ (∃ (h1 : k0_cond1 i = 1#1) (h2 : ¬ k0_cond2 i = 1#1),
    C2 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).1 ∧ C3 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.1 ∧ C4 = X4 ∧ C5 = X5 ∧ C6 = X6
    ∧ C7 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.1 ∧ C8 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.1
    ∧ C9 = (runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.1 ∧ C10 = X10)
  ∨ (∃ (h1 : ¬ k0_cond1 i = 1#1) (h2 : k0_cond2 i = 1#1),
    C2 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).1 ∧ C3 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.1
    ∧ C4 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.1 ∧ C5 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.1
    ∧ C6 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.1 ∧ C7 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.1
    ∧ C8 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.2.1 ∧ C9 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.2.2.1
    ∧ C10 = (runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.2.2.2.1)

/-- No grid point is both one that writes eight rows of maxima and the last one. -/
theorem not_both : ∀ t : Fin grid0.N, ¬ (k0_cond1 (grid0.coords t) = 1#1 ∧ k0_cond2 (grid0.coords t) = 1#1) := by decide

/-- The body run from any contents of its ten buffers: it returns with contents `Res` describes. -/
theorem run_res (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (hn : ¬ (k0_cond1 i = 1#1 ∧ k0_cond2 i = 1#1)) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (E : Set ℕ) :
    Bufs (F := F) c arg1 arg2 arg3 arg4 arg5 arg6 arg7 arg8 arg9 arg10 X1 X2 X3 X4 X5 X6 X7 X8 X9 X10
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => iprop(∃ (C2 : BufTy.Contents (Elt F) arg2.view.ty) (C3 : BufTy.Contents (Elt F) arg3.view.ty) (C4 : BufTy.Contents (Elt F) arg4.view.ty) (C5 : BufTy.Contents (Elt F) arg5.view.ty) (C6 : BufTy.Contents (Elt F) arg6.view.ty) (C7 : BufTy.Contents (Elt F) arg7.view.ty) (C8 : BufTy.Contents (Elt F) arg8.view.ty) (C9 : BufTy.Contents (Elt F) arg9.view.ty) (C10 : BufTy.Contents (Elt F) arg10.view.ty), ⌜Res (F := F) 𝒱 c i arg1 harg1 arg2 harg2 arg3 harg3 arg4 harg4 arg5 harg5 arg6 harg6 arg7 harg7 arg8 harg8 arg9 harg9 arg10 harg10 X1 X2 X3 X4 X5 X6 X7 X8 X9 X10 C2 C3 C4 C5 C6 C7 C8 C9 C10⌝ ∗ Bufs (F := F) c arg1 arg2 arg3 arg4 arg5 arg6 arg7 arg8 arg9 arg10 X1 C2 C3 C4 C5 C6 C7 C8 C9 C10)) := by
  by_cases h1 : k0_cond1 i = 1#1
  · by_cases h2 : k0_cond2 i = 1#1
    · exact absurd ⟨h1, h2⟩ hn
    · iintro H
      iapply (wp_wand_r Idealize.ShloMosaic.frame (wpE (defs₀ (F := F)) 𝒱 (c : Thread nD τ) none) E)
      isplitl [H]
      · iapply ((runB (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2 E); iexact H
      · iintro %_ H
        iexists _, _, _, _, _, _, _, _, _
        isplitr [H]
        · ipureintro
          exact .inr (.inl ⟨h1, h2, rfl, rfl, rfl, rfl, rfl, rfl, rfl, rfl, rfl⟩)
        · iexact H
  · by_cases h2 : k0_cond2 i = 1#1
    · iintro H
      iapply (wp_wand_r Idealize.ShloMosaic.frame (wpE (defs₀ (F := F)) 𝒱 (c : Thread nD τ) none) E)
      isplitl [H]
      · iapply ((runC (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2.2.2.2.2.2 E); iexact H
      · iintro %_ H
        iexists _, _, _, _, _, _, _, _, _
        isplitr [H]
        · ipureintro
          exact .inr (.inr ⟨h1, h2, rfl, rfl, rfl, rfl, rfl, rfl, rfl, rfl, rfl⟩)
        · iexact H
    · iintro H
      iapply (wp_wand_r Idealize.ShloMosaic.frame (wpE (defs₀ (F := F)) 𝒱 (c : Thread nD τ) none) E)
      isplitl [H]
      · iapply ((runA (F := F) 𝒱 c i arg1 harg1 arg2 harg2 arg3 harg3 arg4 harg4 arg5 harg5 arg6 harg6 arg7 harg7 arg8 harg8 arg9 harg9 arg10 harg10 h1 h2 X1 X2 X3 X4 X5 X6 X7 X8 X9 X10).2.2.2.2 E); iexact H
      · iintro %_ H
        iexists _, _, _, _, _, _, _, _, _
        isplitr [H]
        · ipureintro
          exact .inl ⟨h1, h2, rfl, rfl, rfl, rfl, rfl, rfl, rfl, rfl, rfl⟩
        · iexact H

/-- A buffer held whole at `f`. -/
abbrev Pt (c : Dev nD) {sp : Space} {S : Shape} {e : EltTy} (M : Memref sig .tc sp S e) (f : BufTy.Contents (Elt F) M.view.ty) : sProp 𝕄G :=
  iprop(M.view.loc (c : Thread nD τ) ↦[M.view.set]{fullShare} f)

/-- The body run from staging buffers holding `Y1 … Y6` and flat maxima satisfying `P`: what is left is related to them by
    `A1 … A6` and the flat maxima satisfy `P'`, provided every result `Res` describes is. -/
theorem run_owns (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x128 .i32) (harg7 : arg7.IsWhole) (arg8 : Memref sig .tc .vmem S3584x128 .f32) (harg8 : arg8.IsWhole) (arg9 : Memref sig .tc .vmem S112x128 .i32) (harg9 : arg9.IsWhole) (arg10 : Memref sig .tc .vmem S1456x128 .f32) (harg10 : arg10.IsWhole) (hn : ¬ (k0_cond1 i = 1#1 ∧ k0_cond2 i = 1#1))
    (P P' : BufTy.Contents (Elt F) arg8.view.ty → Prop)
    (Y1 : S1x64x14336.Idx → Elt F .bf16) (Y2 : S1x32x14336.Idx → Elt F .i8) (Y3 : S1x26x14336.Idx → Elt F .f32) (Y4 : S1456x256.Idx → Elt F .i8) (Y5 : S1x1456.Idx → Elt F .f32) (Y6 : S1x1.Idx → Elt F .f32)
    (A1 : (S1x64x14336.Idx → Elt F .bf16) → Prop) (A2 : (S1x32x14336.Idx → Elt F .i8) → Prop) (A3 : (S1x26x14336.Idx → Elt F .f32) → Prop) (A4 : (S1456x256.Idx → Elt F .i8) → Prop) (A5 : (S1x1456.Idx → Elt F .f32) → Prop) (A6 : (S1x1.Idx → Elt F .f32) → Prop)
    (H : ∀ (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (C2 : BufTy.Contents (Elt F) arg2.view.ty) (C3 : BufTy.Contents (Elt F) arg3.view.ty) (C4 : BufTy.Contents (Elt F) arg4.view.ty) (C5 : BufTy.Contents (Elt F) arg5.view.ty) (C6 : BufTy.Contents (Elt F) arg6.view.ty) (C7 : BufTy.Contents (Elt F) arg7.view.ty) (C8 : BufTy.Contents (Elt F) arg8.view.ty) (C9 : BufTy.Contents (Elt F) arg9.view.ty) (C10 : BufTy.Contents (Elt F) arg10.view.ty), arg1.view.read (Elt F) X1 = Y1 → arg2.view.read (Elt F) X2 = Y2 → arg3.view.read (Elt F) X3 = Y3 → arg4.view.read (Elt F) X4 = Y4 → arg5.view.read (Elt F) X5 = Y5 → arg6.view.read (Elt F) X6 = Y6 →
      P X8 → Res (F := F) 𝒱 c i arg1 harg1 arg2 harg2 arg3 harg3 arg4 harg4 arg5 harg5 arg6 harg6 arg7 harg7 arg8 harg8 arg9 harg9 arg10 harg10 X1 X2 X3 X4 X5 X6 X7 X8 X9 X10 C2 C3 C4 C5 C6 C7 C8 C9 C10 →
      A1 Y1 ∧ A2 (arg2.view.read (Elt F) C2) ∧ A3 (arg3.view.read (Elt F) C3) ∧ A4 (arg4.view.read (Elt F) C4) ∧ A5 (arg5.view.read (Elt F) C5) ∧ A6 (arg6.view.read (Elt F) C6) ∧ P' C8) (E : Set ℕ) :
    iprop(((∃ f, Pt (F := F) c arg7 f) ∗ (∃ f, ⌜P f⌝ ∗ Pt (F := F) c arg8 f) ∗ (∃ f, Pt (F := F) c arg9 f) ∗ (∃ f, Pt (F := F) c arg10 f))
      ∗ owns (c : Thread nD τ) arg1 fullShare Y1 ∗ owns (c : Thread nD τ) arg2 fullShare Y2 ∗ owns (c : Thread nD τ) arg3 fullShare Y3
      ∗ owns (c : Thread nD τ) arg4 fullShare Y4 ∗ owns (c : Thread nD τ) arg5 fullShare Y5 ∗ owns (c : Thread nD τ) arg6 fullShare Y6)
      ⊢ wp frame (wpE (defs₀ (F := F)) 𝒱 (c : Thread nD τ) none) E (cc0_nf4_double_quant (F := F) i arg1 harg1 arg2 harg2 arg3 harg3 arg4 harg4 arg5 harg5 arg6 harg6 arg7 harg7 arg8 harg8 arg9 harg9 arg10 harg10)
          (fun _ => iprop(((∃ f, Pt (F := F) c arg7 f) ∗ (∃ f, ⌜P' f⌝ ∗ Pt (F := F) c arg8 f) ∗ (∃ f, Pt (F := F) c arg9 f) ∗ (∃ f, Pt (F := F) c arg10 f))
            ∗ (∃ X, ⌜A1 X⌝ ∗ owns (c : Thread nD τ) arg1 fullShare X) ∗ (∃ X, ⌜A2 X⌝ ∗ owns (c : Thread nD τ) arg2 fullShare X)
            ∗ (∃ X, ⌜A3 X⌝ ∗ owns (c : Thread nD τ) arg3 fullShare X) ∗ (∃ X, ⌜A4 X⌝ ∗ owns (c : Thread nD τ) arg4 fullShare X)
            ∗ (∃ X, ⌜A5 X⌝ ∗ owns (c : Thread nD τ) arg5 fullShare X) ∗ (∃ X, ⌜A6 X⌝ ∗ owns (c : Thread nD τ) arg6 fullShare X))) := by
  unfold owns
  iintro ⟨⟨⟨%f7, H7⟩, ⟨%f8, %hP, H8⟩, ⟨%f9, H9⟩, ⟨%f10, H10⟩⟩, ⟨%f1, %e1, H1⟩, ⟨%f2, %e2, H2⟩, ⟨%f3, %e3, H3⟩, ⟨%f4, %e4, H4⟩, ⟨%f5, %e5, H5⟩, ⟨%f6, %e6, H6⟩⟩
  iapply (wp_wand_r Idealize.ShloMosaic.frame (wpE (defs₀ (F := F)) 𝒱 (c : Thread nD τ) none) E)
  isplitl [H1 H2 H3 H4 H5 H6 H7 H8 H9 H10]
  · iapply (run_res (F := F) 𝒱 c i arg1 harg1 arg2 harg2 arg3 harg3 arg4 harg4 arg5 harg5 arg6 harg6 arg7 harg7 arg8 harg8 arg9 harg9 arg10 harg10 hn f1 f2 f3 f4 f5 f6 f7 f8 f9 f10 E)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %_ ⟨%C2, %C3, %C4, %C5, %C6, %C7, %C8, %C9, %C10, %hres, H1, H2, H3, H4, H5, H6, H7, H8, H9, H10⟩
    obtain ⟨a0, a1, a2, a3, a4, a5, aP⟩ := H f1 f2 f3 f4 f5 f6 f7 f8 f9 f10 C2 C3 C4 C5 C6 C7 C8 C9 C10 e1 e2 e3 e4 e5 e6 hP hres
    isplitl [H7 H8 H9 H10]
    · isplitl [H7]; · iexists _; iexact H7
      isplitl [H8]
      · iexists _; isplitr [H8]; · ipureintro; exact aP
        iexact H8
      isplitl [H9]; · iexists _; iexact H9
      iexists _; iexact H10
    isplitl [H1]
    · iexists _; isplitr [H1]; · ipureintro; exact a0
      iexists _; isplitr [H1]; · ipureintro; exact e1
      iexact H1
    isplitl [H2]
    · iexists _; isplitr [H2]; · ipureintro; exact a1
      iexists _; isplitr [H2]; · ipureintro; rfl
      iexact H2
    isplitl [H3]
    · iexists _; isplitr [H3]; · ipureintro; exact a2
      iexists _; isplitr [H3]; · ipureintro; rfl
      iexact H3
    isplitl [H4]
    · iexists _; isplitr [H4]; · ipureintro; exact a3
      iexists _; isplitr [H4]; · ipureintro; rfl
      iexact H4
    isplitl [H5]
    · iexists _; isplitr [H5]; · ipureintro; exact a4
      iexists _; isplitr [H5]; · ipureintro; rfl
      iexact H5
    iexists _; isplitr [H6]; · ipureintro; exact a5
    iexists _; isplitr [H6]; · ipureintro; rfl
    iexact H6

/-! ## The relational proof data -/

open Idealize.ShloMosaic.Pipeline (RDat)

/-- What is carried between grid points: the four scratch buffers, the flat maxima satisfying `P t`, and the
    core's random-number register. -/
def Phi (P : ℕ → (BufTy.Contents (Elt F) (Memref.whole cc0_scratch1).view.ty) → Prop) (c : Dev nD) (t : ℕ) : sProp 𝕄G :=
  iprop(((∃ f, Pt (F := F) c (Memref.whole cc0_scratch0) f) ∗ (∃ f, ⌜P t f⌝ ∗ Pt (F := F) c (Memref.whole cc0_scratch1) f)
      ∗ (∃ f, Pt (F := F) c (Memref.whole cc0_scratch2) f) ∗ (∃ f, Pt (F := F) c (Memref.whole cc0_scratch3) f))
    ∗ ∃ r, prngReg c r)

/-- The class invariant, said with the scratch buffers as memrefs. -/
theorem PhiA_eq (c : Dev nD) : (Pipeline.ΦA (Val := Elt F) (U := UR sig nD τ) spec0 c : sProp 𝕄G)
    = iprop(((∃ f, Pt (F := F) c (Memref.whole cc0_scratch0) f) ∗ (∃ f, Pt (F := F) c (Memref.whole cc0_scratch1) f)
      ∗ (∃ f, Pt (F := F) c (Memref.whole cc0_scratch2) f) ∗ (∃ f, Pt (F := F) c (Memref.whole cc0_scratch3) f)) ∗ ∃ r, prngReg c r) := by
  unfold Pipeline.ΦA Pt
  rw [scopedRest0_eq, (Memref.isWhole_whole cc0_scratch0).set_eq_univ, (Memref.isWhole_whole cc0_scratch1).set_eq_univ, (Memref.isWhole_whole cc0_scratch2).set_eq_univ, (Memref.isWhole_whole cc0_scratch3).set_eq_univ]

variable (m : (ℓ : Loc nD τ sig) → Buf (Elt F) ℓ) (ρ : Dev nD → PrngReg)

/-- The type of a relation between what a window's staging buffer holds before and after the body. -/
abbrev AftTy (F : FTy → Type) := (w : Fin cfg0.W) → Fin cfg0.N → (Y X : (cfg0.win w).block.Idx → Elt F (cfg0.win w).elt) → Prop

/-- The relational data: the arrays as the region finds them, the relation `aft`, the flat maxima satisfying `P`. -/
def rdat (aft : AftTy F) (P : ℕ → (BufTy.Contents (Elt F) (Memref.whole cc0_scratch1).view.ty) → Prop) (c : Dev nD) : RDat τ (Elt F) Unit ℕ (UR sig nD τ) ℕ cfg0 c where
  A w := V m c (Pipeline.arrRef spec0 w)
  after := aft
  Φ t := Phi P c t.val
  q _ := fullShare
  owed _ := 0

/-- What is to be shown of one run of the body, in plain terms: from contents the staging buffers may hold and flat
    maxima satisfying `P t`, what the run leaves is related by `aft` and its flat maxima satisfy `P (t + 1)`. -/
def Step (aft : AftTy F) (P : ℕ → (BufTy.Contents (Elt F) (Memref.whole cc0_scratch1).view.ty) → Prop) (c : Dev nD) : Prop :=
  ∀ (t : Fin cfg0.N) (Y : (w : Fin cfg0.W) → (cfg0.win w).block.Idx → Elt F (cfg0.win w).elt)
    (_ : ∀ w, (rdat m aft P c).Finds w t (Y w))
    (X1 : BufTy.Contents (Elt F) (st0_0 t).view.ty) (X2 : BufTy.Contents (Elt F) (st0_1 t).view.ty) (X3 : BufTy.Contents (Elt F) (st0_2 t).view.ty)
    (X4 : BufTy.Contents (Elt F) (st0_3 t).view.ty) (X5 : BufTy.Contents (Elt F) (st0_4 t).view.ty) (X6 : BufTy.Contents (Elt F) (st0_5 t).view.ty)
    X7 X8 X9 X10 C2 C3 C4 C5 C6 C7 C8 C9 C10,
    (st0_0 t).view.read (Elt F) X1 = Y 0 → (st0_1 t).view.read (Elt F) X2 = Y 1 → (st0_2 t).view.read (Elt F) X3 = Y 2 →
    (st0_3 t).view.read (Elt F) X4 = Y 3 → (st0_4 t).view.read (Elt F) X5 = Y 4 → (st0_5 t).view.read (Elt F) X6 = Y 5 →
    P t.val X8 →
    Res (F := F) Variants.none c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) X1 X2 X3 X4 X5 X6 X7 X8 X9 X10 C2 C3 C4 C5 C6 C7 C8 C9 C10 →
    aft 0 t (Y 0) (Y 0) ∧ aft 1 t (Y 1) ((st0_1 t).view.read (Elt F) C2) ∧ aft 2 t (Y 2) ((st0_2 t).view.read (Elt F) C3)
    ∧ aft 3 t (Y 3) ((st0_3 t).view.read (Elt F) C4) ∧ aft 4 t (Y 4) ((st0_4 t).view.read (Elt F) C5) ∧ aft 5 t (Y 5) ((st0_5 t).view.read (Elt F) C6)
    ∧ P (t.val + 1) C8

/-- The body's row of the label table. -/
theorem row0 (t : Fin cfg0.N) : (defs₀ (F := F)) .tc cfg0.body (cfg0.bodyArgs t (cfg0.slots t)) = bodyAt0 (F := F) t := by
  unfold defs₀; rw [Defs.onTc_tc]

/-- The body obligation of the relational data, from the plain step. -/
theorem body_obligation (aft : AftTy F) (P : ℕ → (BufTy.Contents (Elt F) (Memref.whole cc0_scratch1).view.ty) → Prop) (c : Dev nD) (hstep : Step m aft P c) :
    (rdat m aft P c).BodyObligation (defs₀ (F := F)) Variants.none () Set.univ := by
  intro t Y hY
  rw [row0, bigSep_W0, bigSep_W0]
  show iprop(Phi P c t.val ∗ (rdat m aft P c).owesAt () t.castSucc
      ∗ owns (c : Thread nD τ) (st0_0 t) fullShare (Y 0) ∗ owns (c : Thread nD τ) (st0_1 t) fullShare (Y 1) ∗ owns (c : Thread nD τ) (st0_2 t) fullShare (Y 2)
      ∗ owns (c : Thread nD τ) (st0_3 t) fullShare (Y 3) ∗ owns (c : Thread nD τ) (st0_4 t) fullShare (Y 4) ∗ owns (c : Thread nD τ) (st0_5 t) fullShare (Y 5))
    ⊢ wp frame (wpE (defs₀ (F := F)) Variants.none (c : Thread nD τ) none) Set.univ (bodyAt0 (F := F) t) (fun _ =>
      iprop(Phi P c (t.val + 1) ∗ (rdat m aft P c).owesAt () t.castSucc
      ∗ (∃ X, ⌜aft 0 t (Y 0) X⌝ ∗ owns (c : Thread nD τ) (st0_0 t) fullShare X) ∗ (∃ X, ⌜aft 1 t (Y 1) X⌝ ∗ owns (c : Thread nD τ) (st0_1 t) fullShare X)
      ∗ (∃ X, ⌜aft 2 t (Y 2) X⌝ ∗ owns (c : Thread nD τ) (st0_2 t) fullShare X) ∗ (∃ X, ⌜aft 3 t (Y 3) X⌝ ∗ owns (c : Thread nD τ) (st0_3 t) fullShare X)
      ∗ (∃ X, ⌜aft 4 t (Y 4) X⌝ ∗ owns (c : Thread nD τ) (st0_4 t) fullShare X) ∗ (∃ X, ⌜aft 5 t (Y 5) X⌝ ∗ owns (c : Thread nD τ) (st0_5 t) fullShare X)))
  unfold Phi
  iintro ⟨⟨HS, HR⟩, HO, HW⟩
  iapply (wp_wand_r Idealize.ShloMosaic.frame (wpE (defs₀ (F := F)) Variants.none (c : Thread nD τ) none) Set.univ)
  isplitl [HS HW]
  · iapply (run_owns (F := F) Variants.none c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (not_both t)
      (P t.val) (P (t.val + 1)) (Y 0) (Y 1) (Y 2) (Y 3) (Y 4) (Y 5) (aft 0 t (Y 0)) (aft 1 t (Y 1)) (aft 2 t (Y 2)) (aft 3 t (Y 3)) (aft 4 t (Y 4)) (aft 5 t (Y 5))
      (fun X1 X2 X3 X4 X5 X6 X7 X8 X9 X10 C2 C3 C4 C5 C6 C7 C8 C9 C10 e1 e2 e3 e4 e5 e6 hP hres =>
        hstep t Y hY X1 X2 X3 X4 X5 X6 X7 X8 X9 X10 C2 C3 C4 C5 C6 C7 C8 C9 C10 e1 e2 e3 e4 e5 e6 hP hres) Set.univ)
    isplitl [HS]; · iexact HS
    iexact HW
  · iintro %_ ⟨HS, HW⟩
    isplitl [HS HR]
    · isplitl [HS]; · iexact HS
      iexact HR
    isplitl [HO]; · iexact HO
    iexact HW

/-- Each window's share is the full one. -/
theorem share_full (aft : AftTy F) (P : ℕ → (BufTy.Contents (Elt F) (Memref.whole cc0_scratch1).view.ty) → Prop) (c : Dev nD) (w : Fin cfg0.W) :
    (rdat m aft P c).share w = fullShare := by
  unfold RDat.share; split <;> rfl

/-- The run of the whole program: it ends with the arrays the relational data allow, and every semaphore at zero. -/
theorem run_main (aft : AftTy F) (P : ℕ → (BufTy.Contents (Elt F) (Memref.whole cc0_scratch1).view.ty) → Prop) (h0 : ∀ f, P 0 f) (hstep : ∀ c, Step m aft P c) :
    θ_run defs (onTc (τ := τ) (main (F := F))) (s₀ m ρ) (fun r => RDat.FramePost cfg0 (rdat m aft P) (V m) r ∧ r.2.sem = fun _ => 0) :=
  RDat.θ_run_frame_track cfgs 0 launch0 defs₀ Variants.none (rdat m aft P) m ρ main
    (fun c => body_obligation m aft P c (hstep c)) (share_full m aft P) (fun _ _ => rfl) (V m) (hmain m Variants.none) (fun _ _ => rfl)
    (fun c => by
      show Pipeline.ΦA spec0 c ⊢ Phi P c 0
      rw [PhiA_eq]; unfold Phi
      iintro ⟨⟨H7, ⟨%f8, H8⟩, H9, H10⟩, HR⟩
      isplitr [HR]
      · isplitl [H7]; · iexact H7
        isplitl [H8]
        · iexists f8; isplitr [H8]; · ipureintro; exact h0 f8
          iexact H8
        isplitl [H9]; · iexact H9
        iexact H10
      iexact HR)
    (fun c => by
      show Phi P c _ ⊢ Pipeline.ΦA spec0 c
      rw [PhiA_eq]; unfold Phi
      iintro ⟨⟨H7, ⟨%f8, -, H8⟩, H9, H10⟩, HR⟩
      isplitr [HR]
      · isplitl [H7]; · iexact H7
        isplitl [H8]; · iexists f8; iexact H8
        isplitl [H9]; · iexact H9
        iexact H10
      iexact HR)
    _ (fun _ h => h)

/-- The argument is unchanged and every semaphore ends at zero: the frame, whatever the body leaves. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (RDat.FramePost.arr_in h.1 c 0 rfl).trans rfl, h.2⟩)
    (run_main m ρ (fun _ _ _ _ => True) (fun _ _ => True) (fun _ => trivial) (fun c t => by intros; exact ⟨trivial, trivial, trivial, trivial, trivial, trivial, trivial⟩))

end Cert.Proof.Kernel

end
-- ==== Proof.Frames.lean ====
module

public import proofs.«01_k».proof.Defs
public import proofs.«01_k».proof.Proof.KernelBody
public import proofs.«01_k».proof.Proof.KernelIdealBody
public import proofs.«01_k».proof.Proof.Gen.ReferenceIdeal.Run
public import Idealize.ShloMosaic.Lib.Bf16PairInverse

@[expose] public section

open Idealize.ShloMosaic Idealize.ShloMosaic.TcCoe Idealize.SL Idealize.SL.Sem

namespace Cert.Proof

/-- The kernel at `Bits` ends with its argument unchanged and every semaphore at zero. -/
theorem frame_p : @Cert.quiescent_Kernel Cert.Kernel.Gen.facts := fun m g _ =>
  Cert.Proof.Kernel.quiescent (F := Bits) m g

/-- The idealized kernel ends with its argument unchanged and every semaphore at zero. -/
theorem frame_pi : @Cert.quiescent_KernelIdeal Cert.KernelIdeal.Gen.facts := fun m g _ =>
  Cert.Proof.KernelIdeal.quiescent (F := Ideal) m g

/-- The idealized reference ends with its argument unchanged; it declares no semaphore. -/
theorem frame_ri : @Cert.quiescent_ReferenceIdeal Cert.ReferenceIdeal.Gen.facts := by
  intro m g _
  exact (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m g)

/-- What the pass printed instead of the kernel's sixteen-bit words, restated: one term for each statement. -/
theorem preserves : Cert.preserves_Kernel_KernelIdeal :=
  ⟨IdealRules.bf16_pair.bufferStatement _ _, IdealRules.bf16_pair.bufferStatement _ _,
   IdealRules.bf16_pair.statement _ _, IdealRules.bf16_pair.statement _ _,
   IdealRules.bf16_pair.packStatement _, IdealRules.bf16_pair.statement _ _,
   IdealRules.bf16_pair.statement _ _, IdealRules.bf16_pair.statement _ _⟩

end Cert.Proof

end
-- ==== Proof.V7.lean ====
module

public import proofs.«01_k».proof.Proof.RefRead
public import Idealize.ShloMosaic.Lib.Pointwise
public import Mathlib.Analysis.SpecialFunctions.Exp
public import Mathlib.Analysis.SpecialFunctions.Trigonometric.Basic

@[expose] public section

set_option maxRecDepth 16384
set_option maxHeartbeats 1000000

noncomputable section

namespace Cert.Proof.Code

open Cert.Proof.ReferenceIdeal Cert.Proof.KernelIdeal
open Idealize.ShloMosaic

/-- The fifteen thresholds as real numbers. -/
def tv : ℕ → ℝ
  | 0 => (-1778587 / 2097152 : ℝ)
  | 1 => (-640295 / 1048576 : ℝ)
  | 2 => (-120585 / 262144 : ℝ)
  | 3 => (-5698875 / 16777216 : ℝ)
  | 4 => (-3936059 / 16777216 : ℝ)
  | 5 => (-2313775 / 16777216 : ℝ)
  | 6 => (-12220529 / 268435456 : ℝ)
  | 7 => (10681087 / 268435456 : ℝ)
  | 8 => (8070193 / 67108864 : ℝ)
  | 9 => (426815 / 2097152 : ℝ)
  | 10 => (2449589 / 8388608 : ℝ)
  | 11 => (13063161 / 33554432 : ℝ)
  | 12 => (2104129 / 4194304 : ℝ)
  | 13 => (10784175 / 16777216 : ℝ)
  | 14 => (7226605 / 8388608 : ℝ)
  | _ => 0

/-- The scale of the hyperbolic tangent. -/
def wv : ℝ := (1538261 / 1048576 : ℝ)

/-- The scale's word denotes its real number. -/
theorem wv_eq : Ideal.ofBits .f32 0x3FBBC6A8#32 = ((wv : ℝ) : EReal) := by
  unfold wv
  simp [Ideal.ofBits, Ideal.ieee]
  try norm_num
  rw [← EReal.coe_mul]; congr 1; norm_num

/-- The threshold words denote the real thresholds. -/
theorem thr_eq (j : ℕ) (hj : j < 15) : thr j = ((tv j : ℝ) : EReal) := by
  interval_cases j <;> (simp [thr, tv, Ideal.ofBits, Ideal.ieee]; try norm_num) <;> (rw [← EReal.coe_mul]; congr 1; norm_num)

/-- `tanh y < c`, by the exponential. -/
theorem tanh_lt (y c : ℝ) (h : Real.exp (2 * y) * (1 - c) < 1 + c) : Real.tanh y < c := by
  have hp := Real.exp_pos y
  have hE : Real.exp (2 * y) = Real.exp y * Real.exp y := by rw [← Real.exp_add]; ring_nf
  rw [Real.tanh_eq_sinh_div_cosh, Real.sinh_eq, Real.cosh_eq, Real.exp_neg]
  rw [div_lt_iff₀ (by positivity)]
  rw [hE] at h
  have hi : Real.exp y * (Real.exp y)⁻¹ = 1 := mul_inv_cancel₀ hp.ne'
  have hip : 0 < (Real.exp y)⁻¹ := inv_pos.mpr hp
  have := mul_lt_mul_of_pos_right h hip
  have e1 : Real.exp y * Real.exp y * (1 - c) * (Real.exp y)⁻¹ = Real.exp y * (1 - c) := by
    rw [show Real.exp y * Real.exp y * (1 - c) * (Real.exp y)⁻¹ = Real.exp y * (1 - c) * (Real.exp y * (Real.exp y)⁻¹) by ring, hi, mul_one]
  rw [e1] at this
  linarith

/-- `c < tanh y`, by the exponential. -/
theorem lt_tanh (y c : ℝ) (h : 1 + c < Real.exp (2 * y) * (1 - c)) : c < Real.tanh y := by
  have hp := Real.exp_pos y
  have hE : Real.exp (2 * y) = Real.exp y * Real.exp y := by rw [← Real.exp_add]; ring_nf
  rw [Real.tanh_eq_sinh_div_cosh, Real.sinh_eq, Real.cosh_eq, Real.exp_neg]
  rw [lt_div_iff₀ (by positivity)]
  rw [hE] at h
  have hi : Real.exp y * (Real.exp y)⁻¹ = 1 := mul_inv_cancel₀ hp.ne'
  have hip : 0 < (Real.exp y)⁻¹ := inv_pos.mpr hp
  have := mul_lt_mul_of_pos_right h hip
  have e1 : Real.exp y * Real.exp y * (1 - c) * (Real.exp y)⁻¹ = Real.exp y * (1 - c) := by
    rw [show Real.exp y * Real.exp y * (1 - c) * (Real.exp y)⁻¹ = Real.exp y * (1 - c) * (Real.exp y * (Real.exp y)⁻¹) by ring, hi, mul_one]
  rw [e1] at this
  linarith

/-- The exponential's first six terms. -/
def lo6 (z : ℝ) : ℝ := 1 + z + z ^ 2 / 2 + z ^ 3 / 6 + z ^ 4 / 24 + z ^ 5 / 120
/-- The exponential's first six terms and a bound of the rest. -/
def hi6 (z : ℝ) : ℝ := 1 + z + z ^ 2 / 2 + z ^ 3 / 6 + z ^ 4 / 24 + z ^ 5 / 120 + z ^ 6 * (6 + 1) / (720 * 6)

/-- The fourth power of the upper bound bounds the exponential of `4 z` from above. -/
theorem exp_le_hi (z : ℝ) (h0 : 0 ≤ z) (h1 : z ≤ 1) : Real.exp (2 * (2 * z)) ≤ hi6 z ^ 4 := by
  have := Real.exp_bound' h0 h1 (n := 6) (by norm_num)
  simp [Finset.sum_range_succ, Nat.factorial] at this
  have h4 : Real.exp (2 * (2 * z)) = Real.exp z ^ 4 := by
    rw [← Real.exp_nat_mul]; congr 1; push_cast; ring
  rw [h4]
  exact pow_le_pow_left₀ (Real.exp_pos z).le this 4

/-- The fourth power of the lower bound bounds the exponential of `4 z` from below. -/
theorem lo_le_exp (z : ℝ) (h0 : 0 ≤ z) : lo6 z ^ 4 ≤ Real.exp (2 * (2 * z)) := by
  have h2 := Real.sum_le_exp_of_nonneg h0 6
  simp [Finset.sum_range_succ, Nat.factorial] at h2
  have h4 : Real.exp (2 * (2 * z)) = Real.exp z ^ 4 := by
    rw [← Real.exp_nat_mul]; congr 1; push_cast; ring
  rw [h4]
  refine pow_le_pow_left₀ ?_ h2 4
  positivity

/-- Between bounds of the exponential at four times `z`, the tangent at `2 z` and at points beyond. -/
theorem tanh_pos_lt (z y c : ℝ) (h0 : 0 ≤ z) (h1 : z ≤ 1) (hc : c < 1) (hy : y ≤ 2 * z) (h : hi6 z ^ 4 * (1 - c) < 1 + c) : Real.tanh y < c := by
  refine tanh_lt y c (lt_of_le_of_lt (mul_le_mul_of_nonneg_right ?_ (by linarith)) h)
  exact (Real.exp_le_exp.mpr (by linarith)).trans (exp_le_hi z h0 h1)

/-- From `2 z` on the tangent is above `c` where the lower bound says so. -/
theorem tanh_pos_gt (z y c : ℝ) (h0 : 0 ≤ z) (hc : c < 1) (hy : 2 * z ≤ y) (h : 1 + c < lo6 z ^ 4 * (1 - c)) : c < Real.tanh y := by
  refine lt_tanh y c (lt_of_lt_of_le h (mul_le_mul_of_nonneg_right ?_ (by linarith)))
  exact (lo_le_exp z h0).trans (Real.exp_le_exp.mpr (by linarith))

/-- Up to `-(2 z)` the tangent is below `-c` where the lower bound says so. -/
theorem tanh_neg_lt (z y c : ℝ) (h0 : 0 ≤ z) (hc : c < 1) (hy : y ≤ -(2 * z)) (h : 1 + c < lo6 z ^ 4 * (1 - c)) : Real.tanh y < -c := by
  have := tanh_pos_gt z (-y) c h0 hc (by linarith) h
  rw [Real.tanh_neg] at this
  linarith

/-- From `-(2 z)` on the tangent is above `-c` where the upper bound says so. -/
theorem tanh_neg_gt (z y c : ℝ) (h0 : 0 ≤ z) (h1 : z ≤ 1) (hc : c < 1) (hy : -(2 * z) ≤ y) (h : hi6 z ^ 4 * (1 - c) < 1 + c) : -c < Real.tanh y := by
  have := tanh_pos_lt z (-y) c h0 h1 hc (by linarith) h
  rw [Real.tanh_neg] at this
  linarith

/-- Below the threshold `j` the tangent is below `(j - 6.5) / 8`. -/
theorem tanh_below (j : ℕ) (hj : j < 15) (y : ℝ) (hy : y ≤ wv * tv j) : Real.tanh y < ((j : ℝ) - 13 / 2) / 8 := by
  interval_cases j
  · refine lt_of_lt_of_eq (tanh_neg_lt (311 / 500 : ℝ) y (13 / 16 : ℝ) (by norm_num) (by norm_num) (hy.trans ?_) (by norm_num [lo6])) (by norm_num)
    simp only [wv, tv]; norm_num
  · refine lt_of_lt_of_eq (tanh_neg_lt (447 / 1000 : ℝ) y (11 / 16 : ℝ) (by norm_num) (by norm_num) (hy.trans ?_) (by norm_num [lo6])) (by norm_num)
    simp only [wv, tv]; norm_num
  · refine lt_of_lt_of_eq (tanh_neg_lt (337 / 1000 : ℝ) y (9 / 16 : ℝ) (by norm_num) (by norm_num) (hy.trans ?_) (by norm_num [lo6])) (by norm_num)
    simp only [wv, tv]; norm_num
  · refine lt_of_lt_of_eq (tanh_neg_lt (249 / 1000 : ℝ) y (7 / 16 : ℝ) (by norm_num) (by norm_num) (hy.trans ?_) (by norm_num [lo6])) (by norm_num)
    simp only [wv, tv]; norm_num
  · refine lt_of_lt_of_eq (tanh_neg_lt (43 / 250 : ℝ) y (5 / 16 : ℝ) (by norm_num) (by norm_num) (hy.trans ?_) (by norm_num [lo6])) (by norm_num)
    simp only [wv, tv]; norm_num
  · refine lt_of_lt_of_eq (tanh_neg_lt (101 / 1000 : ℝ) y (3 / 16 : ℝ) (by norm_num) (by norm_num) (hy.trans ?_) (by norm_num [lo6])) (by norm_num)
    simp only [wv, tv]; norm_num
  · refine lt_of_lt_of_eq (tanh_neg_lt (33 / 1000 : ℝ) y (1 / 16 : ℝ) (by norm_num) (by norm_num) (hy.trans ?_) (by norm_num [lo6])) (by norm_num)
    simp only [wv, tv]; norm_num
  · refine tanh_pos_lt (3 / 100 : ℝ) y _ (by norm_num) (by norm_num) (by norm_num) (hy.trans ?_) (by norm_num [hi6])
    simp only [wv, tv]; norm_num
  · refine tanh_pos_lt (89 / 1000 : ℝ) y _ (by norm_num) (by norm_num) (by norm_num) (hy.trans ?_) (by norm_num [hi6])
    simp only [wv, tv]; norm_num
  · refine tanh_pos_lt (3 / 20 : ℝ) y _ (by norm_num) (by norm_num) (by norm_num) (hy.trans ?_) (by norm_num [hi6])
    simp only [wv, tv]; norm_num
  · refine tanh_pos_lt (43 / 200 : ℝ) y _ (by norm_num) (by norm_num) (by norm_num) (hy.trans ?_) (by norm_num [hi6])
    simp only [wv, tv]; norm_num
  · refine tanh_pos_lt (143 / 500 : ℝ) y _ (by norm_num) (by norm_num) (by norm_num) (hy.trans ?_) (by norm_num [hi6])
    simp only [wv, tv]; norm_num
  · refine tanh_pos_lt (46 / 125 : ℝ) y _ (by norm_num) (by norm_num) (by norm_num) (hy.trans ?_) (by norm_num [hi6])
    simp only [wv, tv]; norm_num
  · refine tanh_pos_lt (59 / 125 : ℝ) y _ (by norm_num) (by norm_num) (by norm_num) (hy.trans ?_) (by norm_num [hi6])
    simp only [wv, tv]; norm_num
  · refine tanh_pos_lt (79 / 125 : ℝ) y _ (by norm_num) (by norm_num) (by norm_num) (hy.trans ?_) (by norm_num [hi6])
    simp only [wv, tv]; norm_num

/-- Above the threshold `j` the tangent is above `(j - 7.5) / 8`. -/
theorem tanh_above (j : ℕ) (hj : j < 15) (y : ℝ) (hy : wv * tv j ≤ y) : ((j : ℝ) - 15 / 2) / 8 < Real.tanh y := by
  interval_cases j
  · refine lt_of_eq_of_lt ?_ (tanh_neg_gt (623 / 1000 : ℝ) y (15 / 16 : ℝ) (by norm_num) (by norm_num) (by norm_num) (le_trans ?_ hy) (by norm_num [hi6]))
    · norm_num
    · simp only [wv, tv]; norm_num
  · refine lt_of_eq_of_lt ?_ (tanh_neg_gt (56 / 125 : ℝ) y (13 / 16 : ℝ) (by norm_num) (by norm_num) (by norm_num) (le_trans ?_ hy) (by norm_num [hi6]))
    · norm_num
    · simp only [wv, tv]; norm_num
  · refine lt_of_eq_of_lt ?_ (tanh_neg_gt (169 / 500 : ℝ) y (11 / 16 : ℝ) (by norm_num) (by norm_num) (by norm_num) (le_trans ?_ hy) (by norm_num [hi6]))
    · norm_num
    · simp only [wv, tv]; norm_num
  · refine lt_of_eq_of_lt ?_ (tanh_neg_gt (1 / 4 : ℝ) y (9 / 16 : ℝ) (by norm_num) (by norm_num) (by norm_num) (le_trans ?_ hy) (by norm_num [hi6]))
    · norm_num
    · simp only [wv, tv]; norm_num
  · refine lt_of_eq_of_lt ?_ (tanh_neg_gt (173 / 1000 : ℝ) y (7 / 16 : ℝ) (by norm_num) (by norm_num) (by norm_num) (le_trans ?_ hy) (by norm_num [hi6]))
    · norm_num
    · simp only [wv, tv]; norm_num
  · refine lt_of_eq_of_lt ?_ (tanh_neg_gt (51 / 500 : ℝ) y (5 / 16 : ℝ) (by norm_num) (by norm_num) (by norm_num) (le_trans ?_ hy) (by norm_num [hi6]))
    · norm_num
    · simp only [wv, tv]; norm_num
  · refine lt_of_eq_of_lt ?_ (tanh_neg_gt (17 / 500 : ℝ) y (3 / 16 : ℝ) (by norm_num) (by norm_num) (by norm_num) (le_trans ?_ hy) (by norm_num [hi6]))
    · norm_num
    · simp only [wv, tv]; norm_num
  · refine tanh_pos_gt (29 / 1000 : ℝ) y _ (by norm_num) (by norm_num) (le_trans ?_ hy) (by norm_num [lo6])
    simp only [wv, tv]; norm_num
  · refine tanh_pos_gt (11 / 125 : ℝ) y _ (by norm_num) (by norm_num) (le_trans ?_ hy) (by norm_num [lo6])
    simp only [wv, tv]; norm_num
  · refine tanh_pos_gt (149 / 1000 : ℝ) y _ (by norm_num) (by norm_num) (le_trans ?_ hy) (by norm_num [lo6])
    simp only [wv, tv]; norm_num
  · refine tanh_pos_gt (107 / 500 : ℝ) y _ (by norm_num) (by norm_num) (le_trans ?_ hy) (by norm_num [lo6])
    simp only [wv, tv]; norm_num
  · refine tanh_pos_gt (57 / 200 : ℝ) y _ (by norm_num) (by norm_num) (le_trans ?_ hy) (by norm_num [lo6])
    simp only [wv, tv]; norm_num
  · refine tanh_pos_gt (367 / 1000 : ℝ) y _ (by norm_num) (by norm_num) (le_trans ?_ hy) (by norm_num [lo6])
    simp only [wv, tv]; norm_num
  · refine tanh_pos_gt (471 / 1000 : ℝ) y _ (by norm_num) (by norm_num) (le_trans ?_ hy) (by norm_num [lo6])
    simp only [wv, tv]; norm_num
  · refine tanh_pos_gt (631 / 1000 : ℝ) y _ (by norm_num) (by norm_num) (le_trans ?_ hy) (by norm_num [lo6])
    simp only [wv, tv]; norm_num

/-- At most one in size, the weight's tangent is below `7.5 / 8`. -/
theorem tanh_top (y : ℝ) (hy : y ≤ wv) : Real.tanh y < 15 / 16 := by
  refine tanh_pos_lt (367 / 500 : ℝ) y _ (by norm_num) (by norm_num) (by norm_num) (hy.trans ?_) (by norm_num [hi6])
  simp only [wv]; norm_num

/-- At most one in size, the weight's tangent is above `-7.5 / 8`. -/
theorem tanh_bottom (y : ℝ) (hy : -wv ≤ y) : -(15 / 16) < Real.tanh y := by
  refine tanh_neg_gt (367 / 500 : ℝ) y _ (by norm_num) (by norm_num) (by norm_num) (le_trans ?_ hy) (by norm_num [hi6])
  simp only [wv]; norm_num

/-- The comparison's bit is one where the left side is greater. -/
theorem gt_pos {u v : EReal} (h : v < u) : gt u v = 1#1 := by
  simp [gt, FloatOps.cmpf, Ideal.cmp, h]
/-- The comparison's bit is zero where the left side is not greater. -/
theorem gt_neg {u v : EReal} (h : u ≤ v) : gt u v = 0#1 := by
  simp [gt, FloatOps.cmpf, Ideal.cmp, not_lt.mpr h]
/-- The bit one selects the first value. -/
theorem sel1 (a b : EReal) : Scalar.select 1#1 a b = a := rfl
/-- The bit zero selects the second value. -/
theorem sel0 (a b : EReal) : Scalar.select 0#1 a b = b := rfl

/-- The reference's code is the number of thresholds below the weight, by its two neighbours. -/
theorem rcode_spec (v : EReal) : ∃ k : ℕ, k ≤ 15 ∧ rcode v = BitVec.ofNat 32 k ∧ (k ≠ 0 → thr (k - 1) < v) ∧ (k ≠ 15 → v ≤ thr k) := by
  rcases lt_or_ge (thr 7) v with h7 | h7
  · rcases lt_or_ge (thr 11) v with h11 | h11
    · rcases lt_or_ge (thr 13) v with h13 | h13
      · rcases lt_or_ge (thr 14) v with h14 | h14
        · refine ⟨15, by decide, ?_, fun _ => h14, fun h => absurd rfl h⟩
          simp only [rcode, rt0, sel1, sel0, gt_pos h7, gt_pos h11, gt_pos h13, gt_pos h14]
          decide
        · refine ⟨14, by decide, ?_, fun _ => h13, fun _ => h14⟩
          simp only [rcode, rt0, sel1, sel0, gt_pos h7, gt_pos h11, gt_pos h13, gt_neg h14]
          decide
      · rcases lt_or_ge (thr 12) v with h12 | h12
        · refine ⟨13, by decide, ?_, fun _ => h12, fun _ => h13⟩
          simp only [rcode, rt0, sel1, sel0, gt_pos h7, gt_pos h11, gt_neg h13, gt_pos h12]
          decide
        · refine ⟨12, by decide, ?_, fun _ => h11, fun _ => h12⟩
          simp only [rcode, rt0, sel1, sel0, gt_pos h7, gt_pos h11, gt_neg h13, gt_neg h12]
          decide
    · rcases lt_or_ge (thr 9) v with h9 | h9
      · rcases lt_or_ge (thr 10) v with h10 | h10
        · refine ⟨11, by decide, ?_, fun _ => h10, fun _ => h11⟩
          simp only [rcode, rt0, sel1, sel0, gt_pos h7, gt_neg h11, gt_pos h9, gt_pos h10]
          decide
        · refine ⟨10, by decide, ?_, fun _ => h9, fun _ => h10⟩
          simp only [rcode, rt0, sel1, sel0, gt_pos h7, gt_neg h11, gt_pos h9, gt_neg h10]
          decide
      · rcases lt_or_ge (thr 8) v with h8 | h8
        · refine ⟨9, by decide, ?_, fun _ => h8, fun _ => h9⟩
          simp only [rcode, rt0, sel1, sel0, gt_pos h7, gt_neg h11, gt_neg h9, gt_pos h8]
          decide
        · refine ⟨8, by decide, ?_, fun _ => h7, fun _ => h8⟩
          simp only [rcode, rt0, sel1, sel0, gt_pos h7, gt_neg h11, gt_neg h9, gt_neg h8]
          decide
  · rcases lt_or_ge (thr 3) v with h3 | h3
    · rcases lt_or_ge (thr 5) v with h5 | h5
      · rcases lt_or_ge (thr 6) v with h6 | h6
        · refine ⟨7, by decide, ?_, fun _ => h6, fun _ => h7⟩
          simp only [rcode, rt0, sel1, sel0, gt_neg h7, gt_pos h3, gt_pos h5, gt_pos h6]
          decide
        · refine ⟨6, by decide, ?_, fun _ => h5, fun _ => h6⟩
          simp only [rcode, rt0, sel1, sel0, gt_neg h7, gt_pos h3, gt_pos h5, gt_neg h6]
          decide
      · rcases lt_or_ge (thr 4) v with h4 | h4
        · refine ⟨5, by decide, ?_, fun _ => h4, fun _ => h5⟩
          simp only [rcode, rt0, sel1, sel0, gt_neg h7, gt_pos h3, gt_neg h5, gt_pos h4]
          decide
        · refine ⟨4, by decide, ?_, fun _ => h3, fun _ => h4⟩
          simp only [rcode, rt0, sel1, sel0, gt_neg h7, gt_pos h3, gt_neg h5, gt_neg h4]
          decide
    · rcases lt_or_ge (thr 1) v with h1 | h1
      · rcases lt_or_ge (thr 2) v with h2 | h2
        · refine ⟨3, by decide, ?_, fun _ => h2, fun _ => h3⟩
          simp only [rcode, rt0, sel1, sel0, gt_neg h7, gt_neg h3, gt_pos h1, gt_pos h2]
          decide
        · refine ⟨2, by decide, ?_, fun _ => h1, fun _ => h2⟩
          simp only [rcode, rt0, sel1, sel0, gt_neg h7, gt_neg h3, gt_pos h1, gt_neg h2]
          decide
      · rcases lt_or_ge (thr 0) v with h0 | h0
        · refine ⟨1, by decide, ?_, fun _ => h0, fun _ => h1⟩
          simp only [rcode, rt0, sel1, sel0, gt_neg h7, gt_neg h3, gt_neg h1, gt_pos h0]
          decide
        · refine ⟨0, by decide, ?_, fun h => absurd rfl h, fun _ => h0⟩
          simp only [rcode, rt0, sel1, sel0, gt_neg h7, gt_neg h3, gt_neg h1, gt_neg h0]
          decide

/-- Rounding to an integer moves a real by at most a half. -/
theorem round_near (r : ℝ) : r - 1 / 2 ≤ (Ideal.roundHalfEven r : ℝ) ∧ (Ideal.roundHalfEven r : ℝ) ≤ r + 1 / 2 := by
  have h1 := Int.floor_le r
  have h2 := Int.lt_floor_add_one r
  unfold Ideal.roundHalfEven
  dsimp only
  split_ifs <;> push_cast <;> constructor <;> linarith

/-- The word of a weight whose warped value is the real `y`: its number is next to eight times the tangent. -/
theorem kp_real (w sc : EReal) (y : ℝ) (h : w * sc = (y : EReal)) (k : ℕ) (hk : k ≤ 15) (h1 : ((k : ℝ) - 17 / 2) / 8 < Real.tanh y) (h2 : Real.tanh y < ((k : ℝ) - 13 / 2) / 8) :
    kp w sc = BitVec.ofNat 32 (16768 + k) ∨ kp w sc = BitVec.ofNat 32 (16768 + (k + 1)) := by
  have e17 : Scalar.ofBits (F := Ideal) .bf16 0x4188#16 = ((17 : ℝ) : EReal) := by
    show Ideal.ofBits .bf16 0x4188#16 = _
    simp [Ideal.ofBits, Ideal.ieee]
    rw [← EReal.coe_mul]; congr 1; norm_num
  have e8 : Scalar.ofBits (F := Ideal) .f32 0x41000000#32 = ((8 : ℝ) : EReal) := by
    show Ideal.ofBits .f32 0x41000000#32 = _
    simp [Ideal.ofBits, Ideal.ieee]
    rw [← EReal.coe_mul]; congr 1; norm_num
  have hkp : kp w sc = IntOp.addi (Ideal.fptosi 32 ((Ideal.roundHalfEven ((Real.tanh y + 17) * 8) : ℝ) : EReal)) 16640#32 := by
    unfold kp
    rw [e17, e8]
    show IntOp.addi (Ideal.fptosi 32 (Ideal.liftRound Ideal.roundHalfEven ((Ideal.tanh (w * sc) + ((17 : ℝ) : EReal)) * ((8 : ℝ) : EReal)))) 16640#32 = _
    rw [h]
    rfl
  obtain ⟨r1, r2⟩ := round_near ((Real.tanh y + 17) * 8)
  rw [hkp]
  generalize Ideal.roundHalfEven ((Real.tanh y + 17) * 8) = R at r1 r2
  have hR : R = 128 + k ∨ R = 129 + k := by
    have a1 : (127 + (k : ℤ) : ℤ) < R := by
      have : ((127 + (k : ℤ) : ℤ) : ℝ) < (R : ℝ) := by push_cast; linarith
      exact_mod_cast this
    have a2 : R < (130 + (k : ℤ) : ℤ) := by
      have : (R : ℝ) < ((130 + (k : ℤ) : ℤ) : ℝ) := by push_cast; linarith
      exact_mod_cast this
    omega
  have hf : Ideal.fptosi 32 ((R : ℝ) : EReal) = BitVec.ofInt 32 R := by
    rw [Ideal.fptosi, Ideal.toIntClamped_coe]
    have : (0 : ℝ) ≤ (R : ℝ) := by
      have : (0 : ℤ) ≤ R := by omega
      exact_mod_cast this
    rw [if_pos this, Int.floor_intCast]
    congr 1
    norm_num
    omega
  rw [hf]
  rcases hR with rfl | rfl
  · left; interval_cases k <;> decide
  · right; interval_cases k <;> decide

/-- The low four bits of a word are its code. -/
theorem nib (k : ℕ) (hk : k ≤ 15) : (BitVec.ofNat 32 (16768 + k)).setWidth 8 &&& 15#8 = BitVec.ofNat 8 k := by
  interval_cases k <;> decide

/-- A word less the table's offset is the code below it. -/
theorem idx_nib (k : ℕ) (hk : k ≤ 15) : (IntOp.subi (BitVec.ofNat 32 (16768 + (k + 1))) 16769#32) = BitVec.ofNat 32 k := by
  interval_cases k <;> decide

/-- The kernel's selected word has the code in its low four bits where the two threshold comparisons agree with it. -/
theorem ksel_nib (p : BitVec 32) (w : EReal) (th : ℕ → EReal) (k : ℕ) (hk : k ≤ 15)
    (hp : (p = BitVec.ofNat 32 (16768 + k) ∧ k ≠ 0 ∧ th (k - 1) < w) ∨ (p = BitVec.ofNat 32 (16768 + (k + 1)) ∧ k ≠ 15 ∧ w ≤ th k)) :
    (ksel p w fun j => th j.val).setWidth 8 &&& 15#8 = BitVec.ofNat 8 k := by
  rcases hp with ⟨rfl, h0, h⟩ | ⟨rfl, h0, h⟩
  · obtain ⟨j, rfl⟩ : ∃ j, k = j + 1 := ⟨k - 1, by omega⟩
    unfold ksel
    simp only [idx_nib j (by omega)]
    have hj : (BitVec.ofNat 32 j).toNat % 16 = j := by
      rw [BitVec.toNat_ofNat]; omega
    rw [if_pos (by rw [hj]; exact h)]
    exact nib _ hk
  · unfold ksel
    simp only [idx_nib k hk]
    have hj : (BitVec.ofNat 32 k).toNat % 16 = k := by
      rw [BitVec.toNat_ofNat]; omega
    rw [if_neg (by rw [hj]; exact not_lt.mpr h)]
    interval_cases k <;> decide

/-- The word of a weight whose warped value's tangent is nearest one number. -/
theorem kp_exact (w sc : EReal) (y : ℝ) (h : w * sc = (y : EReal)) (k : ℕ) (hk : k < 15) (h1 : ((k : ℝ) - 15 / 2) / 8 < Real.tanh y) (h2 : Real.tanh y < ((k : ℝ) - 13 / 2) / 8) :
    kp w sc = BitVec.ofNat 32 (16768 + (k + 1)) := by
  have e := kp_real _ _ _ h k (by omega) (by linarith) h2
  have e' := kp_real _ _ _ h (k + 1) (by omega) (by push_cast; linarith) (by push_cast; linarith)
  rcases e with e | e
  · exfalso
    have n : ∀ i j : ℕ, i ≠ j → i < 20 → j < 20 → BitVec.ofNat 32 (16768 + i) ≠ BitVec.ofNat 32 (16768 + j) := fun i j hij hi hj he => by
      have := congrArg BitVec.toNat he
      simp only [BitVec.toNat_ofNat] at this
      omega
    rcases e' with e' | e'
    · rw [e] at e'; exact n _ _ (by omega) (by omega) (by omega) e'
    · rw [e] at e'; exact n _ _ (by omega) (by omega) (by omega) e'
  · exact e

/-- A weight whose warped value and quotient are zero has the code 7. -/
theorem code_zero (w sc a v : EReal) (hw : w * sc = 0) (hv : v = 0) (h7 : w ≤ thr 7 * a) :
    ∃ k : ℕ, k ≤ 15 ∧ rcode v = BitVec.ofNat 32 k ∧ (ksel (kp w sc) w fun j => thr j.val * a).setWidth 8 &&& 15#8 = BitVec.ofNat 8 k := by
  obtain ⟨k, hk, hr, hlo, hhi⟩ := rcode_spec v
  have hk7 : k = 7 := by
    subst hv
    by_contra hne
    rcases lt_or_gt_of_ne hne with hlt | hgt
    · have := hhi (by omega)
      rw [thr_eq k (by omega)] at this
      have : (0 : ℝ) ≤ tv k := by exact_mod_cast this
      interval_cases k <;> norm_num [tv] at this
    · have := hlo (by omega)
      rw [thr_eq (k - 1) (by omega)] at this
      have : tv (k - 1) < (0 : ℝ) := by exact_mod_cast this
      interval_cases k <;> norm_num [tv] at this
  subst hk7
  refine ⟨7, by decide, hr, ksel_nib _ _ (fun j => thr j * a) 7 (by decide) (Or.inr ⟨?_, by decide, h7⟩)⟩
  have t0 : Real.tanh 0 = 0 := Real.tanh_zero
  exact kp_exact w sc 0 (by rw [hw]; rfl) 7 (by decide) (by rw [t0]; norm_num) (by rw [t0]; norm_num)

/-- For a weight not above its block's maximum the kernel's word and the reference's tree give one code. -/
theorem code_eq (w a : EReal) (h : ab w ≤ a) :
    ∃ k : ℕ, k ≤ 15 ∧ rcode (w * Ideal.div 1 (if a = 0 then 1 else a)) = BitVec.ofNat 32 k ∧ (ksel (kp w (scp a)) w fun j => thr j.val * a).setWidth 8 &&& 15#8 = BitVec.ofNat 8 k := by
  have hm : max w (-w) ≤ a := h
  obtain ⟨h1, h2⟩ := max_le_iff.mp hm
  by_cases ha0 : a = 0
  · subst ha0
    have hw : w = 0 := le_antisymm h1 (by have := EReal.neg_le_neg_iff.mpr h2; simpa using this)
    subst hw
    exact code_zero 0 _ 0 _ (zero_mul _) (zero_mul _) (by rw [mul_zero])
  have hapos : 0 < a := by
    rcases lt_or_ge 0 a with hp | hp
    · exact hp
    · exfalso
      have hn : a < 0 := lt_of_le_of_ne hp ha0
      have hw1 : w < 0 := lt_of_le_of_lt h1 hn
      have hw2 : -w < 0 := lt_of_le_of_lt h2 hn
      have := EReal.neg_lt_neg_iff.mpr hw2
      rw [neg_neg, neg_zero] at this
      exact absurd hw1 (not_lt.mpr this.le)
  unfold scp
  rw [if_neg ha0, wv_eq]
  have hd : ∀ x : EReal, Ideal.div x a = x * a⁻¹ := fun x => by rw [Ideal.div, if_neg ha0]
  rw [hd, hd, one_mul]
  by_cases hat : a = ⊤
  · subst hat
    have hi : (⊤ : EReal)⁻¹ = 0 := EReal.inv_top
    rw [hi]
    refine code_zero w _ ⊤ _ (by rw [mul_zero, mul_zero]) (by rw [mul_zero]) ?_
    rw [thr_eq 7 (by decide), EReal.coe_mul_top_of_pos (by norm_num [tv])]
    exact le_top
  have hab : a ≠ ⊥ := fun hb => by rw [hb] at hapos; exact absurd hapos (not_lt.mpr bot_le)
  lift a to ℝ using ⟨hat, hab⟩
  have hwt : w ≠ ⊤ := fun hb => by rw [hb] at h1; exact absurd h1 (not_le.mpr (EReal.coe_lt_top a))
  have hwb : w ≠ ⊥ := fun hb => by rw [hb, EReal.neg_bot] at h2; exact absurd h2 (not_le.mpr (EReal.coe_lt_top a))
  lift w to ℝ using ⟨hwt, hwb⟩
  have pa : (0 : ℝ) < a := by exact_mod_cast hapos
  have q1 : w ≤ a := by exact_mod_cast h1
  have q2 : -w ≤ a := by exact_mod_cast h2
  have hv : (w : EReal) * (a : EReal)⁻¹ = ((w / a : ℝ) : EReal) := by
    rw [← EReal.coe_inv, ← EReal.coe_mul, div_eq_mul_inv]
  have hy : (w : EReal) * ((wv : EReal) * (a : EReal)⁻¹) = ((wv * (w / a) : ℝ) : EReal) := by
    rw [← EReal.coe_inv, ← EReal.coe_mul, ← EReal.coe_mul]
    congr 1; rw [div_eq_mul_inv]; ring
  have hth : ∀ j < 15, thr j * (a : EReal) = ((tv j * a : ℝ) : EReal) := fun j hj => by rw [thr_eq j hj, ← EReal.coe_mul]
  have pw : (0 : ℝ) < wv := by norm_num [wv]
  have v1 : w / a ≤ 1 := (div_le_one pa).mpr q1
  have v2 : -1 ≤ w / a := by rw [le_div_iff₀ pa]; linarith
  rw [hv]
  obtain ⟨k, hk, hr, hlo, hhi⟩ := rcode_spec ((w / a : ℝ) : EReal)
  have hlo' : k ≠ 0 → tv (k - 1) < w / a := fun hk0 => by
    have := hlo hk0
    rw [thr_eq (k - 1) (by omega)] at this
    exact_mod_cast this
  have hhi' : k ≠ 15 → w / a ≤ tv k := fun hk0 => by
    have := hhi hk0
    rw [thr_eq k (by omega)] at this
    exact_mod_cast this
  have b1 : ((k : ℝ) - 17 / 2) / 8 < Real.tanh (wv * (w / a)) := by
    by_cases hk0 : k = 0
    · have := tanh_bottom (wv * (w / a)) (by nlinarith)
      subst hk0
      push_cast
      linarith
    · have := tanh_above (k - 1) (by omega) (wv * (w / a)) (mul_le_mul_of_nonneg_left (hlo' hk0).le pw.le)
      rw [Nat.cast_sub (by omega)] at this
      push_cast at this
      linarith
  have b2 : k ≠ 15 → Real.tanh (wv * (w / a)) < ((k : ℝ) - 13 / 2) / 8 := fun hk0 => tanh_below k (by omega) (wv * (w / a)) (mul_le_mul_of_nonneg_left (hhi' hk0) pw.le)
  refine ⟨k, hk, hr, ?_⟩
  refine ksel_nib _ _ (fun j => thr j * (a : EReal)) k hk ?_
  have c1 : k ≠ 0 → (fun j => thr j * (a : EReal)) (k - 1) < (w : EReal) := fun hk0 => by
    show thr (k - 1) * (a : EReal) < _
    rw [hth _ (by omega)]
    exact_mod_cast (lt_div_iff₀ pa).mp (hlo' hk0)
  have c2 : k ≠ 15 → (w : EReal) ≤ (fun j => thr j * (a : EReal)) k := fun hk0 => by
    show _ ≤ thr k * (a : EReal)
    rw [hth _ (by omega)]
    exact_mod_cast (div_le_iff₀ pa).mp (hhi' hk0)
  by_cases hk15 : k = 15
  · subst hk15
    have t := tanh_top (wv * (w / a)) (by nlinarith)
    left
    exact ⟨kp_exact _ _ _ hy 14 (by decide) (by push_cast at b1 ⊢; linarith) (by push_cast; linarith), by decide, c1 (by decide)⟩
  · by_cases hk0 : k = 0
    · subst hk0
      have t := tanh_bottom (wv * (w / a)) (by nlinarith)
      right
      exact ⟨kp_exact _ _ _ hy 0 (by decide) (by push_cast; linarith) (b2 hk15), hk15, c2 hk15⟩
    · rcases kp_real _ _ _ hy k hk b1 (b2 hk15) with e | e
      · left
        exact ⟨e, hk0, c1 hk0⟩
      · right
        exact ⟨e, hk15, c2 hk15⟩

end Cert.Proof.Code

end

end
-- ==== Proof.V8.lean ====
module

public import proofs.«01_k».proof.Proof.V7
public import proofs.«01_k».proof.Proof.KernelIdealBody
public import Idealize.ShloMosaic.Lib.Pipeline.ArrRel
public import Idealize.ShloMosaic.Lib.Pipeline.ValueKit
public import Idealize.ShloMosaic.Lib.Pointwise
public import Idealize.ShloMosaic.Lib.Claim
public import Idealize.ShloMosaic.Lib.Tactic

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.Sem
open Idealize.ShloMosaic.Pipeline (RDat Dat)
open Cert.Proof.ReferenceIdeal (blk)

variable (m : (ℓ : Loc nD τ sig) → Buf (Elt Ideal) ℓ)

/-- The weights a device starts with. -/
abbrev wts (c : Dev nD) : S1x1664x14336.Idx → EReal := m ((c.tc : Thread nD τ).loc main_arg0)

/-- A grid point's only coordinate is its number. -/
theorem coord0 : ∀ t : Fin grid0.N, (grid0.coords t 0).val = t.val := by decide

/-- The weights' window at a point is the block of rows with the point's number. -/
theorem idx0 : ∀ t : Fin grid0.N, win0_0.index t 0 = 0 ∧ win0_0.index t 1 = t.val ∧ win0_0.index t 2 = 0 := by decide
/-- The packed result's window at a point is the block of rows with the point's number. -/
theorem idx1 : ∀ t : Fin grid0.N, win0_1.index t 0 = 0 ∧ win0_1.index t 1 = t.val ∧ win0_1.index t 2 = 0 := by decide

/-- A point of the grid as a block number. -/
def bk (t : Fin cfg0.N) : Fin 26 := ⟨t.val, t.isLt⟩

/-- The block of weights fetched at a point. -/
theorem fetched_at (aft : AftTy Ideal) (P : ℕ → (BufTy.Contents (Elt Ideal) (Memref.whole cc0_scratch1).view.ty) → Prop) (c : Dev nD) (t : Fin cfg0.N)
    (Y : (cfg0.win 0).block.Idx → Elt Ideal (cfg0.win 0).elt) (h : (rdat m aft P c).Finds 0 t Y) : Y = blk (wts m c) (bk t) := by
  rw [RDat.finds_of_fetch _ (fetch0_0 t)] at h
  obtain ⟨d, rfl⟩ := h
  funext y
  have hm : (cfg0.win 0).moved (cfg0.grid.coords t) y = true := ((cfg0.win 0).moved_iff _ y).mpr fun a => by
    have := (y a).isLt
    revert this
    fin_cases a <;> exact fun h => h
  unfold RDat.fetched Pipeline.Window.fill
  rw [dif_pos hm]
  show (V m c main_arg0) (((cfg0.win 0).blk t).view.emb _) = _
  have hV : V m c main_arg0 = wts m c := by
    rfl
  rw [hV]
  show wts m c _ = wts m c _
  congr 1
  funext a
  apply Fin.ext
  blk_simp
  have hi := idx0 t
  have hy0 : (y 0).val < 1 := (y 0).isLt
  fin_cases a
  · show win0_0.index t 0 * 1 + (y 0).val = 0
    rw [hi.1]; omega
  · show win0_0.index t 1 * 64 + (y 1).val = t.val * 64 + (y 1).val
    rw [hi.2.1]
  · show win0_0.index t 2 * 14336 + (y 2).val = (y 2).val
    rw [hi.2.2]; omega

/-- The packed array after the run. -/
theorem packed_arr (aft : AftTy Ideal) (P : ℕ → (BufTy.Contents (Elt Ideal) (Memref.whole cc0_scratch1).view.ty) → Prop) (c : Dev nD)
    (after : (w' : Fin cfg0.W) → Fin cfg0.N → (cfg0.win w').block.Idx → Elt Ideal (cfg0.win w').elt)
    (G : S1x832x14336.Idx → BitVec 8)
    (h : ∀ (t : Fin cfg0.N) (y : S1x32x14336.Idx) (q : Fin 832), q.val = t.val * 32 + (y 1).val → after 1 t y = G (ix3 0 q (y 2))) :
    ((rdat m aft P c).withAfter after).arrAt 1 cfg0.N = G := by
  refine Dat.arrAt_eq_of_covers _ 1 _ (by decide +kernel) (fun t hf y => ?_)
  blk_simp
  have hi := idx1 t
  have hy0 : (y 0).val < 1 := (y 0).isLt
  have hy1 : (y 1).val < 32 := (y 1).isLt
  have ht : t.val < 26 := t.isLt
  refine (h t y ⟨t.val * 32 + (y 1).val, by omega⟩ rfl).trans ?_
  congr 1
  funext a
  apply Fin.ext
  blk_simp
  fin_cases a
  · show 0 = win0_1.index t 0 * 1 + (y 0).val
    rw [hi.1]; omega
  · show t.val * 32 + (y 1).val = win0_1.index t 1 * 32 + (y 1).val
    rw [hi.2.1]
  · show (y 2).val = win0_1.index t 2 * 14336 + (y 2).val
    rw [hi.2.2]; omega

/-- Array 2 after the run: what the last point left. -/
theorem arr2 (aft : AftTy Ideal) (P : ℕ → (BufTy.Contents (Elt Ideal) (Memref.whole cc0_scratch1).view.ty) → Prop) (c : Dev nD)
    (after : (w' : Fin cfg0.W) → Fin cfg0.N → (cfg0.win w').block.Idx → Elt Ideal (cfg0.win w').elt)
    (G : S1x26x14336.Idx → Elt Ideal .f32) (h : after 2 ⟨25, by decide⟩ = G) :
    ((rdat m aft P c).withAfter after).arrAt 2 cfg0.N = G := by
  refine Dat.arrAt_eq_of_after_last _ 2 ⟨25, by decide⟩ (by decide +kernel) _ (fun j => ?_)
  exact congrFun h j

/-- Array 3 after the run: what the last point left. -/
theorem arr3 (aft : AftTy Ideal) (P : ℕ → (BufTy.Contents (Elt Ideal) (Memref.whole cc0_scratch1).view.ty) → Prop) (c : Dev nD)
    (after : (w' : Fin cfg0.W) → Fin cfg0.N → (cfg0.win w').block.Idx → Elt Ideal (cfg0.win w').elt)
    (G : S1456x256.Idx → Elt Ideal .i8) (h : after 3 ⟨25, by decide⟩ = G) :
    ((rdat m aft P c).withAfter after).arrAt 3 cfg0.N = G := by
  refine Dat.arrAt_eq_of_after_last _ 3 ⟨25, by decide⟩ (by decide +kernel) _ (fun j => ?_)
  exact congrFun h j

/-- Array 4 after the run: what the last point left. -/
theorem arr4 (aft : AftTy Ideal) (P : ℕ → (BufTy.Contents (Elt Ideal) (Memref.whole cc0_scratch1).view.ty) → Prop) (c : Dev nD)
    (after : (w' : Fin cfg0.W) → Fin cfg0.N → (cfg0.win w').block.Idx → Elt Ideal (cfg0.win w').elt)
    (G : S1x1456.Idx → Elt Ideal .f32) (h : after 4 ⟨25, by decide⟩ = G) :
    ((rdat m aft P c).withAfter after).arrAt 4 cfg0.N = G := by
  refine Dat.arrAt_eq_of_after_last _ 4 ⟨25, by decide⟩ (by decide +kernel) _ (fun j => ?_)
  exact congrFun h j

/-- Array 5 after the run: what the last point left. -/
theorem arr5 (aft : AftTy Ideal) (P : ℕ → (BufTy.Contents (Elt Ideal) (Memref.whole cc0_scratch1).view.ty) → Prop) (c : Dev nD)
    (after : (w' : Fin cfg0.W) → Fin cfg0.N → (cfg0.win w').block.Idx → Elt Ideal (cfg0.win w').elt)
    (G : S1x1.Idx → Elt Ideal .f32) (h : after 5 ⟨25, by decide⟩ = G) :
    ((rdat m aft P c).withAfter after).arrAt 5 cfg0.N = G := by
  refine Dat.arrAt_eq_of_after_last _ 5 ⟨25, by decide⟩ (by decide +kernel) _ (fun j => ?_)
  exact congrFun h j

end Cert.Proof.KernelIdeal

end

end
-- ==== Proof.V9.lean ====
module

public import proofs.«01_k».proof.Proof.KernelIdealBody
public import proofs.«01_k».proof.Proof.Gen.KernelIdeal.Loops
public import proofs.«01_k».proof.Proof.Gen.KernelIdeal
public import proofs.«01_k».proof.Proof.V8
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The encoding loop leaves the packed block. -/
theorem enc_read (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (arg0 v0 : BitVec 32) (X1 : BufTy.Contents (Elt Ideal) arg1.view.ty) (X2 : BufTy.Contents (Elt Ideal) arg2.view.ty) (X8 : BufTy.Contents (Elt Ideal) arg8.view.ty) (X9 : BufTy.Contents (Elt Ideal) arg9.view.ty)
    (H8 : ∀ (r : Fin 3584) (l : Fin 128), (i 0).val * 112 ≤ r.val → r.val < (i 0).val * 112 + 112 → arg8.view.read (Elt Ideal) X8 (ix2 r l) = cm (arg1.view.read (Elt Ideal) X1) ((r.val - (i 0).val * 112) * 128 + l.val))
    (H9 : ∀ (r : Fin 112) (h : Fin 2) (l : Fin 128), arg9.view.read (Elt Ideal) X9 (ix3 r h l) = scp (cm (arg1.view.read (Elt Ideal) X1) (r.val * 128 + l.val))) (n : ℕ) (hn : n = 28) :
    arg2.view.read (Elt Ideal) (arg2.view.writes (Elt Ideal) X2 (pb_k0_t2 (F := Ideal) 𝒱 c none i arg1 harg1 arg2 harg2 arg3 harg3 arg4 harg4 arg5 harg5 arg6 harg6 arg7 harg7 arg8 harg8 arg9 harg9 arg10 harg10 arg0 v0 (iota .tc S8x128 32 [0] iota_S8x128_d0_w32) k0_pay134 X1 X8 X9 n)) = packG (arg1.view.read (Elt Ideal) X1) := by
  subst hn
  funext y
  have ht : k0_t2_loop.trips = 28 := by decide
  obtain ⟨hA, hB⟩ := enc_pieces 𝒱 c i arg1 harg1 arg2 harg2 arg3 harg3 arg4 harg4 arg5 harg5 arg6 harg6 arg7 harg7 arg8 harg8 arg9 harg9 arg10 harg10 arg0 v0 X1 X8 X9 H8 H9 28 (by rw [ht])
  exact read_writes_all _ _ _ _ hA y (hB y (by have : (y 2).val < 14336 := (y 2).isLt; omega))

/-- What one run of the body leaves in the packed block and in the flat maxima. -/
theorem res_pack (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (C2 : BufTy.Contents (Elt Ideal) arg2.view.ty) (C3 : BufTy.Contents (Elt Ideal) arg3.view.ty) (C4 : BufTy.Contents (Elt Ideal) arg4.view.ty) (C5 : BufTy.Contents (Elt Ideal) arg5.view.ty) (C6 : BufTy.Contents (Elt Ideal) arg6.view.ty) (C7 : BufTy.Contents (Elt Ideal) arg7.view.ty) (C8 : BufTy.Contents (Elt Ideal) arg8.view.ty) (C9 : BufTy.Contents (Elt Ideal) arg9.view.ty) (C10 : BufTy.Contents (Elt Ideal) arg10.view.ty)
    (hres : Res (F := Ideal) 𝒱 c i arg1 harg1 arg2 harg2 arg3 harg3 arg4 harg4 arg5 harg5 arg6 harg6 arg7 harg7 arg8 harg8 arg9 harg9 arg10 harg10 X1 X2 X3 X4 X5 X6 X7 X8 X9 X10 C2 C3 C4 C5 C6 C7 C8 C9 C10) :
    arg2.view.read (Elt Ideal) C2 = packG (arg1.view.read (Elt Ideal) X1)
    ∧ (∀ (r : Fin 3584) (l : Fin 128), arg8.view.read (Elt Ideal) C8 (ix2 r l)
      = if (i 0).val * 112 ≤ r.val ∧ r.val < (i 0).val * 112 + 112 then cm (arg1.view.read (Elt Ideal) X1) ((r.val - (i 0).val * 112) * 128 + l.val) else arg8.view.read (Elt Ideal) X8 (ix2 r l)) := by
  have t1 : Scf.trips 0#32 (Scalar.addi 0#32 14#32) 1#32 = 14 := by decide
  have key := flat_inv 𝒱 c i arg1 harg1 arg2 harg2 arg3 harg3 arg4 harg4 arg5 harg5 arg6 harg6 arg7 harg7 arg8 harg8 arg9 harg9 arg10 harg10 (Scalar.muli (BitVec.ofNat 32 (i 0).val) 112#32) X1 (X7, X8, X9) 14 (by rw [trips_t1])
  obtain ⟨k8, k9⟩ := key
  rcases hres with ⟨h1, h2, e2, -, -, -, -, -, e8, -, -⟩ | ⟨h1, h2, e2, -, -, -, -, -, e8, -, -⟩ | ⟨h1, h2, e2, -, -, -, -, -, e8, -, -⟩
  · unfold runA at e2 e8
    dsimp only at e2 e8
    rw [e2, e8]
    refine ⟨?_, ?_⟩
    · refine enc_read 𝒱 c i arg1 harg1 arg2 harg2 arg3 harg3 arg4 harg4 arg5 harg5 arg6 harg6 arg7 harg7 arg8 harg8 arg9 harg9 arg10 harg10 _ _ X1 X2 _ _ (fun r l ha hb => ?_) (fun r h l => ?_) _ (by decide)
      · refine (k8 r l).trans (if_pos ⟨ha, hb⟩)
      · exact k9 r h l r.isLt
    · exact k8
  · unfold runB at e2 e8
    dsimp only at e2 e8
    rw [e2, e8]
    refine ⟨?_, ?_⟩
    · refine enc_read 𝒱 c i arg1 harg1 arg2 harg2 arg3 harg3 arg4 harg4 arg5 harg5 arg6 harg6 arg7 harg7 arg8 harg8 arg9 harg9 arg10 harg10 _ _ X1 X2 _ _ (fun r l ha hb => ?_) (fun r h l => ?_) _ (by decide)
      · refine (k8 r l).trans (if_pos ⟨ha, hb⟩)
      · exact k9 r h l r.isLt
    · exact k8
  · unfold runC at e2 e8
    dsimp only at e2 e8
    rw [e2, e8]
    refine ⟨?_, ?_⟩
    · refine enc_read 𝒱 c i arg1 harg1 arg2 harg2 arg3 harg3 arg4 harg4 arg5 harg5 arg6 harg6 arg7 harg7 arg8 harg8 arg9 harg9 arg10 harg10 _ _ X1 X2 _ _ (fun r l ha hb => ?_) (fun r h l => ?_) _ (by decide)
      · refine (k8 r l).trans (if_pos ⟨ha, hb⟩)
      · exact k9 r h l r.isLt
    · exact k8

end Cert.Proof.KernelIdeal

end
-- ==== Proof.V10.lean ====
module

public import proofs.«01_k».proof.Proof.KernelIdealBody
public import proofs.«01_k».proof.Proof.Gen.KernelIdeal.Loops
public import proofs.«01_k».proof.Proof.Gen.KernelIdeal
public import proofs.«01_k».proof.Proof.V9
public import Idealize.ShloMosaic.Lib.Tactic
public import Idealize.ShloMosaic.Lib.WritesUnit
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The first store condition holds at the last step of a group of eight. -/
theorem cond1_mod (i : grid0.Coords) (h : k0_cond1 i = 1#1) : (i 0).val % 8 = 7 := by
  revert h
  unfold k0_cond1
  dsimp only
  generalize i 0 = b
  revert b
  decide

/-- The second store condition holds at the last grid step. -/
theorem cond2_last (i : grid0.Coords) (h : k0_cond2 i = 1#1) : (i 0).val = 25 := by
  revert h
  unfold k0_cond2
  dsimp only
  generalize i 0 = b
  revert b
  decide

/-- A strided load reads the view at the offset plus the stride times the index. -/
theorem rd_stride {sig : RefSig} {κ : Kind} {sp : Space} {s : Shape} {e : EltTy} {Val : EltTy → Type} (v : View sig κ sp s e) (X : v.ty.Contents Val)
    (R : LoadRect s) (off' : Fin s.rank → ℕ) (ho : R.off = off') (x : R.shape.Idx) (y : s.Idx) (h : ∀ a, (y a).val = off' a + R.stride a * (x a).val) :
    v.readAt Val R X x = v.read Val X y := by
  subst ho
  rw [View.readAt_apply]; congr 1; funext a; apply Fin.ext
  show R.off a + R.stride a * (x a).val = (y a).val
  rw [h a]

/-- The flat maxima at a block row and a column. -/
def fl (f : S3584x128.Idx → EReal) (r c : ℕ) : EReal := f (ix2 ⟨(r * 112 + c / 128) % 3584, Nat.mod_lt _ (by decide)⟩ ⟨c % 128, Nat.mod_lt _ (by decide)⟩)

/-- The flat maxima at a row and lane of the table, by block row and column. -/
theorem fl_eq (f : S3584x128.Idx → EReal) (r c : ℕ) (a : Fin 3584) (b : Fin 128) (ha : a.val = r * 112 + c / 128) (hb : b.val = c % 128) : f (ix2 a b) = fl f r c := by
  unfold fl
  congr 2
  · apply Fin.ext; show a.val = _ % _; rw [← ha, Nat.mod_eq_of_lt a.isLt]
  · apply Fin.ext; exact hb

/-- The offsets of the load in the eight-row store loop. -/
theorem off30_eq (i : grid0.Coords) (k : Fin k0_t3_loop.trips) (h : k0_cond1 i = 1#1) : k0_off30 i k = ![((i 0).val - 7) * 112 + k.val, 0] := by
  have hk : k.val < 112 := Nat.lt_of_lt_of_le k.isLt k0_t3_abs.2.1
  have hi : (i 0).val < 26 := (i 0).isLt
  have hm := cond1_mod i h
  unfold k0_off30; dsimp only; congr 1
  simp [Scalar.muli, Scalar.addi, Scalar.subi, IntOp.subi, IntOp.muli, IntOp.addi, Scf.iv, Scalar.indexCast]; omega

/-- The offsets of the store in the eight-row store loop. -/
theorem off31_eq (i : grid0.Coords) (k : Fin k0_t3_loop.trips) (h : k0_cond1 i = 1#1) : k0_off31 i k = ![0, (i 0).val - 7, k.val * 128] := by
  have hk : k.val < 112 := Nat.lt_of_lt_of_le k.isLt k0_t3_abs.2.1
  have hi : (i 0).val < 26 := (i 0).isLt
  have hm := cond1_mod i h
  unfold k0_off31; dsimp only; congr 1
  funext a
  fin_cases a
  · simp [Scalar.muli, Scalar.addi, Scalar.subi, IntOp.subi, IntOp.muli, IntOp.addi, Scf.iv, Scalar.indexCast]; omega
  · simp [Scalar.muli, Scalar.addi, Scalar.subi, IntOp.subi, IntOp.muli, IntOp.addi, Scf.iv, Scalar.indexCast]; omega

/-- The offsets of the load in the two-row store loop. -/
theorem off32_eq (k : Fin k0_t4_loop.trips) : k0_off32 k = ![24 * 112 + k.val, 0] := by
  have hk : k.val < 112 := Nat.lt_of_lt_of_le k.isLt k0_t4_abs.2.1
  unfold k0_off32; dsimp only; congr 1
  simp [Scalar.muli, Scalar.addi, Scalar.subi, IntOp.subi, IntOp.muli, IntOp.addi, Scf.iv, Scalar.indexCast]; omega

/-- The offsets of the store in the two-row store loop. -/
theorem off33_eq (k : Fin k0_t4_loop.trips) : k0_off33 k = ![0, 24, k.val * 128] := by
  have hk : k.val < 112 := Nat.lt_of_lt_of_le k.isLt k0_t4_abs.2.1
  unfold k0_off33; dsimp only; congr 1
  funext a
  fin_cases a
  · rfl
  · simp [Scalar.muli, Scalar.addi, Scalar.subi, IntOp.subi, IntOp.muli, IntOp.addi, Scf.iv, Scalar.indexCast]; omega

/-- The piece of one trip of the 8-row store loop. -/
theorem t3_pieces (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond1 i = 1#1) (X8 : BufTy.Contents (Elt Ideal) arg8.view.ty) (k : Fin k0_t3_loop.trips) :
    (trip_k0_t3 (F := Ideal) 𝒱 c none i arg1 harg1 arg2 harg2 arg3 harg3 arg4 harg4 arg5 harg5 arg6 harg6 arg7 harg7 arg8 harg8 arg9 harg9 arg10 harg10 h X8 k).1 = [⟨Rect.unit (s := S1x26x14336) (k0_off31 i k) S1x8x128.size (k0_off31_inb i k h), k0_pay1 (View.readAt (Elt Ideal) arg8.view (⟨k0_off30 i k, S8x128.size, ![112, 1], (k0_off30_inb i k h)⟩ : LoadRect S3584x128) X8)⟩] := by
  unfold trip_k0_t3
  rfl

/-- The payload of the 8-row store, at an index. -/
theorem k0_pay1_at (v : FVec Ideal S8x128 .f32) (r : Fin 8) (l : Fin 128) : k0_pay1 (F := Ideal) v (ix3 0 r l) = v (ix2 ⟨r.val, by omega⟩ l) := by
  unfold k0_pay1
  pointwise []

/-- What the 8-row store loop leaves in the table of maxima. -/
theorem t3_read (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond1 i = 1#1) (X3 : BufTy.Contents (Elt Ideal) arg3.view.ty) (X8 : BufTy.Contents (Elt Ideal) arg8.view.ty) : ∀ n ≤ k0_t3_loop.trips, ∀ (r : Fin 26) (l : Fin 14336),
    arg3.view.read (Elt Ideal) (arg3.view.writes (Elt Ideal) X3 (pb_k0_t3 (F := Ideal) 𝒱 c none i arg1 harg1 arg2 harg2 arg3 harg3 arg4 harg4 arg5 harg5 arg6 harg6 arg7 harg7 arg8 harg8 arg9 harg9 arg10 harg10 h X8 n)) (ix3 0 r l)
      = if ((i 0).val - 7) ≤ r.val ∧ r.val < ((i 0).val - 7) + 8 ∧ l.val < n * 128 then fl (arg8.view.read (Elt Ideal) X8) r.val l.val else arg3.view.read (Elt Ideal) X3 (ix3 0 r l)
  | 0, _, r, l => by rw [if_neg (by omega)]; rfl
  | n + 1, hn, r, l => by
    have ih := t3_read 𝒱 c i arg1 harg1 arg2 harg2 arg3 harg3 arg4 harg4 arg5 harg5 arg6 harg6 arg7 harg7 arg8 harg8 arg9 harg9 arg10 harg10 h X3 X8 n (by omega) r l
    have hk : n < 112 := Nat.lt_of_lt_of_le hn k0_t3_abs.2.1
    have e := pb_k0_t3_succ (F := Ideal) 𝒱 c none i arg1 harg1 arg2 harg2 arg3 harg3 arg4 harg4 arg5 harg5 arg6 harg6 arg7 harg7 arg8 harg8 arg9 harg9 arg10 harg10 h X8 ⟨n, hn⟩
    unfold tripL_k0_t3 at e
    rw [t3_pieces] at e
    dsimp only at e
    rw [e]
    generalize hkk : (⟨n, hn⟩ : Fin k0_t3_loop.trips) = k
    have hkv : k.val = n := by rw [← hkk]
    clear e hkk
    have hi : (i 0).val < 26 := (i 0).isLt
    by_cases hc : ((i 0).val - 7) ≤ r.val ∧ r.val < ((i 0).val - 7) + 8 ∧ n * 128 ≤ l.val ∧ l.val < n * 128 + 128
    · rw [if_pos (by omega)]
      refine (View.read_writes_cons_unit_of_mem (Val := Elt Ideal) arg3.view X3 _ _ _ (ix3 0 r l) (ix3 0 ⟨r.val - ((i 0).val - 7), by omega⟩ ⟨l.val - n * 128, by omega⟩ : S1x8x128.Idx) (off31_eq i k h) ?_).trans ?_
      · intro a
        fin_cases a
        · rfl
        · show r.val = ((i 0).val - 7) + (r.val - ((i 0).val - 7)); omega
        · show l.val = k.val * 128 + (l.val - n * 128); omega
      · rw [k0_pay1_at]
        refine (rd_stride arg8.view X8 _ _ (off30_eq i k h) _ (ix2 ⟨r.val * 112 + n, by omega⟩ ⟨l.val - n * 128, by omega⟩) ?_).trans (fl_eq _ _ _ _ _ ?_ ?_)
        · intro a
          fin_cases a
          · show r.val * 112 + n = ((i 0).val - 7) * 112 + k.val + 112 * (r.val - ((i 0).val - 7)); have hm := cond1_mod i h; omega
          · show l.val - n * 128 = 0 + 1 * (l.val - n * 128); omega
        · show r.val * 112 + n = r.val * 112 + l.val / 128; omega
        · show l.val - n * 128 = l.val % 128; omega
    · have key : ∀ a : Fin 3, (((ix3 0 r l : S1x26x14336.Idx) a).val < (![0, ((i 0).val - 7), k.val * 128] : Fin 3 → ℕ) a ∨ (![0, ((i 0).val - 7), k.val * 128] : Fin 3 → ℕ) a + S1x8x128.size a ≤ ((ix3 0 r l : S1x26x14336.Idx) a).val) → arg3.view.read (Elt Ideal) (arg3.view.writes (Elt Ideal) X3 ((⟨Rect.unit (s := S1x26x14336) (k0_off31 i k) S1x8x128.size (k0_off31_inb i k h), k0_pay1 (View.readAt (Elt Ideal) arg8.view (⟨k0_off30 i k, S8x128.size, ![112, 1], (k0_off30_inb i k h)⟩ : LoadRect S3584x128) X8)⟩ : View.Piece (Elt Ideal) S1x26x14336 .f32) :: pb_k0_t3 (F := Ideal) 𝒱 c none i arg1 harg1 arg2 harg2 arg3 harg3 arg4 harg4 arg5 harg5 arg6 harg6 arg7 harg7 arg8 harg8 arg9 harg9 arg10 harg10 h X8 n)) (ix3 0 r l) = arg3.view.read (Elt Ideal) (arg3.view.writes (Elt Ideal) X3 (pb_k0_t3 (F := Ideal) 𝒱 c none i arg1 harg1 arg2 harg2 arg3 harg3 arg4 harg4 arg5 harg5 arg6 harg6 arg7 harg7 arg8 harg8 arg9 harg9 arg10 harg10 h X8 n)) (ix3 0 r l) := fun a ha => View.read_writes_cons_unit_of_not_mem (Val := Elt Ideal) arg3.view X3 _ _ _ (ix3 0 r l) (off31_eq i k h) a ha
      have ih' := ih
      by_cases hr : ((i 0).val - 7) ≤ r.val ∧ r.val < ((i 0).val - 7) + 8
      · refine (key 2 ?_).trans (ih'.trans ?_)
        · show l.val < k.val * 128 ∨ k.val * 128 + 128 ≤ l.val; omega
        · by_cases hl : l.val < n * 128
          · rw [if_pos (by omega), if_pos (by omega)]
          · rw [if_neg (by omega), if_neg (by omega)]
      · refine (key 1 ?_).trans (ih'.trans ?_)
        · show r.val < ((i 0).val - 7) ∨ ((i 0).val - 7) + 8 ≤ r.val; omega
        · rw [if_neg (by omega), if_neg (by omega)]

/-- The piece of one trip of the 2-row store loop. -/
theorem t4_pieces (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (X8 : BufTy.Contents (Elt Ideal) arg8.view.ty) (k : Fin k0_t4_loop.trips) :
    (trip_k0_t4 (F := Ideal) 𝒱 c none i arg1 harg1 arg2 harg2 arg3 harg3 arg4 harg4 arg5 harg5 arg6 harg6 arg7 harg7 arg8 harg8 arg9 harg9 arg10 harg10 h X8 k).1 = [⟨Rect.unit (s := S1x26x14336) (k0_off33 k) S1x2x128.size (k0_off33_inb i k h), k0_pay94 (View.readAt (Elt Ideal) arg8.view (⟨k0_off32 k, S8x128.size, ![112, 1], (k0_off32_inb i k h)⟩ : LoadRect S3584x128) X8)⟩] := by
  unfold trip_k0_t4
  rfl

/-- The payload of the 2-row store, at an index. -/
theorem k0_pay94_at (v : FVec Ideal S8x128 .f32) (r : Fin 2) (l : Fin 128) : k0_pay94 (F := Ideal) v (ix3 0 r l) = v (ix2 ⟨r.val, by omega⟩ l) := by
  unfold k0_pay94
  pointwise []

/-- What the 2-row store loop leaves in the table of maxima. -/
theorem t4_read (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (X3 : BufTy.Contents (Elt Ideal) arg3.view.ty) (X8 : BufTy.Contents (Elt Ideal) arg8.view.ty) : ∀ n ≤ k0_t4_loop.trips, ∀ (r : Fin 26) (l : Fin 14336),
    arg3.view.read (Elt Ideal) (arg3.view.writes (Elt Ideal) X3 (pb_k0_t4 (F := Ideal) 𝒱 c none i arg1 harg1 arg2 harg2 arg3 harg3 arg4 harg4 arg5 harg5 arg6 harg6 arg7 harg7 arg8 harg8 arg9 harg9 arg10 harg10 h X8 n)) (ix3 0 r l)
      = if 24 ≤ r.val ∧ r.val < 24 + 2 ∧ l.val < n * 128 then fl (arg8.view.read (Elt Ideal) X8) r.val l.val else arg3.view.read (Elt Ideal) X3 (ix3 0 r l)
  | 0, _, r, l => by rw [if_neg (by omega)]; rfl
  | n + 1, hn, r, l => by
    have ih := t4_read 𝒱 c i arg1 harg1 arg2 harg2 arg3 harg3 arg4 harg4 arg5 harg5 arg6 harg6 arg7 harg7 arg8 harg8 arg9 harg9 arg10 harg10 h X3 X8 n (by omega) r l
    have hk : n < 112 := Nat.lt_of_lt_of_le hn k0_t4_abs.2.1
    have e := pb_k0_t4_succ (F := Ideal) 𝒱 c none i arg1 harg1 arg2 harg2 arg3 harg3 arg4 harg4 arg5 harg5 arg6 harg6 arg7 harg7 arg8 harg8 arg9 harg9 arg10 harg10 h X8 ⟨n, hn⟩
    unfold tripL_k0_t4 at e
    rw [t4_pieces] at e
    dsimp only at e
    rw [e]
    generalize hkk : (⟨n, hn⟩ : Fin k0_t4_loop.trips) = k
    have hkv : k.val = n := by rw [← hkk]
    clear e hkk
    have hi : (i 0).val < 26 := (i 0).isLt
    by_cases hc : 24 ≤ r.val ∧ r.val < 24 + 2 ∧ n * 128 ≤ l.val ∧ l.val < n * 128 + 128
    · rw [if_pos (by omega)]
      refine (View.read_writes_cons_unit_of_mem (Val := Elt Ideal) arg3.view X3 _ _ _ (ix3 0 r l) (ix3 0 ⟨r.val - 24, by omega⟩ ⟨l.val - n * 128, by omega⟩ : S1x2x128.Idx) (off33_eq k) ?_).trans ?_
      · intro a
        fin_cases a
        · rfl
        · show r.val = 24 + (r.val - 24); omega
        · show l.val = k.val * 128 + (l.val - n * 128); omega
      · rw [k0_pay94_at]
        refine (rd_stride arg8.view X8 _ _ (off32_eq k) _ (ix2 ⟨r.val * 112 + n, by omega⟩ ⟨l.val - n * 128, by omega⟩) ?_).trans (fl_eq _ _ _ _ _ ?_ ?_)
        · intro a
          fin_cases a
          · show r.val * 112 + n = 24 * 112 + k.val + 112 * (r.val - 24); skip; omega
          · show l.val - n * 128 = 0 + 1 * (l.val - n * 128); omega
        · show r.val * 112 + n = r.val * 112 + l.val / 128; omega
        · show l.val - n * 128 = l.val % 128; omega
    · have key : ∀ a : Fin 3, (((ix3 0 r l : S1x26x14336.Idx) a).val < (![0, 24, k.val * 128] : Fin 3 → ℕ) a ∨ (![0, 24, k.val * 128] : Fin 3 → ℕ) a + S1x2x128.size a ≤ ((ix3 0 r l : S1x26x14336.Idx) a).val) → arg3.view.read (Elt Ideal) (arg3.view.writes (Elt Ideal) X3 ((⟨Rect.unit (s := S1x26x14336) (k0_off33 k) S1x2x128.size (k0_off33_inb i k h), k0_pay94 (View.readAt (Elt Ideal) arg8.view (⟨k0_off32 k, S8x128.size, ![112, 1], (k0_off32_inb i k h)⟩ : LoadRect S3584x128) X8)⟩ : View.Piece (Elt Ideal) S1x26x14336 .f32) :: pb_k0_t4 (F := Ideal) 𝒱 c none i arg1 harg1 arg2 harg2 arg3 harg3 arg4 harg4 arg5 harg5 arg6 harg6 arg7 harg7 arg8 harg8 arg9 harg9 arg10 harg10 h X8 n)) (ix3 0 r l) = arg3.view.read (Elt Ideal) (arg3.view.writes (Elt Ideal) X3 (pb_k0_t4 (F := Ideal) 𝒱 c none i arg1 harg1 arg2 harg2 arg3 harg3 arg4 harg4 arg5 harg5 arg6 harg6 arg7 harg7 arg8 harg8 arg9 harg9 arg10 harg10 h X8 n)) (ix3 0 r l) := fun a ha => View.read_writes_cons_unit_of_not_mem (Val := Elt Ideal) arg3.view X3 _ _ _ (ix3 0 r l) (off33_eq k) a ha
      have ih' := ih
      by_cases hr : 24 ≤ r.val ∧ r.val < 24 + 2
      · refine (key 2 ?_).trans (ih'.trans ?_)
        · show l.val < k.val * 128 ∨ k.val * 128 + 128 ≤ l.val; omega
        · by_cases hl : l.val < n * 128
          · rw [if_pos (by omega), if_pos (by omega)]
          · rw [if_neg (by omega), if_neg (by omega)]
      · refine (key 1 ?_).trans (ih'.trans ?_)
        · show r.val < 24 ∨ 24 + 2 ≤ r.val; omega
        · rw [if_neg (by omega), if_neg (by omega)]

end Cert.Proof.KernelIdeal

end
-- ==== Proof.V11.lean ====
module

public import proofs.«01_k».proof.Proof.KernelIdealBody
public import proofs.«01_k».proof.Proof.Gen.KernelIdeal.Loops
public import proofs.«01_k».proof.Proof.Gen.KernelIdeal
public import proofs.«01_k».proof.Proof.V10
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The first store condition is the last step of a group of eight. -/
theorem cond1_iff (i : grid0.Coords) : k0_cond1 i = 1#1 ↔ (i 0).val % 8 = 7 := by
  unfold k0_cond1
  dsimp only
  generalize i 0 = b
  revert b
  decide

/-- The second store condition is the last grid step. -/
theorem cond2_iff (i : grid0.Coords) : k0_cond2 i = 1#1 ↔ (i 0).val = 25 := by
  unfold k0_cond2
  dsimp only
  generalize i 0 = b
  revert b
  decide

/-- What one run of the body leaves in the table of maxima. -/
theorem res_abs (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (C2 : BufTy.Contents (Elt Ideal) arg2.view.ty) (C3 : BufTy.Contents (Elt Ideal) arg3.view.ty) (C4 : BufTy.Contents (Elt Ideal) arg4.view.ty) (C5 : BufTy.Contents (Elt Ideal) arg5.view.ty) (C6 : BufTy.Contents (Elt Ideal) arg6.view.ty) (C7 : BufTy.Contents (Elt Ideal) arg7.view.ty) (C8 : BufTy.Contents (Elt Ideal) arg8.view.ty) (C9 : BufTy.Contents (Elt Ideal) arg9.view.ty) (C10 : BufTy.Contents (Elt Ideal) arg10.view.ty)
    (hres : Res (F := Ideal) 𝒱 c i arg1 harg1 arg2 harg2 arg3 harg3 arg4 harg4 arg5 harg5 arg6 harg6 arg7 harg7 arg8 harg8 arg9 harg9 arg10 harg10 X1 X2 X3 X4 X5 X6 X7 X8 X9 X10 C2 C3 C4 C5 C6 C7 C8 C9 C10) (r : Fin 26) (l : Fin 14336) :
    arg3.view.read (Elt Ideal) C3 (ix3 0 r l)
      = if ((i 0).val % 8 = 7 ∧ (i 0).val - 7 ≤ r.val ∧ r.val ≤ (i 0).val) ∨ ((i 0).val = 25 ∧ 24 ≤ r.val) then fl (arg8.view.read (Elt Ideal) C8) r.val l.val else arg3.view.read (Elt Ideal) X3 (ix3 0 r l) := by
  have t3 : Scf.trips 0#32 (Scalar.addi 0#32 112#32) 1#32 = 112 := by decide
  have hl := l.isLt
  have hr := r.isLt
  rcases hres with ⟨h1, h2, -, e3, -, -, -, -, e8, -, -⟩ | ⟨h1, h2, -, e3, -, -, -, -, e8, -, -⟩ | ⟨h1, h2, -, e3, -, -, -, -, e8, -, -⟩
  · rw [cond1_iff] at h1
    rw [cond2_iff] at h2
    rw [e3, if_neg (by omega)]
  · have h1' := h1
    rw [cond1_iff] at h1'
    rw [cond2_iff] at h2
    unfold runB at e3 e8
    dsimp only at e3 e8
    rw [e3, e8]
    refine (t3_read 𝒱 c i arg1 harg1 arg2 harg2 arg3 harg3 arg4 harg4 arg5 harg5 arg6 harg6 arg7 harg7 arg8 harg8 arg9 harg9 arg10 harg10 h1 X3 _ _ (by decide) r l).trans ?_
    have e : Scf.trips 0#32 (Scalar.addi 0#32 112#32) 1#32 = 112 := by decide
    have hcc : ((i 0).val - 7 ≤ r.val ∧ r.val < (i 0).val - 7 + 8 ∧ l.val < 112 * 128) ↔ (((i 0).val % 8 = 7 ∧ (i 0).val - 7 ≤ r.val ∧ r.val ≤ (i 0).val) ∨ ((i 0).val = 25 ∧ 24 ≤ r.val)) := by omega
    exact if_congr hcc rfl rfl
  · have h2' := h2
    rw [cond1_iff] at h1
    rw [cond2_iff] at h2'
    unfold runC at e3 e8
    dsimp only at e3 e8
    rw [e3, e8]
    refine (t4_read 𝒱 c i arg1 harg1 arg2 harg2 arg3 harg3 arg4 harg4 arg5 harg5 arg6 harg6 arg7 harg7 arg8 harg8 arg9 harg9 arg10 harg10 h2 X3 _ _ (by decide) r l).trans ?_
    have hcc : (24 ≤ r.val ∧ r.val < 24 + 2 ∧ l.val < 112 * 128) ↔ (((i 0).val % 8 = 7 ∧ (i 0).val - 7 ≤ r.val ∧ r.val ≤ (i 0).val) ∨ ((i 0).val = 25 ∧ 24 ≤ r.val)) := by omega
    exact if_congr hcc rfl rfl

end Cert.Proof.KernelIdeal

end
-- ==== Proof.RefTail.lean ====
module

public import proofs.«01_k».proof.Proof.Gen.ReferenceIdeal.Run
public import proofs.«01_k».proof.Proof.Gen.ReferenceIdeal.Read
public import proofs.«01_k».proof.Proof.RefRead
public import Idealize.ShloMosaic.Lib.Pointwise
public import Idealize.ShloMosaic.Lib.Tactic

@[expose] public section

set_option maxRecDepth 16384
set_option maxHeartbeats 100000

noncomputable section

namespace Cert.Proof.ReferenceIdeal

open Cert.ReferenceIdeal.Read Cert.Proof.KernelIdeal
open Cert.ReferenceIdeal Cert.ReferenceIdeal.Gen
open Idealize.ShloMosaic Idealize.ShloMosaic.TcCoe Idealize.ShloMosaic.Tactic
open Idealize.SL Idealize.SL.Sem

/-- The mean of the maxima. -/
@[irreducible] def offV (g : ℕ → ℕ → EReal) : EReal := Ideal.div (∑ r ∈ Finset.range 2912, ∑ l ∈ Finset.range 128, g r l) (Ideal.ofBits .f32 0x48B60000#32)

/-- A maximum less the mean, by its place in the second quantisation's blocks. -/
@[irreducible] def dv (g : ℕ → ℕ → EReal) (m j : ℕ) : EReal := FloatOps.subf (F := Ideal) (φ := .f32) (g (2 * m + j / 128) (j % 128)) (offV g)

/-- The greatest magnitude of a block of the second quantisation. -/
@[irreducible] def rmV (g : ℕ → ℕ → EReal) (m : ℕ) : EReal := (Finset.range 256).sup fun j => FloatOps.absf (F := Ideal) (φ := .f32) (dv g m j)

/-- The scale made of a block's greatest magnitude. -/
@[irreducible] def scV (a : EReal) : EReal := Scalar.select (FloatOps.cmpf (F := Ideal) (φ := .f32) .oeq a (Ideal.ofBits .f32 0#32)) (Ideal.ofBits .f32 0x3F800000#32) (FloatOps.divf (F := Ideal) (φ := .f32) a (Ideal.ofBits .f32 0x42FE0000#32))

/-- The scale of a block of the second quantisation. -/
def s2V (g : ℕ → ℕ → EReal) (m : ℕ) : EReal := scV (rmV g m)

/-- The code made of a centred maximum and a scale. -/
@[irreducible] def qcV (d s : EReal) : BitVec 32 := FloatOps.fptosi (F := Ideal) (φ := .f32) 32 (FloatOps.minimumf (F := Ideal) (φ := .f32) (FloatOps.sitofp (F := Ideal) .f32 127#32) (FloatOps.maximumf (F := Ideal) (φ := .f32) (FloatOps.sitofp (F := Ideal) .f32 4294967169#32) (FloatOps.roundeven (F := Ideal) (φ := .f32) (FloatOps.divf (F := Ideal) (φ := .f32) d s))))

/-- The code of the second quantisation. -/
def qV (g : ℕ → ℕ → EReal) (m j : ℕ) : BitVec 32 := qcV (dv g m j) (s2V g m)

/-- The maxima of the weights, in rows of 128. -/
@[irreducible] def gx (x : S1x1664x14336.Idx → EReal) (r l : ℕ) : EReal := cm (blk x ⟨r / 112 % 26, Nat.mod_lt _ (by decide)⟩) (r % 112 * 128 + l)

/-- The maxima at a row of 128 and a lane. -/
theorem gx_eq (x : S1x1664x14336.Idx → EReal) (b : Fin 26) (c r l : ℕ) (hr : r = b.val * 112 + c / 128) (hl : l = c % 128) (hc : c < 14336) : gx x r l = cm (blk x b) c := by
  have hb := b.isLt
  unfold gx
  have e1 : (⟨r / 112 % 26, Nat.mod_lt _ (by decide)⟩ : Fin 26) = b := by apply Fin.ext; show r / 112 % 26 = b.val; omega
  have e2 : r % 112 * 128 + l = c := by omega
  rw [e1, e2]

/-- The sum of the maxima, over rows of 128. -/
theorem sum_at (x : S1x1664x14336.Idx → EReal) : ∑ j : S1x26x14336.Idx, val_main_v10 (F := Ideal) x j = ∑ r ∈ Finset.range 2912, ∑ l ∈ Finset.range 128, gx x r l := by
  rw [← Finset.sum_product' (Finset.range 2912) (Finset.range 128) (gx x)]
  refine Finset.sum_nbij' (fun j => ((j 1).val * 112 + (j 2).val / 128, (j 2).val % 128)) (fun p => ix3 0 ⟨p.1 / 112 % 26, Nat.mod_lt _ (by decide)⟩ ⟨(p.1 % 112 * 128 + p.2) % 14336, Nat.mod_lt _ (by decide)⟩) ?_ ?_ ?_ ?_ ?_
  · intro j _
    have h1 : (j 1).val < 26 := (j 1).isLt
    have h2 : (j 2).val < 14336 := (j 2).isLt
    rw [Finset.mem_product, Finset.mem_range, Finset.mem_range]
    constructor
    · show (j 1).val * 112 + (j 2).val / 128 < 2912; omega
    · show (j 2).val % 128 < 128; omega
  · intro p _; exact Finset.mem_univ _
  · intro j _
    have h0 : (j 0).val < 1 := (j 0).isLt
    have h1 : (j 1).val < 26 := (j 1).isLt
    have h2 : (j 2).val < 14336 := (j 2).isLt
    funext a
    fin_cases a
    · apply Fin.ext; show 0 = (j 0).val; omega
    · apply Fin.ext; show ((j 1).val * 112 + (j 2).val / 128) / 112 % 26 = (j 1).val; omega
    · apply Fin.ext; show (((j 1).val * 112 + (j 2).val / 128) % 112 * 128 + (j 2).val % 128) % 14336 = (j 2).val; omega
  · rintro ⟨p, q⟩ hp
    rw [Finset.mem_product, Finset.mem_range, Finset.mem_range] at hp
    obtain ⟨hp1, hp2⟩ := hp
    have hp1' : p < 2912 := hp1
    have hp2' : q < 128 := hp2
    show (p / 112 % 26 * 112 + (p % 112 * 128 + q) % 14336 / 128, (p % 112 * 128 + q) % 14336 % 128) = (p, q)
    congr 1 <;> omega
  · intro j _
    have h2 : (j 2).val < 14336 := (j 2).isLt
    have e : j = ix3 0 (j 1) (j 2) := by
      funext a
      fin_cases a
      · apply Fin.ext; have h0 : (j 0).val < 1 := (j 0).isLt; show (j 0).val = 0; omega
      · rfl
      · rfl
    exact (congrArg (val_main_v10 (F := Ideal) x) e).trans ((amax_at x (j 1) (j 2)).trans (gx_eq x (j 1) (j 2).val _ _ rfl rfl h2).symm)

/-- The reference's mean. -/
theorem off_at (x : S1x1664x14336.Idx → EReal) (i : S_.Idx) : val_main_v86 (F := Ideal) x i = offV (gx x) := by
  rw [val_main_v86_apply, val_main_v85_apply, sum_at, val_main_cst_40_apply, val_main_cst_41_apply]
  have hz : (FloatOps.ofBits (F := Ideal) .f32 0x00000000#32 : EReal) = 0 := by show Ideal.ofBits .f32 0#32 = 0; simp [Ideal.ofBits, Ideal.ieee]
  rw [hz, zero_add]
  unfold offV
  rfl

/-- The reference's centred maxima. -/
theorem dv_at (x : S1x1664x14336.Idx → EReal) (m : Fin 1456) (j : Fin 256) : val_main_v89 (F := Ideal) x (ix2 m j) = dv (gx x) m.val j.val := by
  have hm := m.isLt
  have hj := j.isLt
  rw [val_main_v89_apply, val_main_v88_apply, val_main_v87_apply, off_at]
  have e : idx_main_v89 (ix2 m j) = ix3 0 ⟨(m.val * 256 + j.val) / 14336 % 26, Nat.mod_lt _ (by decide)⟩ ⟨(m.val * 256 + j.val) % 14336, Nat.mod_lt _ (by decide)⟩ := by
    funext a; fin_cases a <;> rfl
  rw [e, amax_at]
  unfold dv
  rw [gx_eq x ⟨(m.val * 256 + j.val) / 14336 % 26, Nat.mod_lt _ (by decide)⟩ ((m.val * 256 + j.val) % 14336) (2 * m.val + j.val / 128) (j.val % 128) (by show _ = (m.val * 256 + j.val) / 14336 % 26 * 112 + _; omega) (by omega) (Nat.mod_lt _ (by decide))]

/-- The reduction's maximum over an axis of 256 is the supremum of the entries. -/
theorem rm_gen (y : S1456x256.Idx → EReal) (d : ℕ → EReal) (m : Fin 1456) (h : ∀ k : Fin 256, y (ix2 m k) = d k.val) :
    Host.reduce (FloatOps.maximumf (F := Ideal) (φ := .f32)) y (val_main_cst_42 (F := Ideal)) reducesTo_S1456x256_S1456_d1 h_S_ (ix1 m) = (Finset.range 256).sup d := by
  have hR : S1456x256.Reduces [1] S1456 := by decide
  have hl : ∀ k : Fin 256, hR.lift (ix1 m) k = ix2 m k := by
    intro k
    funext a
    fin_cases a <;> rfl
  rw [Host.reduce_eq_fold_single (f := FloatOps.maximumf (F := Ideal) (φ := .f32)) (h := hR)]
  have hbot : Ideal.ofBits .f32 0xFF800000#32 = ⊥ := by simp [Ideal.ofBits, Ideal.ieee]
  have e : ∀ k : Fin 256, (y ∘ hR.lift (ix1 m)) k = d k.val := fun k => (congrArg y (hl k)).trans (h k)
  generalize y ∘ hR.lift (ix1 m) = z at e ⊢
  show Finset.univ.fold max (Ideal.ofBits .f32 0xFF800000#32) z = _
  rw [hbot]
  apply le_antisymm
  · rw [Finset.fold_max_le]
    exact ⟨bot_le, fun k _ => (le_of_eq (e k)).trans (Finset.le_sup (f := d) (Finset.mem_range.mpr k.isLt))⟩
  · refine Finset.sup_le fun r hr => ?_
    rw [Finset.le_fold_max]
    exact Or.inr ⟨(⟨r, Finset.mem_range.mp hr⟩ : Fin 256), Finset.mem_univ _, le_of_eq (e ⟨r, Finset.mem_range.mp hr⟩).symm⟩

/-- The reference's block maxima. -/
theorem rm_at (x : S1x1664x14336.Idx → EReal) (m : Fin 1456) : val_main_v91 (F := Ideal) x (ix1 m) = rmV (gx x) m.val := by
  unfold val_main_v91 rmV
  refine rm_gen _ (fun j => FloatOps.absf (F := Ideal) (φ := .f32) (dv (gx x) m.val j)) m (fun k => ?_)
  rw [val_main_v90_apply, dv_at]
  rfl

/-- The reference's scales. -/
theorem s2_at (x : S1x1664x14336.Idx → EReal) (m : Fin 1456) : val_main_v96 (F := Ideal) x (ix1 m) = s2V (gx x) m.val := by
  rw [val_main_v96_apply, val_main_v93_apply, val_main_v95_apply, rm_at, val_main_v92_apply, val_main_v94_apply, val_main_call23_v1_apply]
  unfold s2V scV
  rfl

/-- The reference's second codes. -/
theorem q_at (x : S1x1664x14336.Idx → EReal) (m : Fin 1456) (j : Fin 256) : val_main_v103 (F := Ideal) x (ix2 m j) = (qV (gx x) m.val j.val).setWidth 8 := by
  have e1 : idx_main_v97 (idx_main_v98 (ix2 m j)) = ix1 m := by
    funext a; fin_cases a; rfl
  rw [val_main_v103_apply, val_main_v102_apply, val_main_v101_apply, val_main_call25_v2_apply, val_main_v100_apply, val_main_v99_apply, dv_at, val_main_v98_apply, val_main_v97_apply, e1, s2_at, val_main_call25_v4_apply, val_main_call25_v1_apply]
  unfold qV qcV
  rfl

/-- The reference's scales, as one row. -/
theorem scales_at (x : S1x1664x14336.Idx → EReal) (m : Fin 1456) : val_main_v104 (F := Ideal) x (ix2 0 m) = s2V (gx x) m.val := by
  have e1 : idx_main_v104 (ix2 0 m) = ix1 m := by
    funext a; fin_cases a; apply Fin.ext; show 0 * 1456 + m.val = m.val; omega
  rw [val_main_v104_apply, e1, s2_at]

/-- The reference's mean, as one cell. -/
theorem offset_at (x : S1x1664x14336.Idx → EReal) (i : S1x1.Idx) : val_main_v105 (F := Ideal) x i = offV (gx x) := by
  unfold val_main_v105
  exact off_at x _

end Cert.Proof.ReferenceIdeal

end
-- ==== Proof.V12.lean ====
module

public import proofs.«01_k».proof.Proof.KernelIdealBody
public import proofs.«01_k».proof.Proof.Gen.KernelIdeal.Loops
public import proofs.«01_k».proof.Proof.Gen.KernelIdeal
public import proofs.«01_k».proof.Proof.V11
public import proofs.«01_k».proof.Proof.RefTail
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (offV dv rmV scV s2V qcV qV gx)

/-- The offsets of the loads in the summing loop. -/
theorem off34_eq (k : Fin k0_t5_loop.trips) (s : ℕ) (hs : s < 4) : k0_off34 k (BitVec.ofNat 32 s) = ![(k.val * 4 + s) * 8, 0] := by
  have hk : k.val < 91 := Nat.lt_of_lt_of_le k.isLt k0_t5_abs.2.1
  unfold k0_off34; dsimp only; congr 1
  simp [Scalar.muli, Scalar.addi, Scalar.subi, IntOp.subi, IntOp.muli, IntOp.addi, Scf.iv, Scalar.indexCast]; omega

/-- One trip of the summing loop. -/
theorem t5_trip (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (X8 : BufTy.Contents (Elt Ideal) arg8.view.ty) (k : Fin k0_t5_loop.trips) (acc) :
    (trip_k0_t5 (F := Ideal) 𝒱 c none i arg1 harg1 arg2 harg2 arg3 harg3 arg4 harg4 arg5 harg5 arg6 harg6 arg7 harg7 arg8 harg8 arg9 harg9 arg10 harg10 h X8 k).1 acc = (k0_pay96 acc.1 (View.readAt (Elt Ideal) arg8.view (Rect.unit (s := S3584x128) (k0_off34 k 0#32) S8x128.size (k0_off34_inb i k h 0)).toLoadRect X8), k0_pay97 acc.2.1 (View.readAt (Elt Ideal) arg8.view (Rect.unit (s := S3584x128) (k0_off34 k 1#32) S8x128.size (k0_off34_inb i k h 1)).toLoadRect X8), k0_pay98 acc.2.2.1 (View.readAt (Elt Ideal) arg8.view (Rect.unit (s := S3584x128) (k0_off34 k 2#32) S8x128.size (k0_off34_inb i k h 2)).toLoadRect X8), k0_pay99 acc.2.2.2 (View.readAt (Elt Ideal) arg8.view (Rect.unit (s := S3584x128) (k0_off34 k 3#32) S8x128.size (k0_off34_inb i k h 3)).toLoadRect X8)) := by
  unfold trip_k0_t5
  rfl

/-- What the summing loop carries, at an index. -/
theorem t5_sums (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (X8 : BufTy.Contents (Elt Ideal) arg8.view.ty) (g : ℕ → ℕ → EReal)
    (HF : ∀ (r : Fin 3584) (l : Fin 128), r.val < 2912 → arg8.view.read (Elt Ideal) X8 (ix2 r l) = g r.val l.val) : ∀ n ≤ k0_t5_loop.trips, ∀ (r : Fin 8) (l : Fin 128),
    (st_k0_t5 (F := Ideal) 𝒱 c none i arg1 harg1 arg2 harg2 arg3 harg3 arg4 harg4 arg5 harg5 arg6 harg6 arg7 harg7 arg8 harg8 arg9 harg9 arg10 harg10 h X8 (k0_pay95, k0_pay95, k0_pay95, k0_pay95) n).1 (ix2 r l) = ∑ k ∈ Finset.range n, g ((k * 4 + 0) * 8 + r.val) l.val ∧ (st_k0_t5 (F := Ideal) 𝒱 c none i arg1 harg1 arg2 harg2 arg3 harg3 arg4 harg4 arg5 harg5 arg6 harg6 arg7 harg7 arg8 harg8 arg9 harg9 arg10 harg10 h X8 (k0_pay95, k0_pay95, k0_pay95, k0_pay95) n).2.1 (ix2 r l) = ∑ k ∈ Finset.range n, g ((k * 4 + 1) * 8 + r.val) l.val ∧ (st_k0_t5 (F := Ideal) 𝒱 c none i arg1 harg1 arg2 harg2 arg3 harg3 arg4 harg4 arg5 harg5 arg6 harg6 arg7 harg7 arg8 harg8 arg9 harg9 arg10 harg10 h X8 (k0_pay95, k0_pay95, k0_pay95, k0_pay95) n).2.2.1 (ix2 r l) = ∑ k ∈ Finset.range n, g ((k * 4 + 2) * 8 + r.val) l.val ∧ (st_k0_t5 (F := Ideal) 𝒱 c none i arg1 harg1 arg2 harg2 arg3 harg3 arg4 harg4 arg5 harg5 arg6 harg6 arg7 harg7 arg8 harg8 arg9 harg9 arg10 harg10 h X8 (k0_pay95, k0_pay95, k0_pay95, k0_pay95) n).2.2.2 (ix2 r l) = ∑ k ∈ Finset.range n, g ((k * 4 + 3) * 8 + r.val) l.val
  | 0, _, r, l => by
    have hz : (k0_pay95 (F := Ideal)) (ix2 r l) = 0 := by
      unfold k0_pay95
      pointwise []
    exact ⟨hz, hz, hz, hz⟩
  | n + 1, hn, r, l => by
    obtain ⟨i0, i1, i2, i3⟩ := t5_sums 𝒱 c i arg1 harg1 arg2 harg2 arg3 harg3 arg4 harg4 arg5 harg5 arg6 harg6 arg7 harg7 arg8 harg8 arg9 harg9 arg10 harg10 h X8 g HF n (by omega) r l
    have hk : n < 91 := Nat.lt_of_lt_of_le hn k0_t5_abs.2.1
    have e := st_k0_t5_succ (F := Ideal) 𝒱 c none i arg1 harg1 arg2 harg2 arg3 harg3 arg4 harg4 arg5 harg5 arg6 harg6 arg7 harg7 arg8 harg8 arg9 harg9 arg10 harg10 h X8 (k0_pay95, k0_pay95, k0_pay95, k0_pay95) ⟨n, hn⟩
    unfold tripR_k0_t5 at e
    rw [t5_trip] at e
    dsimp only at e
    rw [e]
    have hr := r.isLt
    have hrd : ∀ s, s < 4 → ∀ inb, View.readAt (Elt Ideal) arg8.view (Rect.unit (s := S3584x128) (k0_off34 ⟨n, hn⟩ (BitVec.ofNat 32 s)) S8x128.size inb).toLoadRect X8 (ix2 r l) = g ((n * 4 + s) * 8 + r.val) l.val := by
      intro s hs inb
      refine (rd_unit arg8.view X8 _ (off34_eq ⟨n, hn⟩ s hs) (ix2 r l) (ix2 ⟨(n * 4 + s) * 8 + r.val, by omega⟩ l) ?_).trans (HF _ _ (by show (n * 4 + s) * 8 + r.val < 2912; omega))
      intro a
      fin_cases a <;> simp [ix2]
    refine ⟨?_, ?_, ?_, ?_⟩
    · rw [Finset.sum_range_succ, ← i0, ← hrd 0 (by decide) (k0_off34_inb i ⟨n, hn⟩ h 0)]
      rfl
    · rw [Finset.sum_range_succ, ← i1, ← hrd 1 (by decide) (k0_off34_inb i ⟨n, hn⟩ h 1)]
      rfl
    · rw [Finset.sum_range_succ, ← i2, ← hrd 2 (by decide) (k0_off34_inb i ⟨n, hn⟩ h 2)]
      rfl
    · rw [Finset.sum_range_succ, ← i3, ← hrd 3 (by decide) (k0_off34_inb i ⟨n, hn⟩ h 3)]
      rfl

/-- A sum over rows in the four interleaved groups of the summing loop. -/
theorem sum_groups (h : ℕ → EReal) : ∀ n : ℕ, ∑ q ∈ Finset.range (32 * n), h q
    = ∑ r ∈ Finset.range 8, ((∑ k ∈ Finset.range n, h ((k * 4 + 0) * 8 + r) + ∑ k ∈ Finset.range n, h ((k * 4 + 1) * 8 + r)) + (∑ k ∈ Finset.range n, h ((k * 4 + 2) * 8 + r) + ∑ k ∈ Finset.range n, h ((k * 4 + 3) * 8 + r)))
  | 0 => by simp
  | n + 1 => by
    have ih := sum_groups h n
    have hs : ∀ s r, (n * 4 + s) * 8 + r = 32 * n + (s * 8 + r) := fun s r => by omega
    rw [show 32 * (n + 1) = 32 * n + 32 by omega, Finset.sum_range_add, ih]
    simp only [Finset.sum_range_succ _ n, hs]
    have e : ∀ a b c d a' b' c' d' : EReal, ((a + a') + (b + b')) + ((c + c') + (d + d')) = ((a + b) + (c + d)) + ((a' + b') + (c' + d')) := fun a b c d a' b' c' d' => by abel
    refine Eq.trans ?_ ((Finset.sum_congr rfl fun r _ => e _ _ _ _ _ _ _ _).trans Finset.sum_add_distrib).symm
    congr 1
    simp only [Finset.sum_range_succ, Finset.sum_range_zero]
    norm_num only
    abel

/-- A sum over an index of three axes, the first of one element, as a double sum. -/
theorem sum_ix3 (f : S1x8x128.Idx → EReal) : ∑ x : S1x8x128.Idx, f x = ∑ r : Fin 8, ∑ l : Fin 128, f (ix3 0 r l) := by
  refine (Finset.sum_nbij' (t := (Finset.univ : Finset (Fin 8 × Fin 128))) (g := fun p => f (ix3 0 p.1 p.2)) (fun x => ((x 1 : Fin 8), (x 2 : Fin 128))) (fun p => ix3 0 p.1 p.2) (fun _ _ => Finset.mem_univ _) (fun _ _ => Finset.mem_univ _) (fun x _ => ?_) (fun p _ => rfl) (fun x _ => ?_)).trans (Fintype.sum_prod_type _)
  · obtain ⟨q, l, rfl⟩ := cov3 (a := 8) (b := 128) x; rfl
  · obtain ⟨q, l, rfl⟩ := cov3 (a := 8) (b := 128) x; rfl

/-- The mean the kernel makes of its four partial sums. -/
theorem pay100_eq (a0 a1 a2 a3 : FVec Ideal S8x128 .f32) (g : ℕ → ℕ → EReal)
    (H : ∀ (r : Fin 8) (l : Fin 128), a0 (ix2 r l) = ∑ k ∈ Finset.range 91, g ((k * 4 + 0) * 8 + r.val) l.val ∧ a1 (ix2 r l) = ∑ k ∈ Finset.range 91, g ((k * 4 + 1) * 8 + r.val) l.val ∧ a2 (ix2 r l) = ∑ k ∈ Finset.range 91, g ((k * 4 + 2) * 8 + r.val) l.val ∧ a3 (ix2 r l) = ∑ k ∈ Finset.range 91, g ((k * 4 + 3) * 8 + r.val) l.val) : k0_pay100 (F := Ideal) a0 a1 a2 a3 = offV g := by
  unfold k0_pay100 offV
  dsimp only
  have hsum : ∀ y : S1.Idx, multiReduction (F := Ideal) .add [1, 2] S1 (shapeCast S1x8x128 (addf (addf a0 a1) (addf a2 a3)) shapeCasts_S8x128_S1x8x128) 0x00000000#32 reduces_S1x8x128_S1 (.inl rfl) rfl y = ∑ r ∈ Finset.range 2912, ∑ l ∈ Finset.range 128, g r l := by
    intro y
    refine (Ideal.multiReduction_add_total (s := S1x8x128) (axes := [1, 2]) (t := S1) _ _ _ (by decide) _ _ y).trans ?_
    rw [sum_ix3, show 2912 = 32 * 91 from rfl, sum_groups, Finset.sum_range]
    refine Finset.sum_congr rfl fun r _ => ?_
    rw [Finset.sum_comm (s := Finset.range 91), Finset.sum_comm (s := Finset.range 91), Finset.sum_comm (s := Finset.range 91), Finset.sum_comm (s := Finset.range 91), ← Finset.sum_add_distrib, ← Finset.sum_add_distrib, ← Finset.sum_add_distrib, Finset.sum_range]
    refine Finset.sum_congr rfl fun l _ => ?_
    obtain ⟨h0, h1, h2, h3⟩ := H r l
    rw [← h0, ← h1, ← h2, ← h3]
    pointwise []
  show Ideal.div _ _ = _
  congr 1
  exact hsum _

end Cert.Proof.KernelIdeal

end
-- ==== Proof.V13.lean ====
module

public import proofs.«01_k».proof.Proof.KernelIdealBody
public import proofs.«01_k».proof.Proof.Gen.KernelIdeal.Loops
public import proofs.«01_k».proof.Proof.Gen.KernelIdeal
public import proofs.«01_k».proof.Proof.V12
public import Idealize.ShloMosaic.Lib.Tactic
public import Idealize.ShloMosaic.Lib.WritesUnit
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (offV dv rmV scV s2V qcV qV gx)

/-- The maximum of a row of a vector, whose elements are known. -/
theorem row_max (v : FVec Ideal S8x128 .f32) (r : Fin 8) (z : ℕ → EReal) (h : ∀ l : Fin 128, v (ix2 r l) = z l.val) :
    multiReduction (F := Ideal) .maximumf [1] S8 v 0xFF800000#32 reduces_S8x128_S8 (.inl rfl) rfl (ix1 r) = (Finset.range 128).sup z := by
  refine (Ideal.multiReduction_maximumf_single (s := S8x128) (t := S8) _ _ _ _ _ _).trans ?_
  have hz : ∀ k : Fin 128, (v ∘ (reduces_S8x128_S8.lift (ix1 r))) k = z k.val := fun k => by
    refine Eq.trans ?_ (h k)
    show v _ = v _
    congr 1
    funext a
    fin_cases a <;> rfl
  have hb : (FloatOps.ofBits (F := Ideal) .f32 0xFF800000#32 : EReal) = ⊥ := by
    show Ideal.ofBits .f32 0xFF800000#32 = ⊥
    simp [Ideal.ofBits, Ideal.ieee]
  rw [hb]
  generalize hw : (v ∘ (reduces_S8x128_S8.lift (ix1 r))) = w
  rw [hw] at hz
  clear hw hb
  change Finset.univ.fold max ⊥ w = _
  apply le_antisymm
  · rw [Finset.fold_max_le]
    exact ⟨bot_le, fun k _ => (hz k).le.trans (Finset.le_sup (f := z) (Finset.mem_range.2 k.isLt))⟩
  · refine Finset.sup_le fun j hj => ?_
    rw [Finset.le_fold_max]
    exact .inr ⟨⟨j, Finset.mem_range.1 hj⟩, Finset.mem_univ _, (hz ⟨j, Finset.mem_range.1 hj⟩).ge⟩

/-- A supremum over 256 columns as one over 128 pairs. -/
theorem sup_pairs (z : ℕ → EReal) : ((Finset.range 128).sup fun l => max (z l) (z (128 + l))) = (Finset.range 256).sup z := by
  apply le_antisymm
  · refine Finset.sup_le fun j hj => max_le ?_ ?_
    · exact Finset.le_sup (f := z) (Finset.mem_range.2 (by have := Finset.mem_range.1 hj; omega))
    · exact Finset.le_sup (f := z) (Finset.mem_range.2 (by have := Finset.mem_range.1 hj; omega))
  · refine Finset.sup_le fun j hj => ?_
    have hj := Finset.mem_range.1 hj
    by_cases h : j < 128
    · exact (le_max_left _ _).trans (Finset.le_sup (f := fun l => max (z l) (z (128 + l))) (Finset.mem_range.2 h))
    · have e : j = 128 + (j - 128) := by omega
      rw [e]
      exact (le_max_right (z (j - 128)) _).trans (Finset.le_sup (f := fun l => max (z l) (z (128 + l))) (b := j - 128) (Finset.mem_range.2 (by omega)))

/-- The scale vector at an index, from the maximum of the row. -/
theorem scale_at (o : EReal) (ve vo : FVec Ideal S8x128 .f32) (r : Fin 8) (l : Fin 128) :
    k0_pay68 (F := Ideal) o ve vo (ix2 r l) = scV (multiReduction (F := Ideal) .maximumf [1] S8 (maximumf (absf (k0_pay66 (F := Ideal) o ve)) (absf (k0_pay67 (F := Ideal) o vo))) 0xFF800000#32 reduces_S8x128_S8 (.inl rfl) rfl (ix1 r)) := by
  unfold k0_pay68 scV
  dsimp only
  generalize multiReduction (F := Ideal) .maximumf [1] S8 (maximumf (absf (k0_pay66 (F := Ideal) o ve)) (absf (k0_pay67 (F := Ideal) o vo))) 0xFF800000#32 reduces_S8x128_S8 (.inl rfl) rfl = M
  pointwise []

/-- The kernel's scale of a row is the reference's. -/
theorem scale_row (g : ℕ → ℕ → EReal) (o : EReal) (ho : o = offV g) (ve vo : FVec Ideal S8x128 .f32) (b : ℕ)
    (he : ∀ (r : Fin 8) (l : Fin 128), ve (ix2 r l) = g (2 * (b + r.val)) l.val) (hO : ∀ (r : Fin 8) (l : Fin 128), vo (ix2 r l) = g (2 * (b + r.val) + 1) l.val) (r : Fin 8) (l : Fin 128) :
    k0_pay68 (F := Ideal) o ve vo (ix2 r l) = s2V g (b + r.val) := by
  rw [scale_at]
  unfold s2V
  congr 1
  refine (row_max _ r (fun l => max (FloatOps.absf (F := Ideal) (φ := .f32) (dv g (b + r.val) l)) (FloatOps.absf (F := Ideal) (φ := .f32) (dv g (b + r.val) (128 + l)))) fun l => ?_).trans ((sup_pairs fun j => FloatOps.absf (F := Ideal) (φ := .f32) (dv g (b + r.val) j)).trans ?_)
  · have hl := l.isLt
    show max (FloatOps.absf (F := Ideal) (φ := .f32) (FloatOps.subf (F := Ideal) (φ := .f32) (ve (ix2 r l)) o)) (FloatOps.absf (F := Ideal) (φ := .f32) (FloatOps.subf (F := Ideal) (φ := .f32) (vo (ix2 r l)) o)) = _
    unfold dv
    rw [he, hO, ho, show l.val / 128 = 0 by omega, show l.val % 128 = l.val by omega, show (128 + l.val) / 128 = 1 by omega, show (128 + l.val) % 128 = l.val by omega]
    rfl
  · unfold rmV
    rfl

/-- The kernel's codes of a row's first half are the reference's. -/
theorem code_even (g : ℕ → ℕ → EReal) (o : EReal) (ho : o = offV g) (ve vo : FVec Ideal S8x128 .f32) (b : ℕ)
    (he : ∀ (r : Fin 8) (l : Fin 128), ve (ix2 r l) = g (2 * (b + r.val)) l.val) (hO : ∀ (r : Fin 8) (l : Fin 128), vo (ix2 r l) = g (2 * (b + r.val) + 1) l.val) (r : Fin 8) (l : Fin 128) :
    k0_pay70 (F := Ideal) o ve vo (ix2 r l) = qV g (b + r.val) l.val := by
  have hs := scale_row g o ho ve vo b he hO r l
  have hl := l.isLt
  have hd : k0_pay66 (F := Ideal) o ve (ix2 r l) = dv g (b + r.val) l.val := by
    show FloatOps.subf (F := Ideal) (φ := .f32) (ve (ix2 r l)) o = _
    unfold dv
    rw [he, ho, show l.val / 128 = 0 by omega, show l.val % 128 = l.val by omega]
    rfl
  unfold k0_pay70 qV qcV
  rw [← hs, ← hd]
  rfl

/-- The kernel's codes of a row's second half are the reference's. -/
theorem code_odd (g : ℕ → ℕ → EReal) (o : EReal) (ho : o = offV g) (ve vo : FVec Ideal S8x128 .f32) (b : ℕ)
    (he : ∀ (r : Fin 8) (l : Fin 128), ve (ix2 r l) = g (2 * (b + r.val)) l.val) (hO : ∀ (r : Fin 8) (l : Fin 128), vo (ix2 r l) = g (2 * (b + r.val) + 1) l.val) (r : Fin 8) (l : Fin 128) :
    k0_pay72 (F := Ideal) (k0_pay71 (F := Ideal) o ve vo) 4294967169#32 127#32 (ix2 r l) = qV g (b + r.val) (128 + l.val) := by
  have hs := scale_row g o ho ve vo b he hO r l
  have hl := l.isLt
  have hd : k0_pay67 (F := Ideal) o vo (ix2 r l) = dv g (b + r.val) (128 + l.val) := by
    show FloatOps.subf (F := Ideal) (φ := .f32) (vo (ix2 r l)) o = _
    unfold dv
    rw [hO, ho, show (128 + l.val) / 128 = 1 by omega, show (128 + l.val) % 128 = l.val by omega]
  unfold k0_pay72 k0_pay71 qV qcV
  rw [← hs, ← hd]
  rfl

end Cert.Proof.KernelIdeal

end
-- ==== Proof.V14.lean ====
module

public import proofs.«01_k».proof.Proof.KernelIdealBody
public import proofs.«01_k».proof.Proof.Gen.KernelIdeal.Loops
public import proofs.«01_k».proof.Proof.Gen.KernelIdeal
public import proofs.«01_k».proof.Proof.V12
public import Idealize.ShloMosaic.Lib.Tactic
public import Idealize.ShloMosaic.Lib.WritesUnit
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (offV dv rmV scV s2V qcV qV gx)

/-- What the last run of the body leaves as the offset. -/
theorem res_off (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (C2 : BufTy.Contents (Elt Ideal) arg2.view.ty) (C3 : BufTy.Contents (Elt Ideal) arg3.view.ty) (C4 : BufTy.Contents (Elt Ideal) arg4.view.ty) (C5 : BufTy.Contents (Elt Ideal) arg5.view.ty) (C6 : BufTy.Contents (Elt Ideal) arg6.view.ty) (C7 : BufTy.Contents (Elt Ideal) arg7.view.ty) (C8 : BufTy.Contents (Elt Ideal) arg8.view.ty) (C9 : BufTy.Contents (Elt Ideal) arg9.view.ty) (C10 : BufTy.Contents (Elt Ideal) arg10.view.ty)
    (hres : Res (F := Ideal) 𝒱 c i arg1 harg1 arg2 harg2 arg3 harg3 arg4 harg4 arg5 harg5 arg6 harg6 arg7 harg7 arg8 harg8 arg9 harg9 arg10 harg10 X1 X2 X3 X4 X5 X6 X7 X8 X9 X10 C2 C3 C4 C5 C6 C7 C8 C9 C10) (hi : (i 0).val = 25) (g : ℕ → ℕ → EReal)
    (HF : ∀ (r : Fin 3584) (l : Fin 128), r.val < 2912 → arg8.view.read (Elt Ideal) C8 (ix2 r l) = g r.val l.val) :
    arg6.view.read (Elt Ideal) C6 = fun _ => offV g := by
  rcases hres with ⟨h1, h2, -⟩ | ⟨h1, h2, -⟩ | ⟨h1, h2, -, -, -, -, e6, -, e8, -, -⟩
  · exact absurd ((cond2_iff i).2 hi) h2
  · exact absurd ((cond2_iff i).2 hi) h2
  · unfold runC at e6 e8
    dsimp only at e6 e8
    rw [e8] at HF
    rw [e6]
    unfold runC.sl.H6_1
    funext x
    refine (View.read_writes_cons_unit_of_mem (Val := Elt Ideal) arg6.view _ inb_S1x1_S1x1_0_0 _ [] x x rfl ?_).trans ?_
    · intro a
      fin_cases a <;> simp
    exact pay100_eq _ _ _ _ g fun r l => t5_sums 𝒱 c i arg1 harg1 arg2 harg2 arg3 harg3 arg4 harg4 arg5 harg5 arg6 harg6 arg7 harg7 arg8 harg8 arg9 harg9 arg10 harg10 h2 _ g HF 91 (by decide) r l

end Cert.Proof.KernelIdeal

end
-- ==== Proof.V15.lean ====
module

public import proofs.«01_k».proof.Proof.KernelIdealBody
public import proofs.«01_k».proof.Proof.Gen.KernelIdeal.Loops
public import proofs.«01_k».proof.Proof.Gen.KernelIdeal
public import proofs.«01_k».proof.Proof.V11
public import proofs.«01_k».proof.Proof.RefTail
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (gx blk)

/-- Two nibbles packed: the kernel's byte is the reference's byte. -/
theorem byte_nib : ∀ a b : Fin 16, ((BitVec.ofNat 8 a.val <<< 4) ||| BitVec.ofNat 8 b.val)
    = (IntOp.ori (IntOp.shli .host (BitVec.ofNat 32 a.val) 4#32) (BitVec.ofNat 32 b.val)).setWidth 8 := by decide

/-- The absolute value of an element of a block is at most the maximum of its column. -/
theorem ab_le_cm (x : S1x64x14336.Idx → EReal) (c r : ℕ) (hr : r < 64) : ab (at1 x r c) ≤ cm x c := by
  unfold cm
  exact Finset.le_sup (f := fun r => ab (at1 x r c)) (Finset.mem_range.2 hr)

/-- The kernel's packed byte is the reference's. -/
theorem byte_eq (x : S1x1664x14336.Idx → EReal) (b : Fin 26) (r : Fin 32) (c : Fin 14336) (q : Fin 832) (hq : q.val = b.val * 32 + r.val) :
    packG (blk x b) (ix3 0 r c) = Cert.ReferenceIdeal.Read.val_main_v84 (F := Ideal) x (ix3 0 q c) := by
  rw [Cert.Proof.ReferenceIdeal.packed_at x b r c q hq]
  show pk (zc (blk x b) c.val (2 * r.val)) (zc (blk x b) c.val (2 * r.val + 1)) = _
  have hr := r.isLt
  obtain ⟨k0, h0, e0, z0⟩ := Cert.Proof.Code.code_eq (at1 (blk x b) (2 * r.val) c.val) (cm (blk x b) c.val) (ab_le_cm _ _ _ (by omega))
  obtain ⟨k1, h1, e1, z1⟩ := Cert.Proof.Code.code_eq (at1 (blk x b) (2 * r.val + 1) c.val) (cm (blk x b) c.val) (ab_le_cm _ _ _ (by omega))
  rw [e0, e1]
  unfold pk zc
  rw [z0, z1]
  exact byte_nib ⟨k0, by omega⟩ ⟨k1, by omega⟩

end Cert.Proof.KernelIdeal

end
-- ==== Proof.V16.lean ====
module

public import proofs.«01_k».proof.Proof.KernelIdealBody
public import proofs.«01_k».proof.Proof.Gen.KernelIdeal.Loops
public import proofs.«01_k».proof.Proof.Gen.KernelIdeal
public import proofs.«01_k».proof.Proof.V12
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- What one trip of the second quantisation stores as codes. -/
theorem t6_codes (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (a0 a1 a2 a3 : FVec Ideal S8x128 .f32) (X8 : BufTy.Contents (Elt Ideal) arg8.view.ty) (k : Fin k0_t6_loop.trips) :
    (trip_k0_t6 (F := Ideal) 𝒱 c none i arg1 harg1 arg2 harg2 arg3 harg3 arg4 harg4 arg5 harg5 arg6 harg6 arg7 harg7 arg8 harg8 arg9 harg9 arg10 harg10 h a0 a1 a2 a3 X8 k).1 = [⟨Rect.unit (s := S1456x256) (k0_off39 k) S32x128.size (k0_off39_inb i k h), trunci 8 (concatenate S32x128 0 [⟨S8x128, k0_pay72 (k0_pay71 (k0_pay100 a0 a1 a2 a3) (View.readAt (Elt Ideal) arg8.view (⟨k0_off35 k 0#32, S8x128.size, ![2, 1], (k0_off35_inb i k h 0)⟩ : LoadRect S3584x128) X8) (View.readAt (Elt Ideal) arg8.view (⟨k0_off36 k 0#32, S8x128.size, ![2, 1], (k0_off36_inb i k h 0)⟩ : LoadRect S3584x128) X8)) 4294967169#32 127#32⟩, ⟨S8x128, k0_pay72 (k0_pay71 (k0_pay100 a0 a1 a2 a3) (View.readAt (Elt Ideal) arg8.view (⟨k0_off35 k 8#32, S8x128.size, ![2, 1], (k0_off35_inb i k h 1)⟩ : LoadRect S3584x128) X8) (View.readAt (Elt Ideal) arg8.view (⟨k0_off36 k 8#32, S8x128.size, ![2, 1], (k0_off36_inb i k h 1)⟩ : LoadRect S3584x128) X8)) 4294967169#32 127#32⟩, ⟨S8x128, k0_pay72 (k0_pay71 (k0_pay100 a0 a1 a2 a3) (View.readAt (Elt Ideal) arg8.view (⟨k0_off35 k 16#32, S8x128.size, ![2, 1], (k0_off35_inb i k h 2)⟩ : LoadRect S3584x128) X8) (View.readAt (Elt Ideal) arg8.view (⟨k0_off36 k 16#32, S8x128.size, ![2, 1], (k0_off36_inb i k h 2)⟩ : LoadRect S3584x128) X8)) 4294967169#32 127#32⟩, ⟨S8x128, k0_pay72 (k0_pay71 (k0_pay100 a0 a1 a2 a3) (View.readAt (Elt Ideal) arg8.view (⟨k0_off35 k 24#32, S8x128.size, ![2, 1], (k0_off35_inb i k h 3)⟩ : LoadRect S3584x128) X8) (View.readAt (Elt Ideal) arg8.view (⟨k0_off36 k 24#32, S8x128.size, ![2, 1], (k0_off36_inb i k h 3)⟩ : LoadRect S3584x128) X8)) 4294967169#32 127#32⟩] concatenates_S8x128_S8x128_S8x128_S8x128_S32x128_d0) natLt_8_32⟩, ⟨Rect.unit (s := S1456x256) (k0_off38 k) S32x128.size (k0_off38_inb i k h), trunci 8 (concatenate S32x128 0 [⟨S8x128, k0_pay70 (k0_pay100 a0 a1 a2 a3) (View.readAt (Elt Ideal) arg8.view (⟨k0_off35 k 0#32, S8x128.size, ![2, 1], (k0_off35_inb i k h 0)⟩ : LoadRect S3584x128) X8) (View.readAt (Elt Ideal) arg8.view (⟨k0_off36 k 0#32, S8x128.size, ![2, 1], (k0_off36_inb i k h 0)⟩ : LoadRect S3584x128) X8)⟩, ⟨S8x128, k0_pay70 (k0_pay100 a0 a1 a2 a3) (View.readAt (Elt Ideal) arg8.view (⟨k0_off35 k 8#32, S8x128.size, ![2, 1], (k0_off35_inb i k h 1)⟩ : LoadRect S3584x128) X8) (View.readAt (Elt Ideal) arg8.view (⟨k0_off36 k 8#32, S8x128.size, ![2, 1], (k0_off36_inb i k h 1)⟩ : LoadRect S3584x128) X8)⟩, ⟨S8x128, k0_pay70 (k0_pay100 a0 a1 a2 a3) (View.readAt (Elt Ideal) arg8.view (⟨k0_off35 k 16#32, S8x128.size, ![2, 1], (k0_off35_inb i k h 2)⟩ : LoadRect S3584x128) X8) (View.readAt (Elt Ideal) arg8.view (⟨k0_off36 k 16#32, S8x128.size, ![2, 1], (k0_off36_inb i k h 2)⟩ : LoadRect S3584x128) X8)⟩, ⟨S8x128, k0_pay70 (k0_pay100 a0 a1 a2 a3) (View.readAt (Elt Ideal) arg8.view (⟨k0_off35 k 24#32, S8x128.size, ![2, 1], (k0_off35_inb i k h 3)⟩ : LoadRect S3584x128) X8) (View.readAt (Elt Ideal) arg8.view (⟨k0_off36 k 24#32, S8x128.size, ![2, 1], (k0_off36_inb i k h 3)⟩ : LoadRect S3584x128) X8)⟩] concatenates_S8x128_S8x128_S8x128_S8x128_S32x128_d0) natLt_8_32⟩] := by
  unfold trip_k0_t6
  rfl

/-- What one trip of the second quantisation stores as scales. -/
theorem t6_scales (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (a0 a1 a2 a3 : FVec Ideal S8x128 .f32) (X8 : BufTy.Contents (Elt Ideal) arg8.view.ty) (k : Fin k0_t6_loop.trips) :
    (trip_k0_t6 (F := Ideal) 𝒱 c none i arg1 harg1 arg2 harg2 arg3 harg3 arg4 harg4 arg5 harg5 arg6 harg6 arg7 harg7 arg8 harg8 arg9 harg9 arg10 harg10 h a0 a1 a2 a3 X8 k).2.1 = [⟨Rect.unit (s := S1456x128) (k0_off37 k 24#32) S8x128.size (k0_off37_inb i k h 3), shapeCast S8x128 (k0_pay68 (k0_pay100 a0 a1 a2 a3) (View.readAt (Elt Ideal) arg8.view (⟨k0_off35 k 24#32, S8x128.size, ![2, 1], (k0_off35_inb i k h 3)⟩ : LoadRect S3584x128) X8) (View.readAt (Elt Ideal) arg8.view (⟨k0_off36 k 24#32, S8x128.size, ![2, 1], (k0_off36_inb i k h 3)⟩ : LoadRect S3584x128) X8)) shapeCasts_S8x128_S8x128⟩, ⟨Rect.unit (s := S1456x128) (k0_off37 k 16#32) S8x128.size (k0_off37_inb i k h 2), shapeCast S8x128 (k0_pay68 (k0_pay100 a0 a1 a2 a3) (View.readAt (Elt Ideal) arg8.view (⟨k0_off35 k 16#32, S8x128.size, ![2, 1], (k0_off35_inb i k h 2)⟩ : LoadRect S3584x128) X8) (View.readAt (Elt Ideal) arg8.view (⟨k0_off36 k 16#32, S8x128.size, ![2, 1], (k0_off36_inb i k h 2)⟩ : LoadRect S3584x128) X8)) shapeCasts_S8x128_S8x128⟩, ⟨Rect.unit (s := S1456x128) (k0_off37 k 8#32) S8x128.size (k0_off37_inb i k h 1), shapeCast S8x128 (k0_pay68 (k0_pay100 a0 a1 a2 a3) (View.readAt (Elt Ideal) arg8.view (⟨k0_off35 k 8#32, S8x128.size, ![2, 1], (k0_off35_inb i k h 1)⟩ : LoadRect S3584x128) X8) (View.readAt (Elt Ideal) arg8.view (⟨k0_off36 k 8#32, S8x128.size, ![2, 1], (k0_off36_inb i k h 1)⟩ : LoadRect S3584x128) X8)) shapeCasts_S8x128_S8x128⟩, ⟨Rect.unit (s := S1456x128) (k0_off37 k 0#32) S8x128.size (k0_off37_inb i k h 0), shapeCast S8x128 (k0_pay68 (k0_pay100 a0 a1 a2 a3) (View.readAt (Elt Ideal) arg8.view (⟨k0_off35 k 0#32, S8x128.size, ![2, 1], (k0_off35_inb i k h 0)⟩ : LoadRect S3584x128) X8) (View.readAt (Elt Ideal) arg8.view (⟨k0_off36 k 0#32, S8x128.size, ![2, 1], (k0_off36_inb i k h 0)⟩ : LoadRect S3584x128) X8)) shapeCasts_S8x128_S8x128⟩] := by
  unfold trip_k0_t6
  rfl

end Cert.Proof.KernelIdeal

end
-- ==== Proof.V17.lean ====
module

public import proofs.«01_k».proof.Proof.KernelIdealBody
public import proofs.«01_k».proof.Proof.Gen.KernelIdeal.Loops
public import proofs.«01_k».proof.Proof.Gen.KernelIdeal
public import proofs.«01_k».proof.Proof.V13
public import proofs.«01_k».proof.Proof.V14
public import proofs.«01_k».proof.Proof.V15
public import proofs.«01_k».proof.Proof.V16
public import Idealize.ShloMosaic.Lib.Tactic
public import Idealize.ShloMosaic.Lib.WritesUnit
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (offV dv rmV scV s2V qcV qV gx)

/-- An offset of the second quantisation loop. -/
theorem off35_eq (k : Fin k0_t6_loop.trips) (s : ℕ) (hs : s < 32) : k0_off35 k (BitVec.ofNat 32 s) = ![2 * (k.val * 32 + s), 0] := by
  have hk : k.val < 45 := Nat.lt_of_lt_of_le k.isLt k0_t6_abs.2.1
  unfold k0_off35; dsimp only; congr 1
  simp [Scalar.muli, Scalar.addi, Scalar.subi, IntOp.subi, IntOp.muli, IntOp.addi, Scf.iv, Scalar.indexCast]; omega

/-- An offset of the second quantisation loop. -/
theorem off36_eq (k : Fin k0_t6_loop.trips) (s : ℕ) (hs : s < 32) : k0_off36 k (BitVec.ofNat 32 s) = ![2 * (k.val * 32 + s) + 1, 0] := by
  have hk : k.val < 45 := Nat.lt_of_lt_of_le k.isLt k0_t6_abs.2.1
  unfold k0_off36; dsimp only; congr 1
  simp [Scalar.muli, Scalar.addi, Scalar.subi, IntOp.subi, IntOp.muli, IntOp.addi, Scf.iv, Scalar.indexCast]; omega

/-- An offset of the second quantisation loop. -/
theorem off37_eq (k : Fin k0_t6_loop.trips) (s : ℕ) (hs : s < 32) : k0_off37 k (BitVec.ofNat 32 s) = ![k.val * 32 + s, 0] := by
  have hk : k.val < 45 := Nat.lt_of_lt_of_le k.isLt k0_t6_abs.2.1
  unfold k0_off37; dsimp only; congr 1
  simp [Scalar.muli, Scalar.addi, Scalar.subi, IntOp.subi, IntOp.muli, IntOp.addi, Scf.iv, Scalar.indexCast]; omega

/-- An offset of the second quantisation loop. -/
theorem off38_eq (k : Fin k0_t6_loop.trips) : k0_off38 k = ![k.val * 32, 0] := by
  have hk : k.val < 45 := Nat.lt_of_lt_of_le k.isLt k0_t6_abs.2.1
  unfold k0_off38; dsimp only; congr 1
  simp [Scalar.muli, Scalar.addi, Scalar.subi, IntOp.subi, IntOp.muli, IntOp.addi, Scf.iv, Scalar.indexCast]; omega

/-- An offset of the second quantisation loop. -/
theorem off39_eq (k : Fin k0_t6_loop.trips) : k0_off39 k = ![k.val * 32, 128] := by
  have hk : k.val < 45 := Nat.lt_of_lt_of_le k.isLt k0_t6_abs.2.1
  unfold k0_off39; dsimp only; congr 1
  simp [Scalar.muli, Scalar.addi, Scalar.subi, IntOp.subi, IntOp.muli, IntOp.addi, Scf.iv, Scalar.indexCast]; omega

/-- Membership in a rectangle of unit strides. -/
theorem mem_unit {s : Shape} {off off' size : Fin s.rank → ℕ} {inb} (heq : off = off') (y : s.Idx) (h : ∀ a, off' a ≤ (y a).val ∧ (y a).val < off' a + size a) :
    y ∈ (Rect.unit (s := s) off size inb).set := by
  show y ∈ (Rect.unit (s := s) off size inb).toLoadRect.set
  rw [LoadRect.mem_set]
  intro a
  obtain ⟨h1, h2⟩ := h a
  exact ⟨(y a).val - off' a, by show _ < size a; omega, by show (y a).val = off a + 1 * _; rw [heq]; omega⟩

/-- Where a rectangle of unit strides places an index. -/
theorem emb_unit {s : Shape} {off off' size : Fin s.rank → ℕ} {inb} (heq : off = off') (x : (Rect.unit (s := s) off size inb).shape.Idx) (y : s.Idx) (h : ∀ a, (y a).val = off' a + (x a).val) :
    (Rect.unit (s := s) off size inb).emb x = y := by
  funext a
  apply Fin.ext
  show off a + 1 * (x a).val = (y a).val
  have := h a
  have e := congrFun heq a
  omega

/-- Reshaping a vector to its own shape. -/
theorem shapeCast_refl' (v : FVec Ideal S8x128 .f32) (h) : shapeCast S8x128 v h = v := by
  funext x
  obtain ⟨r, l, rfl⟩ := cov2 (a := 8) (b := 128) x
  pointwise []

/-- Four groups of eight rows, joined and narrowed. -/
theorem cat4_at (z0 z1 z2 z3 : IVec S8x128 32) (Z : ℕ → BitVec 32) (l : Fin 128) (h0 : ∀ r : Fin 8, z0 (ix2 r l) = Z (0 + r.val)) (h1 : ∀ r : Fin 8, z1 (ix2 r l) = Z (8 + r.val))
    (h2 : ∀ r : Fin 8, z2 (ix2 r l) = Z (16 + r.val)) (h3 : ∀ r : Fin 8, z3 (ix2 r l) = Z (24 + r.val)) (r : Fin 32) :
    trunci 8 (concatenate S32x128 0 [⟨S8x128, z0⟩, ⟨S8x128, z1⟩, ⟨S8x128, z2⟩, ⟨S8x128, z3⟩] concatenates_S8x128_S8x128_S8x128_S8x128_S32x128_d0) natLt_8_32 (ix2 r l) = (Z r.val).setWidth 8 := by
  pointwise []
  have hr := r.isLt
  split_ifs
  all_goals first
    | (rw [h0]; simp only [Nat.zero_add]; done)
    | (rw [h1]; simp only [show 8 + (r.val - 8) = r.val by omega]; done)
    | (rw [h2]; simp only [show 16 + (r.val - 8 - 8) = r.val by omega]; done)
    | (rw [h3]; simp only [show 24 + (r.val - 8 - 8 - 8) = r.val by omega]; done)

/-- The scales of the second quantisation, one per row. -/
def GS (g : ℕ → ℕ → EReal) (y : S1456x128.Idx) : EReal := s2V g (y 0).val
/-- The codes of the second quantisation. -/
def GC (g : ℕ → ℕ → EReal) (y : S1456x256.Idx) : BitVec 8 := (qV g (y 0).val (y 1).val).setWidth 8

/-- The joined codes of the first halves of 32 rows. -/
theorem codes_even_at (g : ℕ → ℕ → EReal) (o : EReal) (ho : o = offV g) (b : ℕ) (v0 v1 v2 v3 w0 w1 w2 w3 : FVec Ideal S8x128 .f32)
    (he0 : ∀ (r : Fin 8) (l : Fin 128), v0 (ix2 r l) = g (2 * ((b + 0) + r.val)) l.val) (ho0 : ∀ (r : Fin 8) (l : Fin 128), w0 (ix2 r l) = g (2 * ((b + 0) + r.val) + 1) l.val)
    (he1 : ∀ (r : Fin 8) (l : Fin 128), v1 (ix2 r l) = g (2 * ((b + 8) + r.val)) l.val) (ho1 : ∀ (r : Fin 8) (l : Fin 128), w1 (ix2 r l) = g (2 * ((b + 8) + r.val) + 1) l.val)
    (he2 : ∀ (r : Fin 8) (l : Fin 128), v2 (ix2 r l) = g (2 * ((b + 16) + r.val)) l.val) (ho2 : ∀ (r : Fin 8) (l : Fin 128), w2 (ix2 r l) = g (2 * ((b + 16) + r.val) + 1) l.val)
    (he3 : ∀ (r : Fin 8) (l : Fin 128), v3 (ix2 r l) = g (2 * ((b + 24) + r.val)) l.val) (ho3 : ∀ (r : Fin 8) (l : Fin 128), w3 (ix2 r l) = g (2 * ((b + 24) + r.val) + 1) l.val)
    (q : Fin 32) (l : Fin 128) :
    trunci 8 (concatenate S32x128 0 [⟨S8x128, k0_pay70 (F := Ideal) o v0 w0⟩, ⟨S8x128, k0_pay70 (F := Ideal) o v1 w1⟩, ⟨S8x128, k0_pay70 (F := Ideal) o v2 w2⟩, ⟨S8x128, k0_pay70 (F := Ideal) o v3 w3⟩] concatenates_S8x128_S8x128_S8x128_S8x128_S32x128_d0) natLt_8_32 (ix2 q l) = (qV g (b + q.val) (l.val)).setWidth 8 := by
  have z0 : ∀ r : Fin 8, k0_pay70 (F := Ideal) o v0 w0 (ix2 r l) = qV g (b + (0 + r.val)) (l.val) := fun r => by
    rw [code_even g o ho v0 w0 (b + 0) he0 ho0 r l, Nat.add_assoc]
  have z1 : ∀ r : Fin 8, k0_pay70 (F := Ideal) o v1 w1 (ix2 r l) = qV g (b + (8 + r.val)) (l.val) := fun r => by
    rw [code_even g o ho v1 w1 (b + 8) he1 ho1 r l, Nat.add_assoc]
  have z2 : ∀ r : Fin 8, k0_pay70 (F := Ideal) o v2 w2 (ix2 r l) = qV g (b + (16 + r.val)) (l.val) := fun r => by
    rw [code_even g o ho v2 w2 (b + 16) he2 ho2 r l, Nat.add_assoc]
  have z3 : ∀ r : Fin 8, k0_pay70 (F := Ideal) o v3 w3 (ix2 r l) = qV g (b + (24 + r.val)) (l.val) := fun r => by
    rw [code_even g o ho v3 w3 (b + 24) he3 ho3 r l, Nat.add_assoc]
  exact cat4_at _ _ _ _ (fun q => qV g (b + q) (l.val)) l z0 z1 z2 z3 q

/-- The joined codes of the second halves of 32 rows. -/
theorem codes_odd_at (g : ℕ → ℕ → EReal) (o : EReal) (ho : o = offV g) (b : ℕ) (v0 v1 v2 v3 w0 w1 w2 w3 : FVec Ideal S8x128 .f32)
    (he0 : ∀ (r : Fin 8) (l : Fin 128), v0 (ix2 r l) = g (2 * ((b + 0) + r.val)) l.val) (ho0 : ∀ (r : Fin 8) (l : Fin 128), w0 (ix2 r l) = g (2 * ((b + 0) + r.val) + 1) l.val)
    (he1 : ∀ (r : Fin 8) (l : Fin 128), v1 (ix2 r l) = g (2 * ((b + 8) + r.val)) l.val) (ho1 : ∀ (r : Fin 8) (l : Fin 128), w1 (ix2 r l) = g (2 * ((b + 8) + r.val) + 1) l.val)
    (he2 : ∀ (r : Fin 8) (l : Fin 128), v2 (ix2 r l) = g (2 * ((b + 16) + r.val)) l.val) (ho2 : ∀ (r : Fin 8) (l : Fin 128), w2 (ix2 r l) = g (2 * ((b + 16) + r.val) + 1) l.val)
    (he3 : ∀ (r : Fin 8) (l : Fin 128), v3 (ix2 r l) = g (2 * ((b + 24) + r.val)) l.val) (ho3 : ∀ (r : Fin 8) (l : Fin 128), w3 (ix2 r l) = g (2 * ((b + 24) + r.val) + 1) l.val)
    (q : Fin 32) (l : Fin 128) :
    trunci 8 (concatenate S32x128 0 [⟨S8x128, k0_pay72 (F := Ideal) (k0_pay71 (F := Ideal) o v0 w0) 4294967169#32 127#32⟩, ⟨S8x128, k0_pay72 (F := Ideal) (k0_pay71 (F := Ideal) o v1 w1) 4294967169#32 127#32⟩, ⟨S8x128, k0_pay72 (F := Ideal) (k0_pay71 (F := Ideal) o v2 w2) 4294967169#32 127#32⟩, ⟨S8x128, k0_pay72 (F := Ideal) (k0_pay71 (F := Ideal) o v3 w3) 4294967169#32 127#32⟩] concatenates_S8x128_S8x128_S8x128_S8x128_S32x128_d0) natLt_8_32 (ix2 q l) = (qV g (b + q.val) (128 + l.val)).setWidth 8 := by
  have z0 : ∀ r : Fin 8, k0_pay72 (F := Ideal) (k0_pay71 (F := Ideal) o v0 w0) 4294967169#32 127#32 (ix2 r l) = qV g (b + (0 + r.val)) (128 + l.val) := fun r => by
    rw [code_odd g o ho v0 w0 (b + 0) he0 ho0 r l, Nat.add_assoc]
  have z1 : ∀ r : Fin 8, k0_pay72 (F := Ideal) (k0_pay71 (F := Ideal) o v1 w1) 4294967169#32 127#32 (ix2 r l) = qV g (b + (8 + r.val)) (128 + l.val) := fun r => by
    rw [code_odd g o ho v1 w1 (b + 8) he1 ho1 r l, Nat.add_assoc]
  have z2 : ∀ r : Fin 8, k0_pay72 (F := Ideal) (k0_pay71 (F := Ideal) o v2 w2) 4294967169#32 127#32 (ix2 r l) = qV g (b + (16 + r.val)) (128 + l.val) := fun r => by
    rw [code_odd g o ho v2 w2 (b + 16) he2 ho2 r l, Nat.add_assoc]
  have z3 : ∀ r : Fin 8, k0_pay72 (F := Ideal) (k0_pay71 (F := Ideal) o v3 w3) 4294967169#32 127#32 (ix2 r l) = qV g (b + (24 + r.val)) (128 + l.val) := fun r => by
    rw [code_odd g o ho v3 w3 (b + 24) he3 ho3 r l, Nat.add_assoc]
  exact cat4_at _ _ _ _ (fun q => qV g (b + q) (128 + l.val)) l z0 z1 z2 z3 q

/-- A strided load of the even rows. -/
theorem load_even (arg8 : Memref sig .tc .vmem S3584x128 .f32) (X8 : BufTy.Contents (Elt Ideal) arg8.view.ty) (g : ℕ → ℕ → EReal) (HF : ∀ (r : Fin 3584) (l : Fin 128), r.val < 2912 → arg8.view.read (Elt Ideal) X8 (ix2 r l) = g r.val l.val)
    (off : Fin 2 → ℕ) (inb) (b : ℕ) (hb : b ≤ 1448) (ho : off = ![2 * b, 0]) (r : Fin 8) (l : Fin 128) :
    View.readAt (Elt Ideal) arg8.view (⟨off, S8x128.size, ![2, 1], inb⟩ : LoadRect S3584x128) X8 (ix2 r l) = g (2 * (b + r.val)) l.val := by
  have hr := r.isLt
  refine (rd_stride arg8.view X8 _ _ ho _ (ix2 ⟨2 * (b + r.val), by omega⟩ l) ?_).trans (HF _ _ (by show 2 * (b + r.val) < 2912; omega))
  intro a
  fin_cases a
  · show 2 * (b + r.val) = 2 * b + 2 * r.val; omega
  · show l.val = 0 + 1 * l.val; omega

/-- A strided load of the odd rows. -/
theorem load_odd (arg8 : Memref sig .tc .vmem S3584x128 .f32) (X8 : BufTy.Contents (Elt Ideal) arg8.view.ty) (g : ℕ → ℕ → EReal) (HF : ∀ (r : Fin 3584) (l : Fin 128), r.val < 2912 → arg8.view.read (Elt Ideal) X8 (ix2 r l) = g r.val l.val)
    (off : Fin 2 → ℕ) (inb) (b : ℕ) (hb : b ≤ 1448) (ho : off = ![2 * b + 1, 0]) (r : Fin 8) (l : Fin 128) :
    View.readAt (Elt Ideal) arg8.view (⟨off, S8x128.size, ![2, 1], inb⟩ : LoadRect S3584x128) X8 (ix2 r l) = g (2 * (b + r.val) + 1) l.val := by
  have hr := r.isLt
  refine (rd_stride arg8.view X8 _ _ ho _ (ix2 ⟨2 * (b + r.val) + 1, by omega⟩ l) ?_).trans (HF _ _ (by show 2 * (b + r.val) + 1 < 2912; omega))
  intro a
  fin_cases a
  · show 2 * (b + r.val) + 1 = 2 * b + 1 + 2 * r.val; omega
  · show l.val = 0 + 1 * l.val; omega

end Cert.Proof.KernelIdeal

end
-- ==== Proof.V18.lean ====
module

public import proofs.«01_k».proof.Proof.KernelIdealBody
public import proofs.«01_k».proof.Proof.Gen.KernelIdeal.Loops
public import proofs.«01_k».proof.Proof.Gen.KernelIdeal
public import proofs.«01_k».proof.Proof.V17
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (offV dv rmV scV s2V qcV qV gx)

/-- A piece of codes that holds the right codes. -/
theorem code_piece (g : ℕ → ℕ → EReal) (off : Fin 2 → ℕ) (inb) (b d : ℕ) (heq : off = ![b, d]) (w : IVec S32x128 8) (hb : b + 32 ≤ 1456) (hd : d + 128 ≤ 256)
    (hw : ∀ (q : Fin 32) (l : Fin 128), w (ix2 q l) = (qV g (b + q.val) (d + l.val)).setWidth 8) (x : S32x128.Idx) :
    w x = GC g ((Rect.unit (s := S1456x256) off S32x128.size inb).emb x) := by
  obtain ⟨q, l, rfl⟩ := cov2 (a := 32) (b := 128) x
  have hq := q.isLt
  have hl := l.isLt
  rw [hw, emb_unit heq _ (ix2 ⟨b + q.val, by omega⟩ ⟨d + l.val, by omega⟩ : S1456x256.Idx) (by intro a; fin_cases a <;> rfl)]
  rfl

/-- A piece of scales that holds the right scales. -/
theorem scale_piece (g : ℕ → ℕ → EReal) (off : Fin 2 → ℕ) (inb) (b : ℕ) (heq : off = ![b, 0]) (w : FVec Ideal S8x128 .f32) (hb : b + 8 ≤ 1456)
    (hw : ∀ (q : Fin 8) (l : Fin 128), w (ix2 q l) = s2V g (b + q.val)) (hc) (x : S8x128.Idx) :
    (shapeCast S8x128 w hc : FVec Ideal S8x128 .f32) x = GS g ((Rect.unit (s := S1456x128) off S8x128.size inb).emb x) := by
  rw [shapeCast_refl']
  obtain ⟨q, l, rfl⟩ := cov2 (a := 8) (b := 128) x
  have hq := q.isLt
  have hl := l.isLt
  rw [hw, emb_unit heq _ (ix2 ⟨b + q.val, by omega⟩ l : S1456x128.Idx) (by intro a; fin_cases a <;> [rfl; (show l.val = 0 + l.val; omega)])]
  rfl

/-- Facts of two pieces. -/
theorem all2 {α : Type*} {P : α → Prop} {a b : α} (ha : P a) (hb : P b) : ∀ p ∈ [a, b], P p :=
  List.forall_mem_cons.2 ⟨ha, List.forall_mem_cons.2 ⟨hb, fun _ h => absurd h List.not_mem_nil⟩⟩

/-- Facts of four pieces. -/
theorem all4 {α : Type*} {P : α → Prop} {a b c d : α} (ha : P a) (hb : P b) (hc : P c) (hd : P d) : ∀ p ∈ [a, b, c, d], P p :=
  List.forall_mem_cons.2 ⟨ha, List.forall_mem_cons.2 ⟨hb, all2 hc hd⟩⟩

/-- One trip's codes are right. -/
theorem t6_codes_ok (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (a0 a1 a2 a3 : FVec Ideal S8x128 .f32) (X8 : BufTy.Contents (Elt Ideal) arg8.view.ty) (g : ℕ → ℕ → EReal) (ho : k0_pay100 (F := Ideal) a0 a1 a2 a3 = offV g) (HF : ∀ (r : Fin 3584) (l : Fin 128), r.val < 2912 → arg8.view.read (Elt Ideal) X8 (ix2 r l) = g r.val l.val) (k : Fin k0_t6_loop.trips) : ∀ p ∈ (trip_k0_t6 (F := Ideal) 𝒱 c none i arg1 harg1 arg2 harg2 arg3 harg3 arg4 harg4 arg5 harg5 arg6 harg6 arg7 harg7 arg8 harg8 arg9 harg9 arg10 harg10 h a0 a1 a2 a3 X8 k).1, ∀ x, p.2 x = GC g (p.1.emb x) := by
  rw [t6_codes]
  have hk : k.val < 45 := Nat.lt_of_lt_of_le k.isLt k0_t6_abs.2.1
  have he0 := load_even arg8 X8 g HF (k0_off35 k 0#32) (k0_off35_inb i k h 0) (k.val * 32 + 0) (by omega) (off35_eq k 0 (by decide))
  have ho0 := load_odd arg8 X8 g HF (k0_off36 k 0#32) (k0_off36_inb i k h 0) (k.val * 32 + 0) (by omega) (off36_eq k 0 (by decide))
  have he1 := load_even arg8 X8 g HF (k0_off35 k 8#32) (k0_off35_inb i k h 1) (k.val * 32 + 8) (by omega) (off35_eq k 8 (by decide))
  have ho1 := load_odd arg8 X8 g HF (k0_off36 k 8#32) (k0_off36_inb i k h 1) (k.val * 32 + 8) (by omega) (off36_eq k 8 (by decide))
  have he2 := load_even arg8 X8 g HF (k0_off35 k 16#32) (k0_off35_inb i k h 2) (k.val * 32 + 16) (by omega) (off35_eq k 16 (by decide))
  have ho2 := load_odd arg8 X8 g HF (k0_off36 k 16#32) (k0_off36_inb i k h 2) (k.val * 32 + 16) (by omega) (off36_eq k 16 (by decide))
  have he3 := load_even arg8 X8 g HF (k0_off35 k 24#32) (k0_off35_inb i k h 3) (k.val * 32 + 24) (by omega) (off35_eq k 24 (by decide))
  have ho3 := load_odd arg8 X8 g HF (k0_off36 k 24#32) (k0_off36_inb i k h 3) (k.val * 32 + 24) (by omega) (off36_eq k 24 (by decide))
  refine all2 ?_ ?_
  · exact code_piece g (k0_off39 k) (k0_off39_inb i k h) (k.val * 32) 128 (off39_eq k) _ (by omega) (by omega) (codes_odd_at g _ ho (k.val * 32) _ _ _ _ _ _ _ _ he0 ho0 he1 ho1 he2 ho2 he3 ho3)
  · refine code_piece g (k0_off38 k) (k0_off38_inb i k h) (k.val * 32) 0 (off38_eq k) _ (by omega) (by omega) fun q l => ?_
    rw [Nat.zero_add]
    exact codes_even_at g _ ho (k.val * 32) _ _ _ _ _ _ _ _ he0 ho0 he1 ho1 he2 ho2 he3 ho3 q l

/-- One trip's scales are right. -/
theorem t6_scales_ok (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (a0 a1 a2 a3 : FVec Ideal S8x128 .f32) (X8 : BufTy.Contents (Elt Ideal) arg8.view.ty) (g : ℕ → ℕ → EReal) (ho : k0_pay100 (F := Ideal) a0 a1 a2 a3 = offV g) (HF : ∀ (r : Fin 3584) (l : Fin 128), r.val < 2912 → arg8.view.read (Elt Ideal) X8 (ix2 r l) = g r.val l.val) (k : Fin k0_t6_loop.trips) : ∀ p ∈ (trip_k0_t6 (F := Ideal) 𝒱 c none i arg1 harg1 arg2 harg2 arg3 harg3 arg4 harg4 arg5 harg5 arg6 harg6 arg7 harg7 arg8 harg8 arg9 harg9 arg10 harg10 h a0 a1 a2 a3 X8 k).2.1, ∀ x, p.2 x = GS g (p.1.emb x) := by
  rw [t6_scales]
  have hk : k.val < 45 := Nat.lt_of_lt_of_le k.isLt k0_t6_abs.2.1
  have he0 := load_even arg8 X8 g HF (k0_off35 k 0#32) (k0_off35_inb i k h 0) (k.val * 32 + 0) (by omega) (off35_eq k 0 (by decide))
  have ho0 := load_odd arg8 X8 g HF (k0_off36 k 0#32) (k0_off36_inb i k h 0) (k.val * 32 + 0) (by omega) (off36_eq k 0 (by decide))
  have he1 := load_even arg8 X8 g HF (k0_off35 k 8#32) (k0_off35_inb i k h 1) (k.val * 32 + 8) (by omega) (off35_eq k 8 (by decide))
  have ho1 := load_odd arg8 X8 g HF (k0_off36 k 8#32) (k0_off36_inb i k h 1) (k.val * 32 + 8) (by omega) (off36_eq k 8 (by decide))
  have he2 := load_even arg8 X8 g HF (k0_off35 k 16#32) (k0_off35_inb i k h 2) (k.val * 32 + 16) (by omega) (off35_eq k 16 (by decide))
  have ho2 := load_odd arg8 X8 g HF (k0_off36 k 16#32) (k0_off36_inb i k h 2) (k.val * 32 + 16) (by omega) (off36_eq k 16 (by decide))
  have he3 := load_even arg8 X8 g HF (k0_off35 k 24#32) (k0_off35_inb i k h 3) (k.val * 32 + 24) (by omega) (off35_eq k 24 (by decide))
  have ho3 := load_odd arg8 X8 g HF (k0_off36 k 24#32) (k0_off36_inb i k h 3) (k.val * 32 + 24) (by omega) (off36_eq k 24 (by decide))
  refine all4 ?_ ?_ ?_ ?_
  · exact scale_piece g (k0_off37 k 24#32) (k0_off37_inb i k h 3) (k.val * 32 + 24) (off37_eq k 24 (by decide)) _ (by omega) (scale_row g _ ho _ _ _ he3 ho3) _
  · exact scale_piece g (k0_off37 k 16#32) (k0_off37_inb i k h 2) (k.val * 32 + 16) (off37_eq k 16 (by decide)) _ (by omega) (scale_row g _ ho _ _ _ he2 ho2) _
  · exact scale_piece g (k0_off37 k 8#32) (k0_off37_inb i k h 1) (k.val * 32 + 8) (off37_eq k 8 (by decide)) _ (by omega) (scale_row g _ ho _ _ _ he1 ho1) _
  · exact scale_piece g (k0_off37 k 0#32) (k0_off37_inb i k h 0) (k.val * 32 + 0) (off37_eq k 0 (by decide)) _ (by omega) (scale_row g _ ho _ _ _ he0 ho0) _

/-- One trip's codes cover its rows. -/
theorem t6_codes_cov (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (a0 a1 a2 a3 : FVec Ideal S8x128 .f32) (X8 : BufTy.Contents (Elt Ideal) arg8.view.ty) (k : Fin k0_t6_loop.trips) (y : S1456x256.Idx) (h1 : k.val * 32 ≤ (y 0).val) (h2 : (y 0).val < k.val * 32 + 32) :
    ∃ p ∈ (trip_k0_t6 (F := Ideal) 𝒱 c none i arg1 harg1 arg2 harg2 arg3 harg3 arg4 harg4 arg5 harg5 arg6 harg6 arg7 harg7 arg8 harg8 arg9 harg9 arg10 harg10 h a0 a1 a2 a3 X8 k).1, y ∈ p.1.set := by
  rw [t6_codes]
  have y1 : (y 1).val < 256 := (y 1).isLt
  by_cases c1 : 128 ≤ (y 1).val
  · refine ⟨_, List.mem_cons_self .., mem_unit (inb := k0_off39_inb i k h) (off39_eq k) y ?_⟩
    intro a
    fin_cases a
    · show k.val * 32 ≤ (y 0).val ∧ (y 0).val < k.val * 32 + 32; omega
    · show 128 ≤ (y 1).val ∧ (y 1).val < 128 + 128; omega
  · refine ⟨_, List.mem_cons_of_mem _ (List.mem_cons_self ..), mem_unit (inb := k0_off38_inb i k h) (off38_eq k) y ?_⟩
    intro a
    fin_cases a
    · show k.val * 32 ≤ (y 0).val ∧ (y 0).val < k.val * 32 + 32; omega
    · show 0 ≤ (y 1).val ∧ (y 1).val < 0 + 128; omega

/-- One trip's scales cover its rows. -/
theorem t6_scales_cov (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (a0 a1 a2 a3 : FVec Ideal S8x128 .f32) (X8 : BufTy.Contents (Elt Ideal) arg8.view.ty) (k : Fin k0_t6_loop.trips) (y : S1456x128.Idx) (h1 : k.val * 32 ≤ (y 0).val) (h2 : (y 0).val < k.val * 32 + 32) :
    ∃ p ∈ (trip_k0_t6 (F := Ideal) 𝒱 c none i arg1 harg1 arg2 harg2 arg3 harg3 arg4 harg4 arg5 harg5 arg6 harg6 arg7 harg7 arg8 harg8 arg9 harg9 arg10 harg10 h a0 a1 a2 a3 X8 k).2.1, y ∈ p.1.set := by
  rw [t6_scales]
  have y1 : (y 1).val < 128 := (y 1).isLt
  have key : ∀ s, s < 32 → k.val * 32 + s ≤ (y 0).val → (y 0).val < k.val * 32 + s + 8 → ∀ inb, y ∈ (Rect.unit (s := S1456x128) (k0_off37 k (BitVec.ofNat 32 s)) S8x128.size inb).set := by
    intro s hs g1 g2 inb
    refine mem_unit (off37_eq k s hs) y ?_
    intro a
    fin_cases a
    · show k.val * 32 + s ≤ (y 0).val ∧ (y 0).val < k.val * 32 + s + 8; omega
    · show 0 ≤ (y 1).val ∧ (y 1).val < 0 + 128; omega
  by_cases c3 : k.val * 32 + 24 ≤ (y 0).val
  · exact ⟨_, List.mem_cons_self .., key 24 (by decide) c3 (by omega) (k0_off37_inb i k h 3)⟩
  · by_cases c2 : k.val * 32 + 16 ≤ (y 0).val
    · exact ⟨_, List.mem_cons_of_mem _ (List.mem_cons_self ..), key 16 (by decide) c2 (by omega) (k0_off37_inb i k h 2)⟩
    · by_cases c1 : k.val * 32 + 8 ≤ (y 0).val
      · exact ⟨_, List.mem_cons_of_mem _ (List.mem_cons_of_mem _ (List.mem_cons_self ..)), key 8 (by decide) c1 (by omega) (k0_off37_inb i k h 1)⟩
      · exact ⟨_, List.mem_cons_of_mem _ (List.mem_cons_of_mem _ (List.mem_cons_of_mem _ (List.mem_cons_self ..))), key 0 (by decide) (by omega) (by omega) (k0_off37_inb i k h 0)⟩

/-- What the second quantisation's loop stores: right codes and scales, covering its rows. -/
theorem t6_all (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h : k0_cond2 i = 1#1) (a0 a1 a2 a3 : FVec Ideal S8x128 .f32) (X8 : BufTy.Contents (Elt Ideal) arg8.view.ty) (g : ℕ → ℕ → EReal) (ho : k0_pay100 (F := Ideal) a0 a1 a2 a3 = offV g) (HF : ∀ (r : Fin 3584) (l : Fin 128), r.val < 2912 → arg8.view.read (Elt Ideal) X8 (ix2 r l) = g r.val l.val) : ∀ n ≤ k0_t6_loop.trips,
    ((∀ p ∈ (pb_k0_t6 (F := Ideal) 𝒱 c none i arg1 harg1 arg2 harg2 arg3 harg3 arg4 harg4 arg5 harg5 arg6 harg6 arg7 harg7 arg8 harg8 arg9 harg9 arg10 harg10 h a0 a1 a2 a3 X8 n).1, ∀ x, p.2 x = GC g (p.1.emb x)) ∧ (∀ p ∈ (pb_k0_t6 (F := Ideal) 𝒱 c none i arg1 harg1 arg2 harg2 arg3 harg3 arg4 harg4 arg5 harg5 arg6 harg6 arg7 harg7 arg8 harg8 arg9 harg9 arg10 harg10 h a0 a1 a2 a3 X8 n).2, ∀ x, p.2 x = GS g (p.1.emb x)))
    ∧ (∀ y : S1456x256.Idx, (y 0).val < n * 32 → ∃ p ∈ (pb_k0_t6 (F := Ideal) 𝒱 c none i arg1 harg1 arg2 harg2 arg3 harg3 arg4 harg4 arg5 harg5 arg6 harg6 arg7 harg7 arg8 harg8 arg9 harg9 arg10 harg10 h a0 a1 a2 a3 X8 n).1, y ∈ p.1.set) ∧ (∀ y : S1456x128.Idx, (y 0).val < n * 32 → ∃ p ∈ (pb_k0_t6 (F := Ideal) 𝒱 c none i arg1 harg1 arg2 harg2 arg3 harg3 arg4 harg4 arg5 harg5 arg6 harg6 arg7 harg7 arg8 harg8 arg9 harg9 arg10 harg10 h a0 a1 a2 a3 X8 n).2, y ∈ p.1.set)
  | 0, _ => ⟨⟨fun p hp => absurd hp List.not_mem_nil, fun p hp => absurd hp List.not_mem_nil⟩, fun y hy => absurd hy (by omega), fun y hy => absurd hy (by omega)⟩
  | n + 1, hn => by
    obtain ⟨⟨hA, hB⟩, hC, hD⟩ := t6_all 𝒱 c i arg1 harg1 arg2 harg2 arg3 harg3 arg4 harg4 arg5 harg5 arg6 harg6 arg7 harg7 arg8 harg8 arg9 harg9 arg10 harg10 h a0 a1 a2 a3 X8 g ho HF n (by omega)
    have e := pb_k0_t6_succ (F := Ideal) 𝒱 c none i arg1 harg1 arg2 harg2 arg3 harg3 arg4 harg4 arg5 harg5 arg6 harg6 arg7 harg7 arg8 harg8 arg9 harg9 arg10 harg10 h a0 a1 a2 a3 X8 ⟨n, hn⟩
    have e1 := congrArg Prod.fst e
    have e2 := congrArg Prod.snd e
    clear e
    refine ⟨⟨fun p hp => ?_, fun p hp => ?_⟩, fun y hy => ?_, fun y hy => ?_⟩
    · rcases List.mem_append.mp (e1 ▸ hp) with hp | hp
      · exact t6_codes_ok 𝒱 c i arg1 harg1 arg2 harg2 arg3 harg3 arg4 harg4 arg5 harg5 arg6 harg6 arg7 harg7 arg8 harg8 arg9 harg9 arg10 harg10 h a0 a1 a2 a3 X8 g ho HF ⟨n, hn⟩ p hp
      · exact hA p hp
    · rcases List.mem_append.mp (e2 ▸ hp) with hp | hp
      · exact t6_scales_ok 𝒱 c i arg1 harg1 arg2 harg2 arg3 harg3 arg4 harg4 arg5 harg5 arg6 harg6 arg7 harg7 arg8 harg8 arg9 harg9 arg10 harg10 h a0 a1 a2 a3 X8 g ho HF ⟨n, hn⟩ p hp
      · exact hB p hp
    · by_cases hy' : (y 0).val < n * 32
      · obtain ⟨p, hp, hm⟩ := hC y hy'
        exact ⟨p, e1.symm ▸ List.mem_append_right _ hp, hm⟩
      · obtain ⟨p, hp, hm⟩ := t6_codes_cov 𝒱 c i arg1 harg1 arg2 harg2 arg3 harg3 arg4 harg4 arg5 harg5 arg6 harg6 arg7 harg7 arg8 harg8 arg9 harg9 arg10 harg10 h a0 a1 a2 a3 X8 ⟨n, hn⟩ y (by show n * 32 ≤ _; omega) (by show _ < n * 32 + 32; omega)
        exact ⟨p, e1.symm ▸ List.mem_append_left _ hp, hm⟩
    · by_cases hy' : (y 0).val < n * 32
      · obtain ⟨p, hp, hm⟩ := hD y hy'
        exact ⟨p, e2.symm ▸ List.mem_append_right _ hp, hm⟩
      · obtain ⟨p, hp, hm⟩ := t6_scales_cov 𝒱 c i arg1 harg1 arg2 harg2 arg3 harg3 arg4 harg4 arg5 harg5 arg6 harg6 arg7 harg7 arg8 harg8 arg9 harg9 arg10 harg10 h a0 a1 a2 a3 X8 ⟨n, hn⟩ y (by show n * 32 ≤ _; omega) (by show _ < n * 32 + 32; omega)
        exact ⟨p, e2.symm ▸ List.mem_append_left _ hp, hm⟩

end Cert.Proof.KernelIdeal

end
-- ==== Proof.V19.lean ====
module

public import proofs.«01_k».proof.Proof.KernelIdealBody
public import proofs.«01_k».proof.Proof.Gen.KernelIdeal.Loops
public import proofs.«01_k».proof.Proof.Gen.KernelIdeal
public import proofs.«01_k».proof.Proof.V18
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (offV dv rmV scV s2V qcV qV gx)

/-- The offset the last run uses. -/
theorem tail_off (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) : k0_pay100 (F := Ideal) (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).1 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).2.1 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).2.2.1 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).2.2.2 = offV g :=
  pay100_eq _ _ _ _ g fun r l => t5_sums 𝒱 c i arg1 harg1 arg2 harg2 arg3 harg3 arg4 harg4 arg5 harg5 arg6 harg6 arg7 harg7 arg8 harg8 arg9 harg9 arg10 harg10 h2 _ g HF 91 (by decide) r l

/-- A strided load of the last rows. -/
theorem v96_at (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (r : Fin 8) (l : Fin 128) : (runC.sl.v96 (F := Ideal) 𝒱 c i arg1 harg1 arg2 harg2 arg3 harg3 arg4 harg4 arg5 harg5 arg6 harg6 arg7 harg7 arg8 harg8 arg9 harg9 arg10 harg10 X1 X7 X8 X9) (ix2 r l) = g (2 * (1440 + r.val)) l.val := by
  unfold runC.sl.v96
  exact load_even arg8 _ g HF ![2880, 0] _ 1440 (by decide) rfl r l

/-- A strided load of the last rows. -/
theorem v99_at (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (r : Fin 8) (l : Fin 128) : (runC.sl.v99 (F := Ideal) 𝒱 c i arg1 harg1 arg2 harg2 arg3 harg3 arg4 harg4 arg5 harg5 arg6 harg6 arg7 harg7 arg8 harg8 arg9 harg9 arg10 harg10 X1 X7 X8 X9) (ix2 r l) = g (2 * (1440 + r.val) + 1) l.val := by
  unfold runC.sl.v99
  exact load_odd arg8 _ g HF ![2881, 0] _ 1440 (by decide) rfl r l

/-- A strided load of the last rows. -/
theorem v136_at (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (r : Fin 8) (l : Fin 128) : (runC.sl.v136 (F := Ideal) 𝒱 c i arg1 harg1 arg2 harg2 arg3 harg3 arg4 harg4 arg5 harg5 arg6 harg6 arg7 harg7 arg8 harg8 arg9 harg9 arg10 harg10 X1 X7 X8 X9) (ix2 r l) = g (2 * (1448 + r.val)) l.val := by
  unfold runC.sl.v136
  exact load_even arg8 _ g HF ![2896, 0] _ 1448 (by decide) rfl r l

/-- A strided load of the last rows. -/
theorem v139_at (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (r : Fin 8) (l : Fin 128) : (runC.sl.v139 (F := Ideal) 𝒱 c i arg1 harg1 arg2 harg2 arg3 harg3 arg4 harg4 arg5 harg5 arg6 harg6 arg7 harg7 arg8 harg8 arg9 harg9 arg10 harg10 X1 X7 X8 X9) (ix2 r l) = g (2 * (1448 + r.val) + 1) l.val := by
  unfold runC.sl.v139
  exact load_odd arg8 _ g HF ![2897, 0] _ 1448 (by decide) rfl r l

/-- Two joined groups of codes. -/
theorem cat2_at (z0 z1 : IVec S8x128 32) (Z : ℕ → BitVec 32) (l : Fin 128) (h0 : ∀ r : Fin 8, z0 (ix2 r l) = Z (0 + r.val)) (h1 : ∀ r : Fin 8, z1 (ix2 r l) = Z (8 + r.val)) (r : Fin 16) :
    trunci 8 (concatenate S16x128 0 [⟨S8x128, z0⟩, ⟨S8x128, z1⟩] concatenates_S8x128_S8x128_S16x128_d0) natLt_8_32 (ix2 r l) = (Z r.val).setWidth 8 := by
  pointwise []
  have hr := r.isLt
  split_ifs
  all_goals first
    | (rw [h0]; simp only [Nat.zero_add]; done)
    | (rw [h1]; simp only [show 8 + (r.val - 8) = r.val by omega]; done)

/-- The stored scales of the first tail group are its scales. -/
theorem pay110_eq (a0 a1 a2 a3 ve vo : FVec Ideal S8x128 .f32) : k0_pay110 (F := Ideal) (k0_pay106 (F := Ideal) a0 a1 a2 a3 ve vo) (k0_pay107 (F := Ideal) a0 a1 a2 a3 ve vo) k0_pay108 = k0_pay68 (F := Ideal) (k0_pay100 (F := Ideal) a0 a1 a2 a3) ve vo := by
  unfold k0_pay110
  exact shapeCast_refl' _ _

/-- The stored scales of the second tail group are its scales. -/
theorem pay116_eq (o : EReal) (ve vo : FVec Ideal S8x128 .f32) : k0_pay116 (F := Ideal) (k0_pay115 (F := Ideal) o ve vo) = k0_pay68 (F := Ideal) o ve vo := by
  unfold k0_pay116
  exact shapeCast_refl' _ _

/-- The scales of the first tail group. -/
theorem tail_s0 (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (r : Fin 8) (l : Fin 128) : k0_pay110 (F := Ideal) (runC.sl.r_4 (F := Ideal) 𝒱 c i arg1 harg1 arg2 harg2 arg3 harg3 arg4 harg4 arg5 harg5 arg6 harg6 arg7 harg7 arg8 harg8 arg9 harg9 arg10 harg10 h2 X1 X7 X8 X9) (runC.sl.r_5 (F := Ideal) 𝒱 c i arg1 harg1 arg2 harg2 arg3 harg3 arg4 harg4 arg5 harg5 arg6 harg6 arg7 harg7 arg8 harg8 arg9 harg9 arg10 harg10 h2 X1 X7 X8 X9) k0_pay108 (ix2 r l) = s2V g (1440 + r.val) := by
  unfold runC.sl.r_4 runC.sl.r_5
  rw [pay110_eq]
  exact scale_row g _ (tail_off 𝒱 c i arg1 harg1 arg2 harg2 arg3 harg3 arg4 harg4 arg5 harg5 arg6 harg6 arg7 harg7 arg8 harg8 arg9 harg9 arg10 harg10 h2 X1 X7 X8 X9 g HF) (runC.sl.v96 (F := Ideal) 𝒱 c i arg1 harg1 arg2 harg2 arg3 harg3 arg4 harg4 arg5 harg5 arg6 harg6 arg7 harg7 arg8 harg8 arg9 harg9 arg10 harg10 X1 X7 X8 X9) (runC.sl.v99 (F := Ideal) 𝒱 c i arg1 harg1 arg2 harg2 arg3 harg3 arg4 harg4 arg5 harg5 arg6 harg6 arg7 harg7 arg8 harg8 arg9 harg9 arg10 harg10 X1 X7 X8 X9) 1440 (v96_at 𝒱 c i arg1 harg1 arg2 harg2 arg3 harg3 arg4 harg4 arg5 harg5 arg6 harg6 arg7 harg7 arg8 harg8 arg9 harg9 arg10 harg10 h2 X1 X7 X8 X9 g HF) (v99_at 𝒱 c i arg1 harg1 arg2 harg2 arg3 harg3 arg4 harg4 arg5 harg5 arg6 harg6 arg7 harg7 arg8 harg8 arg9 harg9 arg10 harg10 h2 X1 X7 X8 X9 g HF) r l

/-- The scales of the second tail group. -/
theorem tail_s1 (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (r : Fin 8) (l : Fin 128) : k0_pay116 (F := Ideal) (runC.sl.r_10 (F := Ideal) 𝒱 c i arg1 harg1 arg2 harg2 arg3 harg3 arg4 harg4 arg5 harg5 arg6 harg6 arg7 harg7 arg8 harg8 arg9 harg9 arg10 harg10 h2 X1 X7 X8 X9) (ix2 r l) = s2V g (1448 + r.val) := by
  unfold runC.sl.r_10 runC.sl.r_1
  rw [pay116_eq]
  exact scale_row g _ (tail_off 𝒱 c i arg1 harg1 arg2 harg2 arg3 harg3 arg4 harg4 arg5 harg5 arg6 harg6 arg7 harg7 arg8 harg8 arg9 harg9 arg10 harg10 h2 X1 X7 X8 X9 g HF) (runC.sl.v136 (F := Ideal) 𝒱 c i arg1 harg1 arg2 harg2 arg3 harg3 arg4 harg4 arg5 harg5 arg6 harg6 arg7 harg7 arg8 harg8 arg9 harg9 arg10 harg10 X1 X7 X8 X9) (runC.sl.v139 (F := Ideal) 𝒱 c i arg1 harg1 arg2 harg2 arg3 harg3 arg4 harg4 arg5 harg5 arg6 harg6 arg7 harg7 arg8 harg8 arg9 harg9 arg10 harg10 X1 X7 X8 X9) 1448 (v136_at 𝒱 c i arg1 harg1 arg2 harg2 arg3 harg3 arg4 harg4 arg5 harg5 arg6 harg6 arg7 harg7 arg8 harg8 arg9 harg9 arg10 harg10 h2 X1 X7 X8 X9 g HF) (v139_at 𝒱 c i arg1 harg1 arg2 harg2 arg3 harg3 arg4 harg4 arg5 harg5 arg6 harg6 arg7 harg7 arg8 harg8 arg9 harg9 arg10 harg10 h2 X1 X7 X8 X9 g HF) r l

/-- The tail's codes in the first half. -/
theorem tail_c0 (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (q : Fin 16) (l : Fin 128) : k0_pay117 (F := Ideal) (runC.sl.r_6 (F := Ideal) 𝒱 c i arg1 harg1 arg2 harg2 arg3 harg3 arg4 harg4 arg5 harg5 arg6 harg6 arg7 harg7 arg8 harg8 arg9 harg9 arg10 harg10 h2 X1 X7 X8 X9) (runC.sl.r_8 (F := Ideal) 𝒱 c i arg1 harg1 arg2 harg2 arg3 harg3 arg4 harg4 arg5 harg5 arg6 harg6 arg7 harg7 arg8 harg8 arg9 harg9 arg10 harg10 h2 X1 X7 X8 X9) (runC.sl.r_10 (F := Ideal) 𝒱 c i arg1 harg1 arg2 harg2 arg3 harg3 arg4 harg4 arg5 harg5 arg6 harg6 arg7 harg7 arg8 harg8 arg9 harg9 arg10 harg10 h2 X1 X7 X8 X9) (ix2 q l) = (qV g (1440 + q.val) (0 + l.val)).setWidth 8 := by
  unfold runC.sl.r_6 runC.sl.r_8 runC.sl.r_10 runC.sl.r_1 runC.sl.r_2 runC.sl.r_4 runC.sl.r_5
  have z0 : ∀ r : Fin 8, k0_pay70 (F := Ideal) _ (runC.sl.v96 (F := Ideal) 𝒱 c i arg1 harg1 arg2 harg2 arg3 harg3 arg4 harg4 arg5 harg5 arg6 harg6 arg7 harg7 arg8 harg8 arg9 harg9 arg10 harg10 X1 X7 X8 X9) (runC.sl.v99 (F := Ideal) 𝒱 c i arg1 harg1 arg2 harg2 arg3 harg3 arg4 harg4 arg5 harg5 arg6 harg6 arg7 harg7 arg8 harg8 arg9 harg9 arg10 harg10 X1 X7 X8 X9) (ix2 r l) = qV g (1440 + (0 + r.val)) (0 + l.val) := fun r => by
    rw [code_even g _ (tail_off 𝒱 c i arg1 harg1 arg2 harg2 arg3 harg3 arg4 harg4 arg5 harg5 arg6 harg6 arg7 harg7 arg8 harg8 arg9 harg9 arg10 harg10 h2 X1 X7 X8 X9 g HF) (runC.sl.v96 (F := Ideal) 𝒱 c i arg1 harg1 arg2 harg2 arg3 harg3 arg4 harg4 arg5 harg5 arg6 harg6 arg7 harg7 arg8 harg8 arg9 harg9 arg10 harg10 X1 X7 X8 X9) (runC.sl.v99 (F := Ideal) 𝒱 c i arg1 harg1 arg2 harg2 arg3 harg3 arg4 harg4 arg5 harg5 arg6 harg6 arg7 harg7 arg8 harg8 arg9 harg9 arg10 harg10 X1 X7 X8 X9) 1440 (v96_at 𝒱 c i arg1 harg1 arg2 harg2 arg3 harg3 arg4 harg4 arg5 harg5 arg6 harg6 arg7 harg7 arg8 harg8 arg9 harg9 arg10 harg10 h2 X1 X7 X8 X9 g HF) (v99_at 𝒱 c i arg1 harg1 arg2 harg2 arg3 harg3 arg4 harg4 arg5 harg5 arg6 harg6 arg7 harg7 arg8 harg8 arg9 harg9 arg10 harg10 h2 X1 X7 X8 X9 g HF) r l, Nat.zero_add, Nat.zero_add]
  have z1 : ∀ r : Fin 8, k0_pay70 (F := Ideal) _ (runC.sl.v136 (F := Ideal) 𝒱 c i arg1 harg1 arg2 harg2 arg3 harg3 arg4 harg4 arg5 harg5 arg6 harg6 arg7 harg7 arg8 harg8 arg9 harg9 arg10 harg10 X1 X7 X8 X9) (runC.sl.v139 (F := Ideal) 𝒱 c i arg1 harg1 arg2 harg2 arg3 harg3 arg4 harg4 arg5 harg5 arg6 harg6 arg7 harg7 arg8 harg8 arg9 harg9 arg10 harg10 X1 X7 X8 X9) (ix2 r l) = qV g (1440 + (8 + r.val)) (0 + l.val) := fun r => by
    rw [code_even g _ (tail_off 𝒱 c i arg1 harg1 arg2 harg2 arg3 harg3 arg4 harg4 arg5 harg5 arg6 harg6 arg7 harg7 arg8 harg8 arg9 harg9 arg10 harg10 h2 X1 X7 X8 X9 g HF) (runC.sl.v136 (F := Ideal) 𝒱 c i arg1 harg1 arg2 harg2 arg3 harg3 arg4 harg4 arg5 harg5 arg6 harg6 arg7 harg7 arg8 harg8 arg9 harg9 arg10 harg10 X1 X7 X8 X9) (runC.sl.v139 (F := Ideal) 𝒱 c i arg1 harg1 arg2 harg2 arg3 harg3 arg4 harg4 arg5 harg5 arg6 harg6 arg7 harg7 arg8 harg8 arg9 harg9 arg10 harg10 X1 X7 X8 X9) 1448 (v136_at 𝒱 c i arg1 harg1 arg2 harg2 arg3 harg3 arg4 harg4 arg5 harg5 arg6 harg6 arg7 harg7 arg8 harg8 arg9 harg9 arg10 harg10 h2 X1 X7 X8 X9 g HF) (v139_at 𝒱 c i arg1 harg1 arg2 harg2 arg3 harg3 arg4 harg4 arg5 harg5 arg6 harg6 arg7 harg7 arg8 harg8 arg9 harg9 arg10 harg10 h2 X1 X7 X8 X9 g HF) r l, Nat.zero_add, ← Nat.add_assoc]
  exact cat2_at _ _ (fun q => qV g (1440 + q) (0 + l.val)) l z0 z1 q

/-- The tail's codes in the second half. -/
theorem tail_c1 (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (q : Fin 16) (l : Fin 128) : k0_pay118 (F := Ideal) (runC.sl.r_7 (F := Ideal) 𝒱 c i arg1 harg1 arg2 harg2 arg3 harg3 arg4 harg4 arg5 harg5 arg6 harg6 arg7 harg7 arg8 harg8 arg9 harg9 arg10 harg10 h2 X1 X7 X8 X9) (runC.sl.r_9 (F := Ideal) 𝒱 c i arg1 harg1 arg2 harg2 arg3 harg3 arg4 harg4 arg5 harg5 arg6 harg6 arg7 harg7 arg8 harg8 arg9 harg9 arg10 harg10 h2 X1 X7 X8 X9) (runC.sl.r_10 (F := Ideal) 𝒱 c i arg1 harg1 arg2 harg2 arg3 harg3 arg4 harg4 arg5 harg5 arg6 harg6 arg7 harg7 arg8 harg8 arg9 harg9 arg10 harg10 h2 X1 X7 X8 X9) (ix2 q l) = (qV g (1440 + q.val) (128 + l.val)).setWidth 8 := by
  unfold runC.sl.r_7 runC.sl.r_9 runC.sl.r_10 runC.sl.r_1 runC.sl.r_3 runC.sl.r_4 runC.sl.r_5
  have z0 : ∀ r : Fin 8, k0_pay72 (F := Ideal) (k0_pay71 (F := Ideal) _ (runC.sl.v96 (F := Ideal) 𝒱 c i arg1 harg1 arg2 harg2 arg3 harg3 arg4 harg4 arg5 harg5 arg6 harg6 arg7 harg7 arg8 harg8 arg9 harg9 arg10 harg10 X1 X7 X8 X9) (runC.sl.v99 (F := Ideal) 𝒱 c i arg1 harg1 arg2 harg2 arg3 harg3 arg4 harg4 arg5 harg5 arg6 harg6 arg7 harg7 arg8 harg8 arg9 harg9 arg10 harg10 X1 X7 X8 X9)) 4294967169#32 127#32 (ix2 r l) = qV g (1440 + (0 + r.val)) (128 + l.val) := fun r => by
    rw [code_odd g _ (tail_off 𝒱 c i arg1 harg1 arg2 harg2 arg3 harg3 arg4 harg4 arg5 harg5 arg6 harg6 arg7 harg7 arg8 harg8 arg9 harg9 arg10 harg10 h2 X1 X7 X8 X9 g HF) (runC.sl.v96 (F := Ideal) 𝒱 c i arg1 harg1 arg2 harg2 arg3 harg3 arg4 harg4 arg5 harg5 arg6 harg6 arg7 harg7 arg8 harg8 arg9 harg9 arg10 harg10 X1 X7 X8 X9) (runC.sl.v99 (F := Ideal) 𝒱 c i arg1 harg1 arg2 harg2 arg3 harg3 arg4 harg4 arg5 harg5 arg6 harg6 arg7 harg7 arg8 harg8 arg9 harg9 arg10 harg10 X1 X7 X8 X9) 1440 (v96_at 𝒱 c i arg1 harg1 arg2 harg2 arg3 harg3 arg4 harg4 arg5 harg5 arg6 harg6 arg7 harg7 arg8 harg8 arg9 harg9 arg10 harg10 h2 X1 X7 X8 X9 g HF) (v99_at 𝒱 c i arg1 harg1 arg2 harg2 arg3 harg3 arg4 harg4 arg5 harg5 arg6 harg6 arg7 harg7 arg8 harg8 arg9 harg9 arg10 harg10 h2 X1 X7 X8 X9 g HF) r l, Nat.zero_add]
  have z1 : ∀ r : Fin 8, k0_pay72 (F := Ideal) (k0_pay71 (F := Ideal) _ (runC.sl.v136 (F := Ideal) 𝒱 c i arg1 harg1 arg2 harg2 arg3 harg3 arg4 harg4 arg5 harg5 arg6 harg6 arg7 harg7 arg8 harg8 arg9 harg9 arg10 harg10 X1 X7 X8 X9) (runC.sl.v139 (F := Ideal) 𝒱 c i arg1 harg1 arg2 harg2 arg3 harg3 arg4 harg4 arg5 harg5 arg6 harg6 arg7 harg7 arg8 harg8 arg9 harg9 arg10 harg10 X1 X7 X8 X9)) 4294967169#32 127#32 (ix2 r l) = qV g (1440 + (8 + r.val)) (128 + l.val) := fun r => by
    rw [code_odd g _ (tail_off 𝒱 c i arg1 harg1 arg2 harg2 arg3 harg3 arg4 harg4 arg5 harg5 arg6 harg6 arg7 harg7 arg8 harg8 arg9 harg9 arg10 harg10 h2 X1 X7 X8 X9 g HF) (runC.sl.v136 (F := Ideal) 𝒱 c i arg1 harg1 arg2 harg2 arg3 harg3 arg4 harg4 arg5 harg5 arg6 harg6 arg7 harg7 arg8 harg8 arg9 harg9 arg10 harg10 X1 X7 X8 X9) (runC.sl.v139 (F := Ideal) 𝒱 c i arg1 harg1 arg2 harg2 arg3 harg3 arg4 harg4 arg5 harg5 arg6 harg6 arg7 harg7 arg8 harg8 arg9 harg9 arg10 harg10 X1 X7 X8 X9) 1448 (v136_at 𝒱 c i arg1 harg1 arg2 harg2 arg3 harg3 arg4 harg4 arg5 harg5 arg6 harg6 arg7 harg7 arg8 harg8 arg9 harg9 arg10 harg10 h2 X1 X7 X8 X9 g HF) (v139_at 𝒱 c i arg1 harg1 arg2 harg2 arg3 harg3 arg4 harg4 arg5 harg5 arg6 harg6 arg7 harg7 arg8 harg8 arg9 harg9 arg10 harg10 h2 X1 X7 X8 X9 g HF) r l, ← Nat.add_assoc]
  exact cat2_at _ _ (fun q => qV g (1440 + q) (128 + l.val)) l z0 z1 q

end Cert.Proof.KernelIdeal

end
-- ==== Proof.V20.lean ====
module

public import proofs.«01_k».proof.Proof.KernelIdealBody
public import proofs.«01_k».proof.Proof.Gen.KernelIdeal.Loops
public import proofs.«01_k».proof.Proof.Gen.KernelIdeal
public import proofs.«01_k».proof.Proof.V19
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (offV dv rmV scV s2V qcV qV gx)

/-- A piece of sixteen rows of codes that holds the right codes. -/
theorem code_piece16 (g : ℕ → ℕ → EReal) (d : ℕ) (inb) (w : IVec S16x128 8) (hd : d + 128 ≤ 256)
    (hw : ∀ (q : Fin 16) (l : Fin 128), w (ix2 q l) = (qV g (1440 + q.val) (d + l.val)).setWidth 8) (x : S16x128.Idx) :
    w x = GC g ((Rect.unit (s := S1456x256) ![1440, d] S16x128.size inb).emb x) := by
  obtain ⟨q, l, rfl⟩ := cov2 (a := 16) (b := 128) x
  have hq := q.isLt
  have hl := l.isLt
  rw [hw, emb_unit rfl _ (ix2 ⟨1440 + q.val, by omega⟩ ⟨d + l.val, by omega⟩ : S1456x256.Idx) (by intro a; fin_cases a <;> rfl)]
  rfl

/-- A piece of eight rows of scales that holds the right scales. -/
theorem scale_piece8 (g : ℕ → ℕ → EReal) (b : ℕ) (inb) (w : FVec Ideal S8x128 .f32) (hb : b + 8 ≤ 1456)
    (hw : ∀ (q : Fin 8) (l : Fin 128), w (ix2 q l) = s2V g (b + q.val)) (x : S8x128.Idx) :
    w x = GS g ((Rect.unit (s := S1456x128) ![b, 0] S8x128.size inb).emb x) := by
  obtain ⟨q, l, rfl⟩ := cov2 (a := 8) (b := 128) x
  have hq := q.isLt
  have hl := l.isLt
  rw [hw, emb_unit rfl _ (ix2 ⟨b + q.val, by omega⟩ l : S1456x128.Idx) (by intro a; fin_cases a <;> [rfl; (show l.val = 0 + l.val; omega)])]
  rfl

/-- The table of scales the last run builds. -/
theorem table_at (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (X10 : BufTy.Contents (Elt Ideal) arg10.view.ty) (y : S1456x128.Idx) : arg10.view.read (Elt Ideal) (arg10.view.writes (Elt Ideal) X10 (runC.sl.H10_2 (F := Ideal) 𝒱 c i arg1 harg1 arg2 harg2 arg3 harg3 arg4 harg4 arg5 harg5 arg6 harg6 arg7 harg7 arg8 harg8 arg9 harg9 arg10 harg10 h2 X1 X7 X8 X9)) y = GS g y := by
  have hn : 45 ≤ (Scf.trips k0_t6_loop.lb k0_t6_loop.ub k0_t6_loop.st) := by decide
  obtain ⟨⟨-, hB⟩, -, hD⟩ := t6_all 𝒱 c i arg1 harg1 arg2 harg2 arg3 harg3 arg4 harg4 arg5 harg5 arg6 harg6 arg7 harg7 arg8 harg8 arg9 harg9 arg10 harg10 h2 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).1 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).2.1 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).2.2.1 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).2.2.2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 g (tail_off 𝒱 c i arg1 harg1 arg2 harg2 arg3 harg3 arg4 harg4 arg5 harg5 arg6 harg6 arg7 harg7 arg8 harg8 arg9 harg9 arg10 harg10 h2 X1 X7 X8 X9 g HF) HF (Scf.trips k0_t6_loop.lb k0_t6_loop.ub k0_t6_loop.st) (le_refl _)
  have y0 : (y 0).val < 1456 := (y 0).isLt
  have y1 : (y 1).val < 128 := (y 1).isLt
  unfold runC.sl.H10_2 runC.sl.H10_1
  refine read_writes_all arg10.view X10 (GS g) _ ?_ y ?_
  · exact List.forall_mem_cons.2 ⟨scale_piece8 g 1448 inb_S1456x128_S8x128_1448_0 _ (by decide) (tail_s1 𝒱 c i arg1 harg1 arg2 harg2 arg3 harg3 arg4 harg4 arg5 harg5 arg6 harg6 arg7 harg7 arg8 harg8 arg9 harg9 arg10 harg10 h2 X1 X7 X8 X9 g HF), List.forall_mem_cons.2 ⟨scale_piece8 g 1440 inb_S1456x128_S8x128_1440_0 _ (by decide) (tail_s0 𝒱 c i arg1 harg1 arg2 harg2 arg3 harg3 arg4 harg4 arg5 harg5 arg6 harg6 arg7 harg7 arg8 harg8 arg9 harg9 arg10 harg10 h2 X1 X7 X8 X9 g HF), hB⟩⟩
  · by_cases c1 : 1448 ≤ (y 0).val
    · refine ⟨_, List.mem_cons_self .., mem_unit (inb := inb_S1456x128_S8x128_1448_0) rfl y ?_⟩
      intro a
      fin_cases a
      · show 1448 ≤ (y 0).val ∧ (y 0).val < 1448 + 8; omega
      · show 0 ≤ (y 1).val ∧ (y 1).val < 0 + 128; omega
    · by_cases c2 : 1440 ≤ (y 0).val
      · refine ⟨_, List.mem_cons_of_mem _ (List.mem_cons_self ..), mem_unit (inb := inb_S1456x128_S8x128_1440_0) rfl y ?_⟩
        intro a
        fin_cases a
        · show 1440 ≤ (y 0).val ∧ (y 0).val < 1440 + 8; omega
        · show 0 ≤ (y 1).val ∧ (y 1).val < 0 + 128; omega
      · obtain ⟨p, hp, hm⟩ := hD y (by omega)
        exact ⟨p, List.mem_cons_of_mem _ (List.mem_cons_of_mem _ hp), hm⟩

/-- The codes the last run stores. -/
theorem codes_at (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (h2 : k0_cond2 i = 1#1) (X1 : BufTy.Contents (Elt Ideal) arg1.view.ty) (X7 : BufTy.Contents (Elt Ideal) arg7.view.ty) (X8 : BufTy.Contents (Elt Ideal) arg8.view.ty) (X9 : BufTy.Contents (Elt Ideal) arg9.view.ty) (g : ℕ → ℕ → EReal) (HF : ∀ (r : Fin 3584) (l : Fin 128), r.val < 2912 → arg8.view.read (Elt Ideal) (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (ix2 r l) = g r.val l.val) (X4 : BufTy.Contents (Elt Ideal) arg4.view.ty) (y : S1456x256.Idx) : arg4.view.read (Elt Ideal) (arg4.view.writes (Elt Ideal) X4 (runC.sl.H4_2 (F := Ideal) 𝒱 c i arg1 harg1 arg2 harg2 arg3 harg3 arg4 harg4 arg5 harg5 arg6 harg6 arg7 harg7 arg8 harg8 arg9 harg9 arg10 harg10 h2 X1 X7 X8 X9)) y = GC g y := by
  have hn : 45 ≤ (Scf.trips k0_t6_loop.lb k0_t6_loop.ub k0_t6_loop.st) := by decide
  obtain ⟨⟨hA, -⟩, hC, -⟩ := t6_all 𝒱 c i arg1 harg1 arg2 harg2 arg3 harg3 arg4 harg4 arg5 harg5 arg6 harg6 arg7 harg7 arg8 harg8 arg9 harg9 arg10 harg10 h2 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).1 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).2.1 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).2.2.1 (st_k0_t5 (F := Ideal) 𝒱 c none i arg1 harg1 arg2 harg2 arg3 harg3 arg4 harg4 arg5 harg5 arg6 harg6 arg7 harg7 arg8 harg8 arg9 harg9 arg10 harg10 h2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 (k0_pay95, k0_pay95, k0_pay95, k0_pay95) (Scf.trips k0_t5_loop.lb k0_t5_loop.ub k0_t5_loop.st)).2.2.2 (st1 (F := Ideal) 𝒱 c none i arg1 harg1 arg2 harg2 arg3 harg3 arg4 harg4 arg5 harg5 arg6 harg6 arg7 harg7 arg8 harg8 arg9 harg9 arg10 harg10 (runC.sl.v0 i) X1 (X7, X8, X9) (Scf.trips k0_t1_loop.lb k0_t1_loop.ub k0_t1_loop.st)).2.1 g (tail_off 𝒱 c i arg1 harg1 arg2 harg2 arg3 harg3 arg4 harg4 arg5 harg5 arg6 harg6 arg7 harg7 arg8 harg8 arg9 harg9 arg10 harg10 h2 X1 X7 X8 X9 g HF) HF (Scf.trips k0_t6_loop.lb k0_t6_loop.ub k0_t6_loop.st) (le_refl _)
  have y0 : (y 0).val < 1456 := (y 0).isLt
  have y1 : (y 1).val < 256 := (y 1).isLt
  unfold runC.sl.H4_2
  refine read_writes_all arg4.view X4 (GC g) _ ?_ y ?_
  · exact List.forall_mem_cons.2 ⟨code_piece16 g 128 inb_S1456x256_S16x128_1440_128 _ (by decide) (tail_c1 𝒱 c i arg1 harg1 arg2 harg2 arg3 harg3 arg4 harg4 arg5 harg5 arg6 harg6 arg7 harg7 arg8 harg8 arg9 harg9 arg10 harg10 h2 X1 X7 X8 X9 g HF), List.forall_mem_cons.2 ⟨code_piece16 g 0 inb_S1456x256_S16x128_1440_0 _ (by decide) (tail_c0 𝒱 c i arg1 harg1 arg2 harg2 arg3 harg3 arg4 harg4 arg5 harg5 arg6 harg6 arg7 harg7 arg8 harg8 arg9 harg9 arg10 harg10 h2 X1 X7 X8 X9 g HF), hA⟩⟩
  · by_cases c1 : 1440 ≤ (y 0).val
    · by_cases c2 : 128 ≤ (y 1).val
      · refine ⟨_, List.mem_cons_self .., mem_unit (inb := inb_S1456x256_S16x128_1440_128) rfl y ?_⟩
        intro a
        fin_cases a
        · show 1440 ≤ (y 0).val ∧ (y 0).val < 1440 + 16; omega
        · show 128 ≤ (y 1).val ∧ (y 1).val < 128 + 128; omega
      · refine ⟨_, List.mem_cons_of_mem _ (List.mem_cons_self ..), mem_unit (inb := inb_S1456x256_S16x128_1440_0) rfl y ?_⟩
        intro a
        fin_cases a
        · show 1440 ≤ (y 0).val ∧ (y 0).val < 1440 + 16; omega
        · show 0 ≤ (y 1).val ∧ (y 1).val < 0 + 128; omega
    · obtain ⟨p, hp, hm⟩ := hC y (by omega)
      exact ⟨p, List.mem_cons_of_mem _ (List.mem_cons_of_mem _ hp), hm⟩

/-- What the last run of the body leaves as the codes of the second quantisation. -/
theorem res_codes (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (C2 : BufTy.Contents (Elt Ideal) arg2.view.ty) (C3 : BufTy.Contents (Elt Ideal) arg3.view.ty) (C4 : BufTy.Contents (Elt Ideal) arg4.view.ty) (C5 : BufTy.Contents (Elt Ideal) arg5.view.ty) (C6 : BufTy.Contents (Elt Ideal) arg6.view.ty) (C7 : BufTy.Contents (Elt Ideal) arg7.view.ty) (C8 : BufTy.Contents (Elt Ideal) arg8.view.ty) (C9 : BufTy.Contents (Elt Ideal) arg9.view.ty) (C10 : BufTy.Contents (Elt Ideal) arg10.view.ty)
    (hres : Res (F := Ideal) 𝒱 c i arg1 harg1 arg2 harg2 arg3 harg3 arg4 harg4 arg5 harg5 arg6 harg6 arg7 harg7 arg8 harg8 arg9 harg9 arg10 harg10 X1 X2 X3 X4 X5 X6 X7 X8 X9 X10 C2 C3 C4 C5 C6 C7 C8 C9 C10) (hi : (i 0).val = 25) (g : ℕ → ℕ → EReal)
    (HF : ∀ (r : Fin 3584) (l : Fin 128), r.val < 2912 → arg8.view.read (Elt Ideal) C8 (ix2 r l) = g r.val l.val) :
    arg4.view.read (Elt Ideal) C4 = GC g := by
  rcases hres with ⟨h1, h2, -⟩ | ⟨h1, h2, -⟩ | ⟨h1, h2, -, -, e4, -, -, -, e8, -, -⟩
  · exact absurd ((cond2_iff i).2 hi) h2
  · exact absurd ((cond2_iff i).2 hi) h2
  · unfold runC at e4 e8
    dsimp only at e4 e8
    rw [e8] at HF
    rw [e4]
    funext y
    exact codes_at 𝒱 c i arg1 harg1 arg2 harg2 arg3 harg3 arg4 harg4 arg5 harg5 arg6 harg6 arg7 harg7 arg8 harg8 arg9 harg9 arg10 harg10 h2 X1 X7 X8 X9 g HF _ y

end Cert.Proof.KernelIdeal

end
-- ==== Proof.V21.lean ====
module

public import proofs.«01_k».proof.Proof.KernelIdealBody
public import proofs.«01_k».proof.Proof.Gen.KernelIdeal.Loops
public import proofs.«01_k».proof.Proof.Gen.KernelIdeal
public import proofs.«01_k».proof.Proof.V20
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (offV dv rmV scV s2V qcV qV gx)

/-- The mask of the diagonal. -/
theorem eye_at (k l : Fin 128) : k0_pay119 (ix2 k l) = if k = l then 1#1 else 0#1 := by
  unfold k0_pay119
  pointwise []
  have hk := k.isLt
  have hl := l.isLt
  by_cases h : k = l
  · subst h
    simp [IntOp.cmpi]
  · have h' : ¬ BitVec.ofNat 32 k.val = BitVec.ofNat 32 l.val := fun e => h (Fin.ext (by
      have := congrArg BitVec.toNat e
      simp only [BitVec.toNat_ofNat] at this
      omega))
    rw [if_neg h]
    simp only [IntOp.cmpi]
    rw [beq_eq_false_iff_ne.2 h']
    rfl

/-- The zero literal. -/
theorem zlit : (FloatOps.ofBits (F := Ideal) .f32 0x00000000#32 : EReal) = 0 := by
  show Ideal.ofBits .f32 0x00000000#32 = 0
  simp [Ideal.ofBits, Ideal.ieee]

/-- The sum down a column of a table masked to its diagonal. -/
theorem diag_sum (v : Vec Ideal S128x128 .f32) (l : Fin 128) :
    multiReduction (F := Ideal) .add [0] S128 (select k0_pay119 v (broadcast S128x128 (Scalar.ofBits (F := Ideal) .f32 0x00000000#32))) 0x00000000#32 reduces_S128x128_S128 (.inl rfl) rfl (ix1 l) = v (ix2 l l) := by
  refine (Ideal.multiReduction_add_single (s := S128x128) (t := S128) _ _ _ _ _ _).trans ?_
  have hz : ∀ k : Fin 128, (select k0_pay119 v (broadcast S128x128 (Scalar.ofBits (F := Ideal) .f32 0x00000000#32)) : Vec Ideal S128x128 .f32) (reduces_S128x128_S128.lift (ix1 l) k) = if k = l then v (ix2 l l) else 0 := fun k => by
    have e : reduces_S128x128_S128.lift (ix1 l) k = (ix2 k l : S128x128.Idx) := by
      funext a
      fin_cases a <;> rfl
    rw [e]
    pointwise []
    rw [eye_at]
    by_cases h : k = l
    · subst h; simp only [if_true]; rfl
    · simp only [if_neg h]
      rfl
  refine (Finset.sum_congr rfl fun k _ => hz k).trans ?_
  exact (Finset.sum_ite_eq' Finset.univ l fun _ => v (ix2 l l)).trans (if_pos (Finset.mem_univ _))

/-- The same for a table of 48 rows, in its first 48 columns. -/
theorem diag_sum48 (v : Vec Ideal S48x128 .f32) (l : Fin 128) (r : Fin 48) (hr : r.val = l.val) :
    multiReduction (F := Ideal) .add [0] S128 (select (extractStridedSlice S48x128 ![0, 0] k0_pay119 slices_S128x128_o0_0_S48x128) v (broadcast S48x128 (Scalar.ofBits (F := Ideal) .f32 0x00000000#32))) 0x00000000#32 reduces_S48x128_S128 (.inl rfl) rfl (ix1 l) = v (ix2 r l) := by
  refine (Ideal.multiReduction_add_single (s := S48x128) (t := S128) _ _ _ _ _ _).trans ?_
  have hz : ∀ k : Fin 48, (select (extractStridedSlice S48x128 ![0, 0] k0_pay119 slices_S128x128_o0_0_S48x128) v (broadcast S48x128 (Scalar.ofBits (F := Ideal) .f32 0x00000000#32)) : Vec Ideal S48x128 .f32) (reduces_S48x128_S128.lift (ix1 l) k) = if k = r then v (ix2 r l) else 0 := fun k => by
    have e : reduces_S48x128_S128.lift (ix1 l) k = (ix2 k l : S48x128.Idx) := by
      funext a
      fin_cases a <;> rfl
    have hk := k.isLt
    have e2 : (extractStridedSlice S48x128 ![0, 0] k0_pay119 slices_S128x128_o0_0_S48x128 : IVec S48x128 1) (ix2 k l) = k0_pay119 (ix2 ⟨k.val, by omega⟩ l) := by
      pointwise []
    rw [e]
    show (if extractStridedSlice S48x128 ![0, 0] k0_pay119 slices_S128x128_o0_0_S48x128 (ix2 k l) = 1#1 then v (ix2 k l) else _) = _
    rw [e2, eye_at]
    by_cases h : k = r
    · subst h; simp [Fin.ext_iff, hr]
    · have h' : ¬ (⟨k.val, by omega⟩ : Fin 128) = l := fun h' => h (Fin.ext (by rw [hr, ← h']))
      simp only [if_neg h, if_neg h']
      exact zlit
  refine (Finset.sum_congr rfl fun k _ => hz k).trans ?_
  exact (Finset.sum_ite_eq' Finset.univ r fun _ => v (ix2 r l)).trans (if_pos (Finset.mem_univ _))

/-- The stored row of scales: the table's diagonal. -/
theorem diag_at (v : Vec Ideal S128x128 .f32) (z : Fin 1) (l : Fin 128) : k0_pay120 (F := Ideal) v (ix2 z l) = v (ix2 l l) := by
  refine Eq.trans ?_ (diag_sum v l)
  unfold k0_pay120
  pointwise []

/-- The stored last row of scales: the table's diagonal. -/
theorem diag48_at (v : Vec Ideal S48x128 .f32) (z : Fin 1) (l : Fin 48) : k0_pay2 (F := Ideal) k0_pay119 v (ix2 z l) = v (ix2 l ⟨l.val, by omega⟩) := by
  refine Eq.trans ?_ (diag_sum48 v ⟨l.val, by omega⟩ l rfl)
  unfold k0_pay2
  pointwise []

end Cert.Proof.KernelIdeal

end
-- ==== Proof.V22.lean ====
module

public import proofs.«01_k».proof.Proof.KernelIdealBody
public import proofs.«01_k».proof.Proof.Gen.KernelIdeal.Loops
public import proofs.«01_k».proof.Proof.Gen.KernelIdeal
public import proofs.«01_k».proof.Proof.V21
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (offV dv rmV scV s2V qcV qV gx)

/-- The scales as one row. -/
def GR (g : ℕ → ℕ → EReal) (y : S1x1456.Idx) : EReal := s2V g (y 1).val

/-- A stored run of 128 scales is right, when the table it is cut from is. -/
theorem row_piece (g : ℕ → ℕ → EReal) (arg10 : Memref sig .tc .vmem S1456x128 .f32) (X : BufTy.Contents (Elt Ideal) arg10.view.ty) (hX : ∀ y, arg10.view.read (Elt Ideal) X y = GS g y)
    (d : ℕ) (inb1) (inb2) (hd : d + 128 ≤ 1456) (x : S1x128.Idx) :
    k0_pay120 (F := Ideal) (View.readAt (Elt Ideal) arg10.view (Rect.unit (s := S1456x128) ![d, 0] S128x128.size inb1).toLoadRect X) x = GR g ((Rect.unit (s := S1x1456) ![0, d] S1x128.size inb2).emb x) := by
  obtain ⟨q, l, rfl⟩ := cov2 (a := 1) (b := 128) x
  have hl := l.isLt
  have hq := q.isLt
  rw [diag_at, emb_unit rfl _ (ix2 q ⟨d + l.val, by omega⟩ : S1x1456.Idx) (by intro a; fin_cases a <;> [(show q.val = 0 + q.val; omega); rfl])]
  refine (rd_stride arg10.view X _ ![d, 0] rfl _ (ix2 ⟨d + l.val, by omega⟩ l) ?_).trans ((hX _).trans rfl)
  intro a
  fin_cases a
  · show d + l.val = d + 1 * l.val; omega
  · show l.val = 0 + 1 * l.val; omega

/-- The last stored run of 48 scales is right, when the table it is cut from is. -/
theorem row_piece48 (g : ℕ → ℕ → EReal) (arg10 : Memref sig .tc .vmem S1456x128 .f32) (X : BufTy.Contents (Elt Ideal) arg10.view.ty) (hX : ∀ y, arg10.view.read (Elt Ideal) X y = GS g y)
    (inb1) (inb2) (x : S1x48.Idx) :
    k0_pay2 (F := Ideal) k0_pay119 (View.readAt (Elt Ideal) arg10.view (Rect.unit (s := S1456x128) ![1408, 0] S48x128.size inb1).toLoadRect X) x = GR g ((Rect.unit (s := S1x1456) ![0, 1408] S1x48.size inb2).emb x) := by
  obtain ⟨q, l, rfl⟩ := cov2 (a := 1) (b := 48) x
  have hl := l.isLt
  have hq := q.isLt
  rw [diag48_at, emb_unit rfl _ (ix2 q ⟨1408 + l.val, by omega⟩ : S1x1456.Idx) (by intro a; fin_cases a <;> [(show q.val = 0 + q.val; omega); rfl])]
  refine (rd_stride arg10.view X _ ![1408, 0] rfl _ (ix2 ⟨1408 + l.val, by omega⟩ ⟨l.val, by omega⟩) ?_).trans ((hX _).trans rfl)
  intro a
  fin_cases a
  · show 1408 + l.val = 1408 + 1 * l.val; omega
  · show l.val = 0 + 1 * l.val; omega

/-- What the last run of the body leaves as the scales of the second quantisation. -/
theorem res_scales (𝒱 : Variants) (c : Dev nD) (i : grid0.Coords) (arg1 : Memref sig .tc .vmem S1x64x14336 .bf16) (harg1 : arg1.IsWhole) (arg2 : Memref sig .tc .vmem S1x32x14336 .i8) (harg2 : arg2.IsWhole) (arg3 : Memref sig .tc .vmem S1x26x14336 .f32) (harg3 : arg3.IsWhole) (arg4 : Memref sig .tc .vmem S1456x256 .i8) (harg4 : arg4.IsWhole) (arg5 : Memref sig .tc .vmem S1x1456 .f32) (harg5 : arg5.IsWhole) (arg6 : Memref sig .tc .smem S1x1 .f32) (harg6 : arg6.IsWhole) (arg7 : Memref sig .tc .vmem S14x71x2x128 .bf16) (harg7 : arg7.IsWhole) (arg8 : Memref sig .tc .vmem S3584x128 .f32) (harg8 : arg8.IsWhole) (arg9 : Memref sig .tc .vmem S112x2x128 .bf16) (harg9 : arg9.IsWhole) (arg10 : Memref sig .tc .vmem S1456x128 .f32) (harg10 : arg10.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (C2 : BufTy.Contents (Elt Ideal) arg2.view.ty) (C3 : BufTy.Contents (Elt Ideal) arg3.view.ty) (C4 : BufTy.Contents (Elt Ideal) arg4.view.ty) (C5 : BufTy.Contents (Elt Ideal) arg5.view.ty) (C6 : BufTy.Contents (Elt Ideal) arg6.view.ty) (C7 : BufTy.Contents (Elt Ideal) arg7.view.ty) (C8 : BufTy.Contents (Elt Ideal) arg8.view.ty) (C9 : BufTy.Contents (Elt Ideal) arg9.view.ty) (C10 : BufTy.Contents (Elt Ideal) arg10.view.ty)
    (hres : Res (F := Ideal) 𝒱 c i arg1 harg1 arg2 harg2 arg3 harg3 arg4 harg4 arg5 harg5 arg6 harg6 arg7 harg7 arg8 harg8 arg9 harg9 arg10 harg10 X1 X2 X3 X4 X5 X6 X7 X8 X9 X10 C2 C3 C4 C5 C6 C7 C8 C9 C10) (hi : (i 0).val = 25) (g : ℕ → ℕ → EReal)
    (HF : ∀ (r : Fin 3584) (l : Fin 128), r.val < 2912 → arg8.view.read (Elt Ideal) C8 (ix2 r l) = g r.val l.val) :
    arg5.view.read (Elt Ideal) C5 = GR g := by
  rcases hres with ⟨h1, h2, -⟩ | ⟨h1, h2, -⟩ | ⟨h1, h2, -, -, -, e5, -, -, e8, -, -⟩
  · exact absurd ((cond2_iff i).2 hi) h2
  · exact absurd ((cond2_iff i).2 hi) h2
  · unfold runC at e5 e8
    dsimp only at e5 e8
    rw [e8] at HF
    rw [e5]
    funext y
    have hX := table_at 𝒱 c i arg1 harg1 arg2 harg2 arg3 harg3 arg4 harg4 arg5 harg5 arg6 harg6 arg7 harg7 arg8 harg8 arg9 harg9 arg10 harg10 h2 X1 X7 X8 X9 g HF X10
    have y0 : (y 0).val < 1 := (y 0).isLt
    have y1 : (y 1).val < 1456 := (y 1).isLt
    unfold runC.sl.H5_6 runC.sl.H5_1 runC.sl.r_11 runC.sl.r_12 runC.sl.r_13
    generalize arg10.view.writes (Elt Ideal) X10 (runC.sl.H10_2 (F := Ideal) 𝒱 c i arg1 harg1 arg2 harg2 arg3 harg3 arg4 harg4 arg5 harg5 arg6 harg6 arg7 harg7 arg8 harg8 arg9 harg9 arg10 harg10 h2 X1 X7 X8 X9) = T at hX
    refine read_writes_all arg5.view X5 (GR g) _ ?_ y ?_
    · exact List.forall_mem_cons.2 ⟨row_piece48 g arg10 T hX inb_S1456x128_S48x128_1408_0 inb_S1x1456_S1x48_0_1408, List.forall_mem_cons.2 ⟨row_piece g arg10 T hX 1280 inb_S1456x128_S128x128_1280_0 inb_S1x1456_S1x128_0_1280 (by decide), List.forall_mem_cons.2 ⟨row_piece g arg10 T hX 1152 inb_S1456x128_S128x128_1152_0 inb_S1x1456_S1x128_0_1152 (by decide), List.forall_mem_cons.2 ⟨row_piece g arg10 T hX 1024 inb_S1456x128_S128x128_1024_0 inb_S1x1456_S1x128_0_1024 (by decide), List.forall_mem_cons.2 ⟨row_piece g arg10 T hX 896 inb_S1456x128_S128x128_896_0 inb_S1x1456_S1x128_0_896 (by decide), List.forall_mem_cons.2 ⟨row_piece g arg10 T hX 768 inb_S1456x128_S128x128_768_0 inb_S1x1456_S1x128_0_768 (by decide), List.forall_mem_cons.2 ⟨row_piece g arg10 T hX 640 inb_S1456x128_S128x128_640_0 inb_S1x1456_S1x128_0_640 (by decide), List.forall_mem_cons.2 ⟨row_piece g arg10 T hX 512 inb_S1456x128_S128x128_512_0 inb_S1x1456_S1x128_0_512 (by decide), List.forall_mem_cons.2 ⟨row_piece g arg10 T hX 384 inb_S1456x128_S128x128_384_0 inb_S1x1456_S1x128_0_384 (by decide), List.forall_mem_cons.2 ⟨row_piece g arg10 T hX 256 inb_S1456x128_S128x128_256_0 inb_S1x1456_S1x128_0_256 (by decide), List.forall_mem_cons.2 ⟨row_piece g arg10 T hX 128 inb_S1456x128_S128x128_128_0 inb_S1x1456_S1x128_0_128 (by decide), List.forall_mem_cons.2 ⟨row_piece g arg10 T hX 0 inb_S1456x128_S128x128_0_0 inb_S1x1456_S1x128_0_0 (by decide), fun _ h => absurd h List.not_mem_nil⟩⟩⟩⟩⟩⟩⟩⟩⟩⟩⟩⟩
    · by_cases c0 : 1408 ≤ (y 1).val
      · refine ⟨_, List.mem_cons_self .., mem_unit (inb := inb_S1x1456_S1x48_0_1408) rfl y ?_⟩
        intro a
        fin_cases a
        · show 0 ≤ (y 0).val ∧ (y 0).val < 0 + 1; omega
        · show 1408 ≤ (y 1).val ∧ (y 1).val < 1408 + 48; omega
      · by_cases c1 : 1280 ≤ (y 1).val
        · refine ⟨_, List.mem_cons_of_mem _ (List.mem_cons_self ..), mem_unit (inb := inb_S1x1456_S1x128_0_1280) rfl y ?_⟩
          intro a
          fin_cases a
          · show 0 ≤ (y 0).val ∧ (y 0).val < 0 + 1; omega
          · show 1280 ≤ (y 1).val ∧ (y 1).val < 1280 + 128; omega
        · by_cases c2 : 1152 ≤ (y 1).val
          · refine ⟨_, List.mem_cons_of_mem _ (List.mem_cons_of_mem _ (List.mem_cons_self ..)), mem_unit (inb := inb_S1x1456_S1x128_0_1152) rfl y ?_⟩
            intro a
            fin_cases a
            · show 0 ≤ (y 0).val ∧ (y 0).val < 0 + 1; omega
            · show 1152 ≤ (y 1).val ∧ (y 1).val < 1152 + 128; omega
          · by_cases c3 : 1024 ≤ (y 1).val
            · refine ⟨_, List.mem_cons_of_mem _ (List.mem_cons_of_mem _ (List.mem_cons_of_mem _ (List.mem_cons_self ..))), mem_unit (inb := inb_S1x1456_S1x128_0_1024) rfl y ?_⟩
              intro a
              fin_cases a
              · show 0 ≤ (y 0).val ∧ (y 0).val < 0 + 1; omega
              · show 1024 ≤ (y 1).val ∧ (y 1).val < 1024 + 128; omega
            · by_cases c4 : 896 ≤ (y 1).val
              · refine ⟨_, List.mem_cons_of_mem _ (List.mem_cons_of_mem _ (List.mem_cons_of_mem _ (List.mem_cons_of_mem _ (List.mem_cons_self ..)))), mem_unit (inb := inb_S1x1456_S1x128_0_896) rfl y ?_⟩
                intro a
                fin_cases a
                · show 0 ≤ (y 0).val ∧ (y 0).val < 0 + 1; omega
                · show 896 ≤ (y 1).val ∧ (y 1).val < 896 + 128; omega
              · by_cases c5 : 768 ≤ (y 1).val
                · refine ⟨_, List.mem_cons_of_mem _ (List.mem_cons_of_mem _ (List.mem_cons_of_mem _ (List.mem_cons_of_mem _ (List.mem_cons_of_mem _ (List.mem_cons_self ..))))), mem_unit (inb := inb_S1x1456_S1x128_0_768) rfl y ?_⟩
                  intro a
                  fin_cases a
                  · show 0 ≤ (y 0).val ∧ (y 0).val < 0 + 1; omega
                  · show 768 ≤ (y 1).val ∧ (y 1).val < 768 + 128; omega
                · by_cases c6 : 640 ≤ (y 1).val
                  · refine ⟨_, List.mem_cons_of_mem _ (List.mem_cons_of_mem _ (List.mem_cons_of_mem _ (List.mem_cons_of_mem _ (List.mem_cons_of_mem _ (List.mem_cons_of_mem _ (List.mem_cons_self ..)))))), mem_unit (inb := inb_S1x1456_S1x128_0_640) rfl y ?_⟩
                    intro a
                    fin_cases a
                    · show 0 ≤ (y 0).val ∧ (y 0).val < 0 + 1; omega
                    · show 640 ≤ (y 1).val ∧ (y 1).val < 640 + 128; omega
                  · by_cases c7 : 512 ≤ (y 1).val
                    · refine ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), mem_unit (inb := inb_S1x1456_S1x128_0_512) rfl y ?_⟩
                      intro a
                      fin_cases a
                      · show 0 ≤ (y 0).val ∧ (y 0).val < 0 + 1; omega
                      · show 512 ≤ (y 1).val ∧ (y 1).val < 512 + 128; omega
                    · by_cases c8 : 384 ≤ (y 1).val
                      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), mem_unit (inb := inb_S1x1456_S1x128_0_384) rfl y ?_⟩
                        intro a
                        fin_cases a
                        · show 0 ≤ (y 0).val ∧ (y 0).val < 0 + 1; omega
                        · show 384 ≤ (y 1).val ∧ (y 1).val < 384 + 128; omega
                      · by_cases c9 : 256 ≤ (y 1).val
                        · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), mem_unit (inb := inb_S1x1456_S1x128_0_256) rfl y ?_⟩
                          intro a
                          fin_cases a
                          · show 0 ≤ (y 0).val ∧ (y 0).val < 0 + 1; omega
                          · show 256 ≤ (y 1).val ∧ (y 1).val < 256 + 128; omega
                        · by_cases c10 : 128 ≤ (y 1).val
                          · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), mem_unit (inb := inb_S1x1456_S1x128_0_128) rfl y ?_⟩
                            intro a
                            fin_cases a
                            · show 0 ≤ (y 0).val ∧ (y 0).val < 0 + 1; omega
                            · show 128 ≤ (y 1).val ∧ (y 1).val < 128 + 128; omega
                          · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), mem_unit (inb := inb_S1x1456_S1x128_0_0) rfl y ?_⟩
                            intro a
                            fin_cases a
                            · show 0 ≤ (y 0).val ∧ (y 0).val < 0 + 1; omega
                            · show 0 ≤ (y 1).val ∧ (y 1).val < 0 + 128; omega

end Cert.Proof.KernelIdeal

end
-- ==== Proof.V23.lean ====
module

public import proofs.«01_k».proof.Proof.KernelIdealBody
public import proofs.«01_k».proof.Proof.Gen.KernelIdeal.Loops
public import proofs.«01_k».proof.Proof.Gen.KernelIdeal
public import proofs.«01_k».proof.Proof.V22
public import Idealize.ShloMosaic.Lib.Tactic
public import Idealize.ShloMosaic.Lib.Pointwise
public import Idealize.ShloMosaic.Lib.Tactic.IndexArith

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.ReferenceIdeal (blk amax_at gx_eq offV dv rmV scV s2V qcV qV gx)

variable (m : (ℓ : Loc nD τ sig) → Buf (Elt Ideal) ℓ)

/-- What a run of the body leaves in each window, of the weights. -/
def aftI (x : S1x1664x14336.Idx → EReal) : AftTy Ideal := fun (w : Fin 6) (t : Fin cfg0.N) =>
  match w with
  | 0 => fun (Y X : S1x64x14336.Idx → EReal) => X = Y
  | 1 => fun (_ X : S1x32x14336.Idx → BitVec 8) => X = packG (blk x (bk t))
  | 2 => fun (Y X : S1x26x14336.Idx → EReal) => ∀ (r : Fin 26) (l : Fin 14336), X (ix3 0 r l)
      = if (t.val % 8 = 7 ∧ t.val - 7 ≤ r.val ∧ r.val ≤ t.val) ∨ (t.val = 25 ∧ 24 ≤ r.val) then cm (blk x r) l.val else Y (ix3 0 r l)
  | 3 => fun (_ X : S1456x256.Idx → BitVec 8) => t.val = 25 → X = GC (gx x)
  | 4 => fun (_ X : S1x1456.Idx → EReal) => t.val = 25 → X = GR (gx x)
  | 5 => fun (_ X : S1x1.Idx → EReal) => t.val = 25 → X = fun _ => offV (gx x)

/-- The table of maxima as the runs so far have filled it. -/
def flatI (x : S1x1664x14336.Idx → EReal) (t : ℕ) (f : BufTy.Contents (Elt Ideal) (Memref.whole cc0_scratch1).view.ty) : Prop :=
  ∀ (r : Fin 3584) (l : Fin 128), r.val < t * 112 → (Memref.whole cc0_scratch1).view.read (Elt Ideal) f (ix2 r l) = gx x r.val l.val

/-- One run of the body leaves what is said of it. -/
theorem step (c : Dev nD) (x : S1x1664x14336.Idx → EReal) (hx : wts m c = x) : Step m (aftI x) (flatI x) c := by
  intro t Y hY X1 X2 X3 X4 X5 X6 X7 X8 X9 X10 C2 C3 C4 C5 C6 C7 C8 C9 C10 e1 e2 e3 e4 e5 e6 hP hres
  have hf : Y 0 = blk x (bk t) := (fetched_at m (aftI x) (flatI x) c t (Y 0) (hY 0)).trans (by rw [hx])
  have ht : t.val < 26 := t.isLt
  have ci : ((grid0.coords t) 0).val = t.val := coord0 t
  obtain ⟨p1, p2⟩ := res_pack _ _ _ _ _ _ _ _ _ _ _ _ _ _ _ _ _ _ _ _ _ _ _ _ _ _ _ _ _ _ _ _ _ _ _ _ _ _ _ _ _ _ hres
  have p3 := res_abs _ _ _ _ _ _ _ _ _ _ _ _ _ _ _ _ _ _ _ _ _ _ _ _ _ _ _ _ _ _ _ _ _ _ _ _ _ _ _ _ _ _ hres
  rw [e1, hf] at p1 p2
  rw [ci] at p2 p3
  have hP' : flatI x (t.val + 1) C8 := by
    intro r l hr
    have hl := l.isLt
    rw [p2 r l]
    split_ifs with h
    · exact (gx_eq x (bk t) ((r.val - t.val * 112) * 128 + l.val) r.val l.val (by show r.val = t.val * 112 + _; omega) (by omega) (by omega)).symm
    · exact hP r l (by omega)
  have HF : ∀ _ : t.val = 25, ∀ (r : Fin 3584) (l : Fin 128), r.val < 2912 → (Memref.whole cc0_scratch1).view.read (Elt Ideal) C8 (ix2 r l) = gx x r.val l.val := by
    intro h25 r l hr
    exact hP' r l (by omega)
  refine ⟨rfl, p1, ?_, ?_, ?_, ?_, hP'⟩
  · intro r l
    have hr := r.isLt
    have hl := l.isLt
    refine (p3 r l).trans ?_
    rw [e3]
    split_ifs with h
    · have hrt : r.val ≤ t.val := by omega
      rw [← fl_eq _ r.val l.val (⟨r.val * 112 + l.val / 128, by omega⟩ : Fin 3584) (⟨l.val % 128, by omega⟩ : Fin 128) rfl rfl]
      rw [hP' _ _ (by show r.val * 112 + l.val / 128 < _; omega)]
      exact gx_eq x r l.val _ _ rfl rfl hl
    · rfl
  · intro h25
    exact res_codes _ _ _ _ _ _ _ _ _ _ _ _ _ _ _ _ _ _ _ _ _ _ _ _ _ _ _ _ _ _ _ _ _ _ _ _ _ _ _ _ _ _ hres (ci.trans h25) (gx x) (HF h25)
  · intro h25
    exact res_scales _ _ _ _ _ _ _ _ _ _ _ _ _ _ _ _ _ _ _ _ _ _ _ _ _ _ _ _ _ _ _ _ _ _ _ _ _ _ _ _ _ _ hres (ci.trans h25) (gx x) (HF h25)
  · intro h25
    exact res_off _ _ _ _ _ _ _ _ _ _ _ _ _ _ _ _ _ _ _ _ _ _ _ _ _ _ _ _ _ _ _ _ _ _ _ _ _ _ _ _ _ _ hres (ci.trans h25) (gx x) (HF h25)

/-- The rows of maxima already stored when a point is reached. -/
theorem abs_found (c : Dev nD) (x : S1x1664x14336.Idx → EReal) : ∀ (n : ℕ) (hn : n < cfg0.N) (X : S1x26x14336.Idx → EReal), (rdat m (aftI x) (flatI x) c).Finds 2 ⟨n, hn⟩ X →
    ∀ (r : Fin 26) (l : Fin 14336), r.val < n / 8 * 8 → X (ix3 0 r l) = cm (blk x r) l.val
  | 0, _, _, _ => fun r l hr => absurd hr (by omega)
  | n + 1, hn, X, h => by
    intro r l hr
    have hn' : n + 1 < 26 := hn
    rcases (Pipeline.RDat.finds_of_pos (rdat m (aftI x) (flatI x) c) (w := 2) (t := ⟨n + 1, hn⟩) ((cfg0.win 2).fetch_out rfl _) (Nat.succ_ne_zero n) X).1 h with hfl | ⟨Y, hY, hA⟩
    · have := (flush0_2 _).1 hfl
      have e : n % 26 = 25 := this
      omega
    · have ih := abs_found c x n (by omega) Y hY
      have hA' : X (ix3 0 r l) = if (n % 8 = 7 ∧ n - 7 ≤ r.val ∧ r.val ≤ n) ∨ (n = 25 ∧ 24 ≤ r.val) then cm (blk x r) l.val else Y (ix3 0 r l) := hA r l
      rw [hA']
      split_ifs with hc
      · rfl
      · exact ih r l (by omega)

/-- The rows of maxima after the last point. -/
theorem abs_left (c : Dev nD) (x : S1x1664x14336.Idx → EReal) (X : S1x26x14336.Idx → EReal) (h : (rdat m (aftI x) (flatI x) c).Leaves 2 ⟨25, by decide⟩ X)
    (r : Fin 26) (l : Fin 14336) : X (ix3 0 r l) = cm (blk x r) l.val := by
  obtain ⟨Y, hY, hA⟩ := h
  have ih := abs_found m c x 25 (by decide) Y hY
  have hA' : X (ix3 0 r l) = if (25 % 8 = 7 ∧ 25 - 7 ≤ r.val ∧ r.val ≤ 25) ∨ (25 = 25 ∧ 24 ≤ r.val) then cm (blk x r) l.val else Y (ix3 0 r l) := hA r l
  rw [hA']
  split_ifs with hc
  · rfl
  · exact ih r l (by omega)

end Cert.Proof.KernelIdeal

end
-- ==== Proof.Algebraic.lean ====
module

public import proofs.«01_k».proof.Defs
public import proofs.«01_k».proof.Proof.V23
public import Idealize.ShloMosaic.Lib.Pipeline.ArrRel

@[expose] public section

set_option maxRecDepth 16384
set_option maxHeartbeats 100000

noncomputable section

namespace Cert.Proof.KernelIdeal

open Cert.KernelIdeal Cert.KernelIdeal.Gen
open Idealize.ShloMosaic Idealize.ShloMosaic.TcCoe Idealize.ShloMosaic.Tactic
open Idealize.SL Idealize.SL.Sem
open Idealize.ShloMosaic.Pipeline (RDat Dat)
open Cert.Proof.ReferenceIdeal (blk amax_at q_at scales_at offset_at gx offV)
open Cert.ReferenceIdeal.Read (val_main_v84 val_main_v10 val_main_v103 val_main_v104 val_main_v105)

variable (m : (ℓ : Loc nD τ sig) → Buf (Elt Ideal) ℓ)

/-- The kernel's run ends with the reference's five results of the weights, the weights unchanged. -/
theorem run_values (ρ : Dev nD → PrngReg) :
    θ_run defs (onTc (τ := τ) (main (F := Ideal))) ⟨m, fun _ => 0, ρ⟩ (fun r => ∀ c : Dev nD,
      r.2.mem ((c.tc : Thread nD τ).loc main_v0_0) = val_main_v84 (F := Ideal) (wts m c)
      ∧ r.2.mem ((c.tc : Thread nD τ).loc main_v0_1) = val_main_v10 (F := Ideal) (wts m c)
      ∧ r.2.mem ((c.tc : Thread nD τ).loc main_v0_2) = val_main_v103 (F := Ideal) (wts m c)
      ∧ r.2.mem ((c.tc : Thread nD τ).loc main_v0_3) = val_main_v104 (F := Ideal) (wts m c)
      ∧ r.2.mem ((c.tc : Thread nD τ).loc main_v0_4) = val_main_v105 (F := Ideal) (wts m c)
      ∧ r.2.mem ((c.tc : Thread nD τ).loc main_arg0) = m ((c.tc : Thread nD τ).loc main_arg0)) := by
  have hsub : ∀ c c' : Dev nD, c = c' := by decide
  have c0 : Dev nD := ⟨0, by decide⟩
  refine (θ_run defs _ _).mono (fun r h c => ?_)
    (run_main m ρ (aftI (wts m c0)) (flatI (wts m c0)) (fun f r l hr => absurd hr (by omega)) (fun c => step m c (wts m c0) (by rw [hsub c c0])))
  obtain rfl : c0 = c := hsub _ _
  obtain ⟨after, hL, hA⟩ := h.1.exists_exact c0
  have hl25 : ∀ w, (cfg0.win w).flush ⟨25, by decide⟩ = true → (rdat m (aftI (wts m c0)) (flatI (wts m c0)) c0).Leaves w ⟨25, by decide⟩ (after w ⟨25, by decide⟩) := fun w hf => hL w _ hf
  refine ⟨?_, ?_, ?_, ?_, ?_, (RDat.FramePost.arr_in h.1 c0 0 rfl).trans rfl⟩
  · refine (hA 1).trans (packed_arr m _ _ c0 after (val_main_v84 (F := Ideal) (wts m c0)) ?_)
    intro t y q hq
    obtain ⟨Y, -, hX⟩ := hL 1 t (flush0_1 t)
    have hX' : after 1 t = packG (blk (wts m c0) (bk t)) := hX
    rw [hX']
    obtain ⟨r, k, rfl⟩ := cov3 (a := 32) (b := 14336) y
    exact byte_eq (wts m c0) (bk t) r k q hq
  · refine (hA 2).trans (arr2 m _ _ c0 after (val_main_v10 (F := Ideal) (wts m c0)) ?_)
    funext y
    obtain ⟨r, k, rfl⟩ := cov3 (a := 26) (b := 14336) y
    exact (abs_left m c0 (wts m c0) _ (hl25 2 ((flush0_2 _).2 rfl)) r k).trans (amax_at (wts m c0) r k).symm
  · refine (hA 3).trans (arr3 m _ _ c0 after (val_main_v103 (F := Ideal) (wts m c0)) ?_)
    obtain ⟨Y, -, hX⟩ := hl25 3 ((flush0_3 _).2 rfl)
    have hX' : after 3 ⟨25, by decide⟩ = GC (gx (wts m c0)) := hX rfl
    rw [hX']
    funext y
    obtain ⟨r, k, rfl⟩ := cov2 (a := 1456) (b := 256) y
    exact (q_at (wts m c0) r k).symm
  · refine (hA 4).trans (arr4 m _ _ c0 after (val_main_v104 (F := Ideal) (wts m c0)) ?_)
    obtain ⟨Y, -, hX⟩ := hl25 4 ((flush0_4 _).2 rfl)
    have hX' : after 4 ⟨25, by decide⟩ = GR (gx (wts m c0)) := hX rfl
    rw [hX']
    funext y
    obtain ⟨z, k, rfl⟩ := cov2 (a := 1) (b := 1456) y
    obtain rfl : z = 0 := Subsingleton.elim _ _
    exact (scales_at (wts m c0) k).symm
  · refine (hA 5).trans (arr5 m _ _ c0 after (val_main_v105 (F := Ideal) (wts m c0)) ?_)
    obtain ⟨Y, -, hX⟩ := hl25 5 ((flush0_5 _).2 rfl)
    have hX' : after 5 ⟨25, by decide⟩ = fun _ => offV (gx (wts m c0)) := hX rfl
    rw [hX']
    funext y
    exact (offset_at (wts m c0) y).symm

end Cert.Proof.KernelIdeal

namespace Cert.Proof

open Idealize.ShloMosaic Idealize.SL Idealize.SL.Sem

/-- On extended reals the kernel and the reference end with the same five results. -/
theorem algebraic : @Cert.algebraic_KernelIdeal_ReferenceIdeal Cert.KernelIdeal.Gen.facts Cert.ReferenceIdeal.Gen.facts := by
  intro m g m' g' _ hm
  refine ⟨_, _, _, _, _, Cert.Proof.KernelIdeal.run_values m g, ?_⟩
  refine (θ_run Cert.ReferenceIdeal.defs _ _).mono (fun r h c => ?_) (Cert.ReferenceIdeal.Value.run (F := Ideal) m' g')
  obtain ⟨h0, h1, h2, h3, h4, h5⟩ := h c
  have e : StableHlo.launchContents m' c (Proc.devRef .tc Cert.ReferenceIdeal.main_arg0) = Cert.Proof.KernelIdeal.wts m c := hm c
  refine ⟨h0.trans ?_, h1.trans ?_, h2.trans ?_, h3.trans ?_, h4.trans ?_, h5⟩
  · rw [← e]; exact Cert.ReferenceIdeal.Read.val_main_v84_eq _
  · rw [← e]; exact Cert.ReferenceIdeal.Read.val_main_v10_eq _
  · rw [← e]; exact Cert.ReferenceIdeal.Read.val_main_v103_eq _
  · rw [← e]; exact Cert.ReferenceIdeal.Read.val_main_v104_eq _
  · rw [← e]; exact Cert.ReferenceIdeal.Read.val_main_v105_eq _

end Cert.Proof

end

end
-- ==== Proof.lean ====
module

public import proofs.«01_k».proof.Proof.RefRead
public import proofs.«01_k».proof.Defs
public import proofs.«01_k».proof.Proof.Frames
public import proofs.«01_k».proof.Proof.Algebraic

@[expose] public section

namespace Cert.Proof

/-- Everything the certificate claims. -/
theorem claim : Cert.Claim := ⟨Cert.Kernel.Gen.facts, Cert.KernelIdeal.Gen.facts, Cert.ReferenceIdeal.Gen.facts,
  frame_p, frame_pi, frame_ri, preserves, algebraic⟩

end Cert.Proof

end
